-- ==== Defs.lean ====
def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_KernelMidIdeal_finite [hPre_finite : Cert.Pre_finite.Facts] (m : (ℓ : Loc Cert.KernelMidIdeal.nD Cert.KernelMidIdeal.τ Cert.KernelMidIdeal.sig) → Buf (Elt Ideal) ℓ) : Prop :=
  ∀ c : Dev Cert.KernelMidIdeal.nD,
    (Cert.Pre_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2))).1 = (fun _ => 1#1)
    ∧ (Cert.Pre_finite.fn (F := Ideal) (m ((c.tc : Thread Cert.KernelMidIdeal.nD Cert.KernelMidIdeal.τ).loc Cert.KernelMidIdeal.main_arg0)) (m ((c.tc : Thread Cert.KernelMidIdeal.nD Cert.KernelMidIdeal.τ).loc Cert.KernelMidIdeal.main_arg1)) (m ((c.tc : Thread Cert.KernelMidIdeal.nD Cert.KernelMidIdeal.τ).loc Cert.KernelMidIdeal.main_arg2))).2 = (fun _ => 1#1)

def Pre_ReferenceMidIdeal (m : (ℓ : Loc Cert.ReferenceMidIdeal.nD Cert.ReferenceMidIdeal.τ Cert.ReferenceMidIdeal.sig) → Buf (Elt Ideal) ℓ) : Prop :=
  True

def Pre_ReferenceMidIdeal_finite [hPre_finite : Cert.Pre_finite.Facts] (m : (ℓ : Loc Cert.ReferenceMidIdeal.nD Cert.ReferenceMidIdeal.τ Cert.ReferenceMidIdeal.sig) → Buf (Elt Ideal) ℓ) : Prop :=
  ∀ c : Dev Cert.ReferenceMidIdeal.nD,
    (Cert.Pre_finite.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2))).1 = (fun _ => 1#1)
    ∧ (Cert.Pre_finite.fn (F := Ideal) (m ((c.tc : Thread Cert.ReferenceMidIdeal.nD Cert.ReferenceMidIdeal.τ).loc Cert.ReferenceMidIdeal.main_arg0)) (m ((c.tc : Thread Cert.ReferenceMidIdeal.nD Cert.ReferenceMidIdeal.τ).loc Cert.ReferenceMidIdeal.main_arg1)) (m ((c.tc : Thread Cert.ReferenceMidIdeal.nD Cert.ReferenceMidIdeal.τ).loc Cert.ReferenceMidIdeal.main_arg2))).2 = (fun _ => 1#1)

def Pre_KernelNear (m : (ℓ : Loc Cert.KernelNear.nD Cert.KernelNear.τ Cert.KernelNear.sig) → Buf (Elt Bits) ℓ) : Prop :=
  True

def Pre_KernelNearIdeal (m : (ℓ : Loc Cert.KernelNearIdeal.nD Cert.KernelNearIdeal.τ Cert.KernelNearIdeal.sig) → Buf (Elt Ideal) ℓ) : Prop :=
  True

def Pre_KernelNearIdeal_finite [hPre_finite : Cert.Pre_finite.Facts] (m : (ℓ : Loc Cert.KernelNearIdeal.nD Cert.KernelNearIdeal.τ Cert.KernelNearIdeal.sig) → Buf (Elt Ideal) ℓ) : Prop :=
  ∀ c : Dev Cert.KernelNearIdeal.nD,
    (Cert.Pre_finite.fn (F := Ideal) (m ((c.tc : Thread Cert.KernelNearIdeal.nD Cert.KernelNearIdeal.τ).loc Cert.KernelNearIdeal.main_arg0)) (m ((c.tc : Thread Cert.KernelNearIdeal.nD Cert.KernelNearIdeal.τ).loc Cert.KernelNearIdeal.main_arg1)) (m ((c.tc : Thread Cert.KernelNearIdeal.nD Cert.KernelNearIdeal.τ).loc Cert.KernelNearIdeal.main_arg2))).1 = (fun _ => 1#1)
    ∧ (Cert.Pre_finite.fn (F := Ideal) (m ((c.tc : Thread Cert.KernelNearIdeal.nD Cert.KernelNearIdeal.τ).loc Cert.KernelNearIdeal.main_arg0)) (m ((c.tc : Thread Cert.KernelNearIdeal.nD Cert.KernelNearIdeal.τ).loc Cert.KernelNearIdeal.main_arg1)) (m ((c.tc : Thread Cert.KernelNearIdeal.nD Cert.KernelNearIdeal.τ).loc Cert.KernelNearIdeal.main_arg2))).2 = (fun _ => 1#1)

def Pre_ReferenceNearIdeal (m : (ℓ : Loc Cert.ReferenceNearIdeal.nD Cert.ReferenceNearIdeal.τ Cert.ReferenceNearIdeal.sig) → Buf (Elt Ideal) ℓ) : Prop :=
  True

def Pre_ReferenceNearIdeal_finite [hPre_finite : Cert.Pre_finite.Facts] (m : (ℓ : Loc Cert.ReferenceNearIdeal.nD Cert.ReferenceNearIdeal.τ Cert.ReferenceNearIdeal.sig) → Buf (Elt Ideal) ℓ) : Prop :=
  ∀ c : Dev Cert.ReferenceNearIdeal.nD,
    (Cert.Pre_finite.fn (F := Ideal) (m ((c.tc : Thread Cert.ReferenceNearIdeal.nD Cert.ReferenceNearIdeal.τ).loc Cert.ReferenceNearIdeal.main_arg0)) (m ((c.tc : Thread Cert.ReferenceNearIdeal.nD Cert.ReferenceNearIdeal.τ).loc Cert.ReferenceNearIdeal.main_arg1)) (m ((c.tc : Thread Cert.ReferenceNearIdeal.nD Cert.ReferenceNearIdeal.τ).loc Cert.ReferenceNearIdeal.main_arg2))).1 = (fun _ => 1#1)
    ∧ (Cert.Pre_finite.fn (F := Ideal) (m ((c.tc : Thread Cert.ReferenceNearIdeal.nD Cert.ReferenceNearIdeal.τ).loc Cert.ReferenceNearIdeal.main_arg0)) (m ((c.tc : Thread Cert.ReferenceNearIdeal.nD Cert.ReferenceNearIdeal.τ).loc Cert.ReferenceNearIdeal.main_arg1)) (m ((c.tc : Thread Cert.ReferenceNearIdeal.nD Cert.ReferenceNearIdeal.τ).loc Cert.ReferenceNearIdeal.main_arg2))).2 = (fun _ => 1#1)

def Pre_KernelFar (m : (ℓ : Loc Cert.KernelFar.nD Cert.KernelFar.τ Cert.KernelFar.sig) → Buf (Elt Bits) ℓ) : Prop :=
  True

def Pre_KernelFarIdeal (m : (ℓ : Loc Cert.KernelFarIdeal.nD Cert.KernelFarIdeal.τ Cert.KernelFarIdeal.sig) → Buf (Elt Ideal) ℓ) : Prop :=
  True

def Pre_KernelFarIdeal_finite [hPre_finite : Cert.Pre_finite.Facts] (m : (ℓ : Loc Cert.KernelFarIdeal.nD Cert.KernelFarIdeal.τ Cert.KernelFarIdeal.sig) → Buf (Elt Ideal) ℓ) : Prop :=
  ∀ c : Dev Cert.KernelFarIdeal.nD,
    (Cert.Pre_finite.fn (F := Ideal) (m ((c.tc : Thread Cert.KernelFarIdeal.nD Cert.KernelFarIdeal.τ).loc Cert.KernelFarIdeal.main_arg0)) (m ((c.tc : Thread Cert.KernelFarIdeal.nD Cert.KernelFarIdeal.τ).loc Cert.KernelFarIdeal.main_arg1)) (m ((c.tc : Thread Cert.KernelFarIdeal.nD Cert.KernelFarIdeal.τ).loc Cert.KernelFarIdeal.main_arg2))).1 = (fun _ => 1#1)
    ∧ (Cert.Pre_finite.fn (F := Ideal) (m ((c.tc : Thread Cert.KernelFarIdeal.nD Cert.KernelFarIdeal.τ).loc Cert.KernelFarIdeal.main_arg0)) (m ((c.tc : Thread Cert.KernelFarIdeal.nD Cert.KernelFarIdeal.τ).loc Cert.KernelFarIdeal.main_arg1)) (m ((c.tc : Thread Cert.KernelFarIdeal.nD Cert.KernelFarIdeal.τ).loc Cert.KernelFarIdeal.main_arg2))).2 = (fun _ => 1#1)

def Pre_ReferenceFarIdeal (m : (ℓ : Loc Cert.ReferenceFarIdeal.nD Cert.ReferenceFarIdeal.τ Cert.ReferenceFarIdeal.sig) → Buf (Elt Ideal) ℓ) : Prop :=
  True

def Pre_ReferenceFarIdeal_finite [hPre_finite : Cert.Pre_finite.Facts] (m : (ℓ : Loc Cert.ReferenceFarIdeal.nD Cert.ReferenceFarIdeal.τ Cert.ReferenceFarIdeal.sig) → Buf (Elt Ideal) ℓ) : Prop :=
  ∀ c : Dev Cert.ReferenceFarIdeal.nD,
    (Cert.Pre_finite.fn (F := Ideal) (m ((c.tc : Thread Cert.ReferenceFarIdeal.nD Cert.ReferenceFarIdeal.τ).loc Cert.ReferenceFarIdeal.main_arg0)) (m ((c.tc : Thread Cert.ReferenceFarIdeal.nD Cert.ReferenceFarIdeal.τ).loc Cert.ReferenceFarIdeal.main_arg1)) (m ((c.tc : Thread Cert.ReferenceFarIdeal.nD Cert.ReferenceFarIdeal.τ).loc Cert.ReferenceFarIdeal.main_arg2))).1 = (fun _ => 1#1)
    ∧ (Cert.Pre_finite.fn (F := Ideal) (m ((c.tc : Thread Cert.ReferenceFarIdeal.nD Cert.ReferenceFarIdeal.τ).loc Cert.ReferenceFarIdeal.main_arg0)) (m ((c.tc : Thread Cert.ReferenceFarIdeal.nD Cert.ReferenceFarIdeal.τ).loc Cert.ReferenceFarIdeal.main_arg1)) (m ((c.tc : Thread Cert.ReferenceFarIdeal.nD Cert.ReferenceFarIdeal.τ).loc Cert.ReferenceFarIdeal.main_arg2))).2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_ReferenceSguIdeal (m : (ℓ : Loc Cert.ReferenceSguIdeal.nD Cert.ReferenceSguIdeal.τ Cert.ReferenceSguIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_KernelMergeIdeal_finite_logs [hPre_finite_logs : Cert.Pre_finite_logs.Facts] (m : (ℓ : Loc Cert.KernelMergeIdeal.nD Cert.KernelMergeIdeal.τ Cert.KernelMergeIdeal.sig) → Buf (Elt Ideal) ℓ) : Prop :=
  ∀ c : Dev Cert.KernelMergeIdeal.nD,
    (Cert.Pre_finite_logs.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).1 = (fun _ => 1#1)
    ∧ (Cert.Pre_finite_logs.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.1 = (fun _ => 1#1)
    ∧ (Cert.Pre_finite_logs.fn (F := Ideal) (m ((c.tc : Thread Cert.KernelMergeIdeal.nD Cert.KernelMergeIdeal.τ).loc Cert.KernelMergeIdeal.main_arg0)) (m ((c.tc : Thread Cert.KernelMergeIdeal.nD Cert.KernelMergeIdeal.τ).loc Cert.KernelMergeIdeal.main_arg1)) (m ((c.tc : Thread Cert.KernelMergeIdeal.nD Cert.KernelMergeIdeal.τ).loc Cert.KernelMergeIdeal.main_arg2)) (m ((c.tc : Thread Cert.KernelMergeIdeal.nD Cert.KernelMergeIdeal.τ).loc Cert.KernelMergeIdeal.main_arg3)) (m ((c.tc : Thread Cert.KernelMergeIdeal.nD Cert.KernelMergeIdeal.τ).loc Cert.KernelMergeIdeal.main_arg4)) (m ((c.tc : Thread Cert.KernelMergeIdeal.nD Cert.KernelMergeIdeal.τ).loc Cert.KernelMergeIdeal.main_arg5)) (m ((c.tc : Thread Cert.KernelMergeIdeal.nD Cert.KernelMergeIdeal.τ).loc Cert.KernelMergeIdeal.main_arg6)) (m ((c.tc : Thread Cert.KernelMergeIdeal.nD Cert.KernelMergeIdeal.τ).loc Cert.KernelMergeIdeal.main_arg7)) (m ((c.tc : Thread Cert.KernelMergeIdeal.nD Cert.KernelMergeIdeal.τ).loc Cert.KernelMergeIdeal.main_arg8)) (m ((c.tc : Thread Cert.KernelMergeIdeal.nD Cert.KernelMergeIdeal.τ).loc Cert.KernelMergeIdeal.main_arg9)) (m ((c.tc : Thread Cert.KernelMergeIdeal.nD Cert.KernelMergeIdeal.τ).loc Cert.KernelMergeIdeal.main_arg10)) (m ((c.tc : Thread Cert.KernelMergeIdeal.nD Cert.KernelMergeIdeal.τ).loc Cert.KernelMergeIdeal.main_arg11))).2.2 = (fun _ => 1#1)

def Pre_ReferenceMergeIdeal (m : (ℓ : Loc Cert.ReferenceMergeIdeal.nD Cert.ReferenceMergeIdeal.τ Cert.ReferenceMergeIdeal.sig) → Buf (Elt Ideal) ℓ) : Prop :=
  True

def Pre_ReferenceMergeIdeal_finite_logs [hPre_finite_logs : Cert.Pre_finite_logs.Facts] (m : (ℓ : Loc Cert.ReferenceMergeIdeal.nD Cert.ReferenceMergeIdeal.τ Cert.ReferenceMergeIdeal.sig) → Buf (Elt Ideal) ℓ) : Prop :=
  ∀ c : Dev Cert.ReferenceMergeIdeal.nD,
    (Cert.Pre_finite_logs.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).1 = (fun _ => 1#1)
    ∧ (Cert.Pre_finite_logs.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.1 = (fun _ => 1#1)
    ∧ (Cert.Pre_finite_logs.fn (F := Ideal) (m ((c.tc : Thread Cert.ReferenceMergeIdeal.nD Cert.ReferenceMergeIdeal.τ).loc Cert.ReferenceMergeIdeal.main_arg0)) (m ((c.tc : Thread Cert.ReferenceMergeIdeal.nD Cert.ReferenceMergeIdeal.τ).loc Cert.ReferenceMergeIdeal.main_arg1)) (m ((c.tc : Thread Cert.ReferenceMergeIdeal.nD Cert.ReferenceMergeIdeal.τ).loc Cert.ReferenceMergeIdeal.main_arg2)) (m ((c.tc : Thread Cert.ReferenceMergeIdeal.nD Cert.ReferenceMergeIdeal.τ).loc Cert.ReferenceMergeIdeal.main_arg3)) (m ((c.tc : Thread Cert.ReferenceMergeIdeal.nD Cert.ReferenceMergeIdeal.τ).loc Cert.ReferenceMergeIdeal.main_arg4)) (m ((c.tc : Thread Cert.ReferenceMergeIdeal.nD Cert.ReferenceMergeIdeal.τ).loc Cert.ReferenceMergeIdeal.main_arg5)) (m ((c.tc : Thread Cert.ReferenceMergeIdeal.nD Cert.ReferenceMergeIdeal.τ).loc Cert.ReferenceMergeIdeal.main_arg6)) (m ((c.tc : Thread Cert.ReferenceMergeIdeal.nD Cert.ReferenceMergeIdeal.τ).loc Cert.ReferenceMergeIdeal.main_arg7)) (m ((c.tc : Thread Cert.ReferenceMergeIdeal.nD Cert.ReferenceMergeIdeal.τ).loc Cert.ReferenceMergeIdeal.main_arg8)) (m ((c.tc : Thread Cert.ReferenceMergeIdeal.nD Cert.ReferenceMergeIdeal.τ).loc Cert.ReferenceMergeIdeal.main_arg9)) (m ((c.tc : Thread Cert.ReferenceMergeIdeal.nD Cert.ReferenceMergeIdeal.τ).loc Cert.ReferenceMergeIdeal.main_arg10)) (m ((c.tc : Thread Cert.ReferenceMergeIdeal.nD Cert.ReferenceMergeIdeal.τ).loc Cert.ReferenceMergeIdeal.main_arg11))).2.2 = (fun _ => 1#1)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2))
      ∧ r.2.sem = fun _ => 0)

def quiescent_KernelMidIdeal_pre_finite [hKernelMidIdeal : Cert.KernelMidIdeal.Facts] [hPre_finite : Cert.Pre_finite.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal_finite m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2))
      ∧ r.2.sem = fun _ => 0)

def quiescent_ReferenceMidIdeal_pre_finite [hReferenceMidIdeal : Cert.ReferenceMidIdeal.Facts] [hPre_finite : Cert.Pre_finite.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal_finite m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2))
      ∧ r.2.sem = fun _ => 0)

def quiescent_KernelNear [hKernelNear : Cert.KernelNear.Facts] : Prop :=
  ∀ (m : (ℓ : Loc Cert.KernelNear.nD Cert.KernelNear.τ Cert.KernelNear.sig) → Buf (Elt Bits) ℓ) (g : Dev Cert.KernelNear.nD → PrngReg), Pre_KernelNear m →
    θ_run (Cert.KernelNear.defs (F := Bits)) (onTc (τ := Cert.KernelNear.τ) (Cert.KernelNear.main (F := Bits))) ⟨m, fun _ => 0, g⟩ (fun r => (∀ c : Dev Cert.KernelNear.nD,
      r.2.mem ((c.tc : Thread Cert.KernelNear.nD Cert.KernelNear.τ).loc Cert.KernelNear.main_arg0) = m ((c.tc : Thread Cert.KernelNear.nD Cert.KernelNear.τ).loc Cert.KernelNear.main_arg0)
      ∧ r.2.mem ((c.tc : Thread Cert.KernelNear.nD Cert.KernelNear.τ).loc Cert.KernelNear.main_arg1) = m ((c.tc : Thread Cert.KernelNear.nD Cert.KernelNear.τ).loc Cert.KernelNear.main_arg1)
      ∧ r.2.mem ((c.tc : Thread Cert.KernelNear.nD Cert.KernelNear.τ).loc Cert.KernelNear.main_arg2) = m ((c.tc : Thread Cert.KernelNear.nD Cert.KernelNear.τ).loc Cert.KernelNear.main_arg2))
      ∧ r.2.sem = fun _ => 0)

def quiescent_KernelNearIdeal [hKernelNearIdeal : Cert.KernelNearIdeal.Facts] : Prop :=
  ∀ (m : (ℓ : Loc Cert.KernelNearIdeal.nD Cert.KernelNearIdeal.τ Cert.KernelNearIdeal.sig) → Buf (Elt Ideal) ℓ) (g : Dev Cert.KernelNearIdeal.nD → PrngReg), Pre_KernelNearIdeal m →
    θ_run (Cert.KernelNearIdeal.defs (F := Ideal)) (onTc (τ := Cert.KernelNearIdeal.τ) (Cert.KernelNearIdeal.main (F := Ideal))) ⟨m, fun _ => 0, g⟩ (fun r => (∀ c : Dev Cert.KernelNearIdeal.nD,
      r.2.mem ((c.tc : Thread Cert.KernelNearIdeal.nD Cert.KernelNearIdeal.τ).loc Cert.KernelNearIdeal.main_arg0) = m ((c.tc : Thread Cert.KernelNearIdeal.nD Cert.KernelNearIdeal.τ).loc Cert.KernelNearIdeal.main_arg0)
      ∧ r.2.mem ((c.tc : Thread Cert.KernelNearIdeal.nD Cert.KernelNearIdeal.τ).loc Cert.KernelNearIdeal.main_arg1) = m ((c.tc : Thread Cert.KernelNearIdeal.nD Cert.KernelNearIdeal.τ).loc Cert.KernelNearIdeal.main_arg1)
      ∧ r.2.mem ((c.tc : Thread Cert.KernelNearIdeal.nD Cert.KernelNearIdeal.τ).loc Cert.KernelNearIdeal.main_arg2) = m ((c.tc : Thread Cert.KernelNearIdeal.nD Cert.KernelNearIdeal.τ).loc Cert.KernelNearIdeal.main_arg2))
      ∧ r.2.sem = fun _ => 0)

def quiescent_KernelNearIdeal_pre_finite [hKernelNearIdeal : Cert.KernelNearIdeal.Facts] [hPre_finite : Cert.Pre_finite.Facts] : Prop :=
  ∀ (m : (ℓ : Loc Cert.KernelNearIdeal.nD Cert.KernelNearIdeal.τ Cert.KernelNearIdeal.sig) → Buf (Elt Ideal) ℓ) (g : Dev Cert.KernelNearIdeal.nD → PrngReg), Pre_KernelNearIdeal_finite m →
    θ_run (Cert.KernelNearIdeal.defs (F := Ideal)) (onTc (τ := Cert.KernelNearIdeal.τ) (Cert.KernelNearIdeal.main (F := Ideal))) ⟨m, fun _ => 0, g⟩ (fun r => (∀ c : Dev Cert.KernelNearIdeal.nD,
      r.2.mem ((c.tc : Thread Cert.KernelNearIdeal.nD Cert.KernelNearIdeal.τ).loc Cert.KernelNearIdeal.main_arg0) = m ((c.tc : Thread Cert.KernelNearIdeal.nD Cert.KernelNearIdeal.τ).loc Cert.KernelNearIdeal.main_arg0)
      ∧ r.2.mem ((c.tc : Thread Cert.KernelNearIdeal.nD Cert.KernelNearIdeal.τ).loc Cert.KernelNearIdeal.main_arg1) = m ((c.tc : Thread Cert.KernelNearIdeal.nD Cert.KernelNearIdeal.τ).loc Cert.KernelNearIdeal.main_arg1)
      ∧ r.2.mem ((c.tc : Thread Cert.KernelNearIdeal.nD Cert.KernelNearIdeal.τ).loc Cert.KernelNearIdeal.main_arg2) = m ((c.tc : Thread Cert.KernelNearIdeal.nD Cert.KernelNearIdeal.τ).loc Cert.KernelNearIdeal.main_arg2))
      ∧ r.2.sem = fun _ => 0)

def quiescent_ReferenceNearIdeal [hReferenceNearIdeal : Cert.ReferenceNearIdeal.Facts] : Prop :=
  ∀ (m : (ℓ : Loc Cert.ReferenceNearIdeal.nD Cert.ReferenceNearIdeal.τ Cert.ReferenceNearIdeal.sig) → Buf (Elt Ideal) ℓ) (g : Dev Cert.ReferenceNearIdeal.nD → PrngReg), Pre_ReferenceNearIdeal m →
    θ_run (Cert.ReferenceNearIdeal.defs (F := Ideal)) (onTc (τ := Cert.ReferenceNearIdeal.τ) (Cert.ReferenceNearIdeal.main (F := Ideal))) ⟨m, fun _ => 0, g⟩ (fun r => (∀ c : Dev Cert.ReferenceNearIdeal.nD,
      r.2.mem ((c.tc : Thread Cert.ReferenceNearIdeal.nD Cert.ReferenceNearIdeal.τ).loc Cert.ReferenceNearIdeal.main_arg0) = m ((c.tc : Thread Cert.ReferenceNearIdeal.nD Cert.ReferenceNearIdeal.τ).loc Cert.ReferenceNearIdeal.main_arg0)
      ∧ r.2.mem ((c.tc : Thread Cert.ReferenceNearIdeal.nD Cert.ReferenceNearIdeal.τ).loc Cert.ReferenceNearIdeal.main_arg1) = m ((c.tc : Thread Cert.ReferenceNearIdeal.nD Cert.ReferenceNearIdeal.τ).loc Cert.ReferenceNearIdeal.main_arg1)
      ∧ r.2.mem ((c.tc : Thread Cert.ReferenceNearIdeal.nD Cert.ReferenceNearIdeal.τ).loc Cert.ReferenceNearIdeal.main_arg2) = m ((c.tc : Thread Cert.ReferenceNearIdeal.nD Cert.ReferenceNearIdeal.τ).loc Cert.ReferenceNearIdeal.main_arg2))
      ∧ r.2.sem = fun _ => 0)

def quiescent_ReferenceNearIdeal_pre_finite [hReferenceNearIdeal : Cert.ReferenceNearIdeal.Facts] [hPre_finite : Cert.Pre_finite.Facts] : Prop :=
  ∀ (m : (ℓ : Loc Cert.ReferenceNearIdeal.nD Cert.ReferenceNearIdeal.τ Cert.ReferenceNearIdeal.sig) → Buf (Elt Ideal) ℓ) (g : Dev Cert.ReferenceNearIdeal.nD → PrngReg), Pre_ReferenceNearIdeal_finite m →
    θ_run (Cert.ReferenceNearIdeal.defs (F := Ideal)) (onTc (τ := Cert.ReferenceNearIdeal.τ) (Cert.ReferenceNearIdeal.main (F := Ideal))) ⟨m, fun _ => 0, g⟩ (fun r => (∀ c : Dev Cert.ReferenceNearIdeal.nD,
      r.2.mem ((c.tc : Thread Cert.ReferenceNearIdeal.nD Cert.ReferenceNearIdeal.τ).loc Cert.ReferenceNearIdeal.main_arg0) = m ((c.tc : Thread Cert.ReferenceNearIdeal.nD Cert.ReferenceNearIdeal.τ).loc Cert.ReferenceNearIdeal.main_arg0)
      ∧ r.2.mem ((c.tc : Thread Cert.ReferenceNearIdeal.nD Cert.ReferenceNearIdeal.τ).loc Cert.ReferenceNearIdeal.main_arg1) = m ((c.tc : Thread Cert.ReferenceNearIdeal.nD Cert.ReferenceNearIdeal.τ).loc Cert.ReferenceNearIdeal.main_arg1)
      ∧ r.2.mem ((c.tc : Thread Cert.ReferenceNearIdeal.nD Cert.ReferenceNearIdeal.τ).loc Cert.ReferenceNearIdeal.main_arg2) = m ((c.tc : Thread Cert.ReferenceNearIdeal.nD Cert.ReferenceNearIdeal.τ).loc Cert.ReferenceNearIdeal.main_arg2))
      ∧ r.2.sem = fun _ => 0)

def quiescent_KernelFar [hKernelFar : Cert.KernelFar.Facts] : Prop :=
  ∀ (m : (ℓ : Loc Cert.KernelFar.nD Cert.KernelFar.τ Cert.KernelFar.sig) → Buf (Elt Bits) ℓ) (g : Dev Cert.KernelFar.nD → PrngReg), Pre_KernelFar m →
    θ_run (Cert.KernelFar.defs (F := Bits)) (onTc (τ := Cert.KernelFar.τ) (Cert.KernelFar.main (F := Bits))) ⟨m, fun _ => 0, g⟩ (fun r => (∀ c : Dev Cert.KernelFar.nD,
      r.2.mem ((c.tc : Thread Cert.KernelFar.nD Cert.KernelFar.τ).loc Cert.KernelFar.main_arg0) = m ((c.tc : Thread Cert.KernelFar.nD Cert.KernelFar.τ).loc Cert.KernelFar.main_arg0)
      ∧ r.2.mem ((c.tc : Thread Cert.KernelFar.nD Cert.KernelFar.τ).loc Cert.KernelFar.main_arg1) = m ((c.tc : Thread Cert.KernelFar.nD Cert.KernelFar.τ).loc Cert.KernelFar.main_arg1)
      ∧ r.2.mem ((c.tc : Thread Cert.KernelFar.nD Cert.KernelFar.τ).loc Cert.KernelFar.main_arg2) = m ((c.tc : Thread Cert.KernelFar.nD Cert.KernelFar.τ).loc Cert.KernelFar.main_arg2))
      ∧ r.2.sem = fun _ => 0)

def quiescent_KernelFarIdeal [hKernelFarIdeal : Cert.KernelFarIdeal.Facts] : Prop :=
  ∀ (m : (ℓ : Loc Cert.KernelFarIdeal.nD Cert.KernelFarIdeal.τ Cert.KernelFarIdeal.sig) → Buf (Elt Ideal) ℓ) (g : Dev Cert.KernelFarIdeal.nD → PrngReg), Pre_KernelFarIdeal m →
    θ_run (Cert.KernelFarIdeal.defs (F := Ideal)) (onTc (τ := Cert.KernelFarIdeal.τ) (Cert.KernelFarIdeal.main (F := Ideal))) ⟨m, fun _ => 0, g⟩ (fun r => (∀ c : Dev Cert.KernelFarIdeal.nD,
      r.2.mem ((c.tc : Thread Cert.KernelFarIdeal.nD Cert.KernelFarIdeal.τ).loc Cert.KernelFarIdeal.main_arg0) = m ((c.tc : Thread Cert.KernelFarIdeal.nD Cert.KernelFarIdeal.τ).loc Cert.KernelFarIdeal.main_arg0)
      ∧ r.2.mem ((c.tc : Thread Cert.KernelFarIdeal.nD Cert.KernelFarIdeal.τ).loc Cert.KernelFarIdeal.main_arg1) = m ((c.tc : Thread Cert.KernelFarIdeal.nD Cert.KernelFarIdeal.τ).loc Cert.KernelFarIdeal.main_arg1)
      ∧ r.2.mem ((c.tc : Thread Cert.KernelFarIdeal.nD Cert.KernelFarIdeal.τ).loc Cert.KernelFarIdeal.main_arg2) = m ((c.tc : Thread Cert.KernelFarIdeal.nD Cert.KernelFarIdeal.τ).loc Cert.KernelFarIdeal.main_arg2))
      ∧ r.2.sem = fun _ => 0)

def quiescent_KernelFarIdeal_pre_finite [hKernelFarIdeal : Cert.KernelFarIdeal.Facts] [hPre_finite : Cert.Pre_finite.Facts] : Prop :=
  ∀ (m : (ℓ : Loc Cert.KernelFarIdeal.nD Cert.KernelFarIdeal.τ Cert.KernelFarIdeal.sig) → Buf (Elt Ideal) ℓ) (g : Dev Cert.KernelFarIdeal.nD → PrngReg), Pre_KernelFarIdeal_finite m →
    θ_run (Cert.KernelFarIdeal.defs (F := Ideal)) (onTc (τ := Cert.KernelFarIdeal.τ) (Cert.KernelFarIdeal.main (F := Ideal))) ⟨m, fun _ => 0, g⟩ (fun r => (∀ c : Dev Cert.KernelFarIdeal.nD,
      r.2.mem ((c.tc : Thread Cert.KernelFarIdeal.nD Cert.KernelFarIdeal.τ).loc Cert.KernelFarIdeal.main_arg0) = m ((c.tc : Thread Cert.KernelFarIdeal.nD Cert.KernelFarIdeal.τ).loc Cert.KernelFarIdeal.main_arg0)
      ∧ r.2.mem ((c.tc : Thread Cert.KernelFarIdeal.nD Cert.KernelFarIdeal.τ).loc Cert.KernelFarIdeal.main_arg1) = m ((c.tc : Thread Cert.KernelFarIdeal.nD Cert.KernelFarIdeal.τ).loc Cert.KernelFarIdeal.main_arg1)
      ∧ r.2.mem ((c.tc : Thread Cert.KernelFarIdeal.nD Cert.KernelFarIdeal.τ).loc Cert.KernelFarIdeal.main_arg2) = m ((c.tc : Thread Cert.KernelFarIdeal.nD Cert.KernelFarIdeal.τ).loc Cert.KernelFarIdeal.main_arg2))
      ∧ r.2.sem = fun _ => 0)

def quiescent_ReferenceFarIdeal [hReferenceFarIdeal : Cert.ReferenceFarIdeal.Facts] : Prop :=
  ∀ (m : (ℓ : Loc Cert.ReferenceFarIdeal.nD Cert.ReferenceFarIdeal.τ Cert.ReferenceFarIdeal.sig) → Buf (Elt Ideal) ℓ) (g : Dev Cert.ReferenceFarIdeal.nD → PrngReg), Pre_ReferenceFarIdeal m →
    θ_run (Cert.ReferenceFarIdeal.defs (F := Ideal)) (onTc (τ := Cert.ReferenceFarIdeal.τ) (Cert.ReferenceFarIdeal.main (F := Ideal))) ⟨m, fun _ => 0, g⟩ (fun r => (∀ c : Dev Cert.ReferenceFarIdeal.nD,
      r.2.mem ((c.tc : Thread Cert.ReferenceFarIdeal.nD Cert.ReferenceFarIdeal.τ).loc Cert.ReferenceFarIdeal.main_arg0) = m ((c.tc : Thread Cert.ReferenceFarIdeal.nD Cert.ReferenceFarIdeal.τ).loc Cert.ReferenceFarIdeal.main_arg0)
      ∧ r.2.mem ((c.tc : Thread Cert.ReferenceFarIdeal.nD Cert.ReferenceFarIdeal.τ).loc Cert.ReferenceFarIdeal.main_arg1) = m ((c.tc : Thread Cert.ReferenceFarIdeal.nD Cert.ReferenceFarIdeal.τ).loc Cert.ReferenceFarIdeal.main_arg1)
      ∧ r.2.mem ((c.tc : Thread Cert.ReferenceFarIdeal.nD Cert.ReferenceFarIdeal.τ).loc Cert.ReferenceFarIdeal.main_arg2) = m ((c.tc : Thread Cert.ReferenceFarIdeal.nD Cert.ReferenceFarIdeal.τ).loc Cert.ReferenceFarIdeal.main_arg2))
      ∧ r.2.sem = fun _ => 0)

def quiescent_ReferenceFarIdeal_pre_finite [hReferenceFarIdeal : Cert.ReferenceFarIdeal.Facts] [hPre_finite : Cert.Pre_finite.Facts] : Prop :=
  ∀ (m : (ℓ : Loc Cert.ReferenceFarIdeal.nD Cert.ReferenceFarIdeal.τ Cert.ReferenceFarIdeal.sig) → Buf (Elt Ideal) ℓ) (g : Dev Cert.ReferenceFarIdeal.nD → PrngReg), Pre_ReferenceFarIdeal_finite m →
    θ_run (Cert.ReferenceFarIdeal.defs (F := Ideal)) (onTc (τ := Cert.ReferenceFarIdeal.τ) (Cert.ReferenceFarIdeal.main (F := Ideal))) ⟨m, fun _ => 0, g⟩ (fun r => (∀ c : Dev Cert.ReferenceFarIdeal.nD,
      r.2.mem ((c.tc : Thread Cert.ReferenceFarIdeal.nD Cert.ReferenceFarIdeal.τ).loc Cert.ReferenceFarIdeal.main_arg0) = m ((c.tc : Thread Cert.ReferenceFarIdeal.nD Cert.ReferenceFarIdeal.τ).loc Cert.ReferenceFarIdeal.main_arg0)
      ∧ r.2.mem ((c.tc : Thread Cert.ReferenceFarIdeal.nD Cert.ReferenceFarIdeal.τ).loc Cert.ReferenceFarIdeal.main_arg1) = m ((c.tc : Thread Cert.ReferenceFarIdeal.nD Cert.ReferenceFarIdeal.τ).loc Cert.ReferenceFarIdeal.main_arg1)
      ∧ r.2.mem ((c.tc : Thread Cert.ReferenceFarIdeal.nD Cert.ReferenceFarIdeal.τ).loc Cert.ReferenceFarIdeal.main_arg2) = m ((c.tc : Thread Cert.ReferenceFarIdeal.nD Cert.ReferenceFarIdeal.τ).loc Cert.ReferenceFarIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4)
      ∧ r.2.mem ((c.tc : Thread Cert.KernelSgu.nD Cert.KernelSgu.τ).loc Cert.KernelSgu.main_arg5) = m ((c.tc : Thread Cert.KernelSgu.nD Cert.KernelSgu.τ).loc Cert.KernelSgu.main_arg5)
      ∧ r.2.mem ((c.tc : Thread Cert.KernelSgu.nD Cert.KernelSgu.τ).loc Cert.KernelSgu.main_arg6) = m ((c.tc : Thread Cert.KernelSgu.nD Cert.KernelSgu.τ).loc Cert.KernelSgu.main_arg6))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
      ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
      ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4)
      ∧ r.2.mem ((c.tc : Thread Cert.ReferenceSguIdeal.nD Cert.ReferenceSguIdeal.τ).loc Cert.ReferenceSguIdeal.main_arg5) = m ((c.tc : Thread Cert.ReferenceSguIdeal.nD Cert.ReferenceSguIdeal.τ).loc Cert.ReferenceSguIdeal.main_arg5)
      ∧ r.2.mem ((c.tc : Thread Cert.ReferenceSguIdeal.nD Cert.ReferenceSguIdeal.τ).loc Cert.ReferenceSguIdeal.main_arg6) = m ((c.tc : Thread Cert.ReferenceSguIdeal.nD Cert.ReferenceSguIdeal.τ).loc Cert.ReferenceSguIdeal.main_arg6))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9)
      ∧ r.2.mem ((c.tc : Thread Cert.KernelMerge.nD Cert.KernelMerge.τ).loc Cert.KernelMerge.main_arg10) = m ((c.tc : Thread Cert.KernelMerge.nD Cert.KernelMerge.τ).loc Cert.KernelMerge.main_arg10)
      ∧ r.2.mem ((c.tc : Thread Cert.KernelMerge.nD Cert.KernelMerge.τ).loc Cert.KernelMerge.main_arg11) = m ((c.tc : Thread Cert.KernelMerge.nD Cert.KernelMerge.τ).loc Cert.KernelMerge.main_arg11))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_KernelMergeIdeal_pre_finite_logs [hKernelMergeIdeal : Cert.KernelMergeIdeal.Facts] [hPre_finite_logs : Cert.Pre_finite_logs.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal_finite_logs m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
      ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
      ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def quiescent_ReferenceMergeIdeal_pre_finite_logs [hReferenceMergeIdeal : Cert.ReferenceMergeIdeal.Facts] [hPre_finite_logs : Cert.Pre_finite_logs.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal_finite_logs m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9)
      ∧ r.2.mem ((c.tc : Thread Cert.ReferenceMergeIdeal.nD Cert.ReferenceMergeIdeal.τ).loc Cert.ReferenceMergeIdeal.main_arg10) = m ((c.tc : Thread Cert.ReferenceMergeIdeal.nD Cert.ReferenceMergeIdeal.τ).loc Cert.ReferenceMergeIdeal.main_arg10)
      ∧ r.2.mem ((c.tc : Thread Cert.ReferenceMergeIdeal.nD Cert.ReferenceMergeIdeal.τ).loc Cert.ReferenceMergeIdeal.main_arg11) = m ((c.tc : Thread Cert.ReferenceMergeIdeal.nD Cert.ReferenceMergeIdeal.τ).loc Cert.ReferenceMergeIdeal.main_arg11))
      ∧ r.2.sem = fun _ => 0)

def preserves_KernelMid_KernelMidIdeal : Prop :=
  IdealRules.named_const.Statement Cert.KernelMidIdeal.κ "mask" .f32 0xF149F2CA#32 ⊥

def algebraic_KernelMidIdeal_ReferenceMidIdeal_pre_finite [hKernelMidIdeal : Cert.KernelMidIdeal.Facts] [hReferenceMidIdeal : Cert.ReferenceMidIdeal.Facts] [hPre_finite : Cert.Pre_finite.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal_finite m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)) →
    ∃ (v0 : (c : Dev Cert.KernelMidIdeal.nD) → Buf (Elt Ideal) ((c.tc : Thread Cert.KernelMidIdeal.nD Cert.KernelMidIdeal.τ).loc Cert.KernelMidIdeal.main_v9_0)) (v1 : (c : Dev Cert.KernelMidIdeal.nD) → Buf (Elt Ideal) ((c.tc : Thread Cert.KernelMidIdeal.nD Cert.KernelMidIdeal.τ).loc Cert.KernelMidIdeal.main_v9_1)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v9_0) = v0 c
          ∧ r.2.mem ((c.tc : Thread Cert.KernelMidIdeal.nD Cert.KernelMidIdeal.τ).loc Cert.KernelMidIdeal.main_v9_1) = v1 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v109) = v0 c
          ∧ r.2.mem ((c.tc : Thread Cert.ReferenceMidIdeal.nD Cert.ReferenceMidIdeal.τ).loc Cert.ReferenceMidIdeal.main_v110) = v1 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2))

def preserves_KernelNear_KernelNearIdeal : Prop :=
  IdealRules.named_const.Statement Cert.KernelNearIdeal.κ "mask" .f32 0xF149F2CA#32 ⊥

def algebraic_KernelNearIdeal_ReferenceNearIdeal_pre_finite [hKernelNearIdeal : Cert.KernelNearIdeal.Facts] [hReferenceNearIdeal : Cert.ReferenceNearIdeal.Facts] [hPre_finite : Cert.Pre_finite.Facts] : Prop :=
  ∀ (m : (ℓ : Loc Cert.KernelNearIdeal.nD Cert.KernelNearIdeal.τ Cert.KernelNearIdeal.sig) → Buf (Elt Ideal) ℓ) (g : Dev Cert.KernelNearIdeal.nD → PrngReg)
    (m' : (ℓ : Loc Cert.ReferenceNearIdeal.nD Cert.ReferenceNearIdeal.τ Cert.ReferenceNearIdeal.sig) → Buf (Elt Ideal) ℓ) (g' : Dev Cert.ReferenceNearIdeal.nD → PrngReg), Pre_KernelNearIdeal_finite m →
    (∀ c : Dev Cert.KernelNearIdeal.nD,
      m' ((c.tc : Thread Cert.ReferenceNearIdeal.nD Cert.ReferenceNearIdeal.τ).loc Cert.ReferenceNearIdeal.main_arg0) = m ((c.tc : Thread Cert.KernelNearIdeal.nD Cert.KernelNearIdeal.τ).loc Cert.KernelNearIdeal.main_arg0)
      ∧ m' ((c.tc : Thread Cert.ReferenceNearIdeal.nD Cert.ReferenceNearIdeal.τ).loc Cert.ReferenceNearIdeal.main_arg1) = m ((c.tc : Thread Cert.KernelNearIdeal.nD Cert.KernelNearIdeal.τ).loc Cert.KernelNearIdeal.main_arg1)
      ∧ m' ((c.tc : Thread Cert.ReferenceNearIdeal.nD Cert.ReferenceNearIdeal.τ).loc Cert.ReferenceNearIdeal.main_arg2) = m ((c.tc : Thread Cert.KernelNearIdeal.nD Cert.KernelNearIdeal.τ).loc Cert.KernelNearIdeal.main_arg2)) →
    ∃ (v0 : (c : Dev Cert.KernelNearIdeal.nD) → Buf (Elt Ideal) ((c.tc : Thread Cert.KernelNearIdeal.nD Cert.KernelNearIdeal.τ).loc Cert.KernelNearIdeal.main_v9_0)) (v1 : (c : Dev Cert.KernelNearIdeal.nD) → Buf (Elt Ideal) ((c.tc : Thread Cert.KernelNearIdeal.nD Cert.KernelNearIdeal.τ).loc Cert.KernelNearIdeal.main_v9_1)),
      θ_run (Cert.KernelNearIdeal.defs (F := Ideal)) (onTc (τ := Cert.KernelNearIdeal.τ) (Cert.KernelNearIdeal.main (F := Ideal))) ⟨m, fun _ => 0, g⟩ (fun r => ∀ c : Dev Cert.KernelNearIdeal.nD,
          r.2.mem ((c.tc : Thread Cert.KernelNearIdeal.nD Cert.KernelNearIdeal.τ).loc Cert.KernelNearIdeal.main_v9_0) = v0 c
          ∧ r.2.mem ((c.tc : Thread Cert.KernelNearIdeal.nD Cert.KernelNearIdeal.τ).loc Cert.KernelNearIdeal.main_v9_1) = v1 c
          ∧ r.2.mem ((c.tc : Thread Cert.KernelNearIdeal.nD Cert.KernelNearIdeal.τ).loc Cert.KernelNearIdeal.main_arg0) = m ((c.tc : Thread Cert.KernelNearIdeal.nD Cert.KernelNearIdeal.τ).loc Cert.KernelNearIdeal.main_arg0)
          ∧ r.2.mem ((c.tc : Thread Cert.KernelNearIdeal.nD Cert.KernelNearIdeal.τ).loc Cert.KernelNearIdeal.main_arg1) = m ((c.tc : Thread Cert.KernelNearIdeal.nD Cert.KernelNearIdeal.τ).loc Cert.KernelNearIdeal.main_arg1)
          ∧ r.2.mem ((c.tc : Thread Cert.KernelNearIdeal.nD Cert.KernelNearIdeal.τ).loc Cert.KernelNearIdeal.main_arg2) = m ((c.tc : Thread Cert.KernelNearIdeal.nD Cert.KernelNearIdeal.τ).loc Cert.KernelNearIdeal.main_arg2))
      ∧ θ_run (Cert.ReferenceNearIdeal.defs (F := Ideal)) (onTc (τ := Cert.ReferenceNearIdeal.τ) (Cert.ReferenceNearIdeal.main (F := Ideal))) ⟨m', fun _ => 0, g'⟩ (fun r => ∀ c : Dev Cert.ReferenceNearIdeal.nD,
          r.2.mem ((c.tc : Thread Cert.ReferenceNearIdeal.nD Cert.ReferenceNearIdeal.τ).loc Cert.ReferenceNearIdeal.main_v107) = v0 c
          ∧ r.2.mem ((c.tc : Thread Cert.ReferenceNearIdeal.nD Cert.ReferenceNearIdeal.τ).loc Cert.ReferenceNearIdeal.main_v108) = v1 c
          ∧ r.2.mem ((c.tc : Thread Cert.ReferenceNearIdeal.nD Cert.ReferenceNearIdeal.τ).loc Cert.ReferenceNearIdeal.main_arg0) = m' ((c.tc : Thread Cert.ReferenceNearIdeal.nD Cert.ReferenceNearIdeal.τ).loc Cert.ReferenceNearIdeal.main_arg0)
          ∧ r.2.mem ((c.tc : Thread Cert.ReferenceNearIdeal.nD Cert.ReferenceNearIdeal.τ).loc Cert.ReferenceNearIdeal.main_arg1) = m' ((c.tc : Thread Cert.ReferenceNearIdeal.nD Cert.ReferenceNearIdeal.τ).loc Cert.ReferenceNearIdeal.main_arg1)
          ∧ r.2.mem ((c.tc : Thread Cert.ReferenceNearIdeal.nD Cert.ReferenceNearIdeal.τ).loc Cert.ReferenceNearIdeal.main_arg2) = m' ((c.tc : Thread Cert.ReferenceNearIdeal.nD Cert.ReferenceNearIdeal.τ).loc Cert.ReferenceNearIdeal.main_arg2))

def preserves_KernelFar_KernelFarIdeal : Prop :=
  IdealRules.named_const.Statement Cert.KernelFarIdeal.κ "mask" .f32 0xF149F2CA#32 ⊥

def algebraic_KernelFarIdeal_ReferenceFarIdeal_pre_finite [hKernelFarIdeal : Cert.KernelFarIdeal.Facts] [hReferenceFarIdeal : Cert.ReferenceFarIdeal.Facts] [hPre_finite : Cert.Pre_finite.Facts] : Prop :=
  ∀ (m : (ℓ : Loc Cert.KernelFarIdeal.nD Cert.KernelFarIdeal.τ Cert.KernelFarIdeal.sig) → Buf (Elt Ideal) ℓ) (g : Dev Cert.KernelFarIdeal.nD → PrngReg)
    (m' : (ℓ : Loc Cert.ReferenceFarIdeal.nD Cert.ReferenceFarIdeal.τ Cert.ReferenceFarIdeal.sig) → Buf (Elt Ideal) ℓ) (g' : Dev Cert.ReferenceFarIdeal.nD → PrngReg), Pre_KernelFarIdeal_finite m →
    (∀ c : Dev Cert.KernelFarIdeal.nD,
      m' ((c.tc : Thread Cert.ReferenceFarIdeal.nD Cert.ReferenceFarIdeal.τ).loc Cert.ReferenceFarIdeal.main_arg0) = m ((c.tc : Thread Cert.KernelFarIdeal.nD Cert.KernelFarIdeal.τ).loc Cert.KernelFarIdeal.main_arg0)
      ∧ m' ((c.tc : Thread Cert.ReferenceFarIdeal.nD Cert.ReferenceFarIdeal.τ).loc Cert.ReferenceFarIdeal.main_arg1) = m ((c.tc : Thread Cert.KernelFarIdeal.nD Cert.KernelFarIdeal.τ).loc Cert.KernelFarIdeal.main_arg1)
      ∧ m' ((c.tc : Thread Cert.ReferenceFarIdeal.nD Cert.ReferenceFarIdeal.τ).loc Cert.ReferenceFarIdeal.main_arg2) = m ((c.tc : Thread Cert.KernelFarIdeal.nD Cert.KernelFarIdeal.τ).loc Cert.KernelFarIdeal.main_arg2)) →
    ∃ (v0 : (c : Dev Cert.KernelFarIdeal.nD) → Buf (Elt Ideal) ((c.tc : Thread Cert.KernelFarIdeal.nD Cert.KernelFarIdeal.τ).loc Cert.KernelFarIdeal.main_v9_0)) (v1 : (c : Dev Cert.KernelFarIdeal.nD) → Buf (Elt Ideal) ((c.tc : Thread Cert.KernelFarIdeal.nD Cert.KernelFarIdeal.τ).loc Cert.KernelFarIdeal.main_v9_1)),
      θ_run (Cert.KernelFarIdeal.defs (F := Ideal)) (onTc (τ := Cert.KernelFarIdeal.τ) (Cert.KernelFarIdeal.main (F := Ideal))) ⟨m, fun _ => 0, g⟩ (fun r => ∀ c : Dev Cert.KernelFarIdeal.nD,
          r.2.mem ((c.tc : Thread Cert.KernelFarIdeal.nD Cert.KernelFarIdeal.τ).loc Cert.KernelFarIdeal.main_v9_0) = v0 c
          ∧ r.2.mem ((c.tc : Thread Cert.KernelFarIdeal.nD Cert.KernelFarIdeal.τ).loc Cert.KernelFarIdeal.main_v9_1) = v1 c
          ∧ r.2.mem ((c.tc : Thread Cert.KernelFarIdeal.nD Cert.KernelFarIdeal.τ).loc Cert.KernelFarIdeal.main_arg0) = m ((c.tc : Thread Cert.KernelFarIdeal.nD Cert.KernelFarIdeal.τ).loc Cert.KernelFarIdeal.main_arg0)
          ∧ r.2.mem ((c.tc : Thread Cert.KernelFarIdeal.nD Cert.KernelFarIdeal.τ).loc Cert.KernelFarIdeal.main_arg1) = m ((c.tc : Thread Cert.KernelFarIdeal.nD Cert.KernelFarIdeal.τ).loc Cert.KernelFarIdeal.main_arg1)
          ∧ r.2.mem ((c.tc : Thread Cert.KernelFarIdeal.nD Cert.KernelFarIdeal.τ).loc Cert.KernelFarIdeal.main_arg2) = m ((c.tc : Thread Cert.KernelFarIdeal.nD Cert.KernelFarIdeal.τ).loc Cert.KernelFarIdeal.main_arg2))
      ∧ θ_run (Cert.ReferenceFarIdeal.defs (F := Ideal)) (onTc (τ := Cert.ReferenceFarIdeal.τ) (Cert.ReferenceFarIdeal.main (F := Ideal))) ⟨m', fun _ => 0, g'⟩ (fun r => ∀ c : Dev Cert.ReferenceFarIdeal.nD,
          r.2.mem ((c.tc : Thread Cert.ReferenceFarIdeal.nD Cert.ReferenceFarIdeal.τ).loc Cert.ReferenceFarIdeal.main_v109) = v0 c
          ∧ r.2.mem ((c.tc : Thread Cert.ReferenceFarIdeal.nD Cert.ReferenceFarIdeal.τ).loc Cert.ReferenceFarIdeal.main_v110) = v1 c
          ∧ r.2.mem ((c.tc : Thread Cert.ReferenceFarIdeal.nD Cert.ReferenceFarIdeal.τ).loc Cert.ReferenceFarIdeal.main_arg0) = m' ((c.tc : Thread Cert.ReferenceFarIdeal.nD Cert.ReferenceFarIdeal.τ).loc Cert.ReferenceFarIdeal.main_arg0)
          ∧ r.2.mem ((c.tc : Thread Cert.ReferenceFarIdeal.nD Cert.ReferenceFarIdeal.τ).loc Cert.ReferenceFarIdeal.main_arg1) = m' ((c.tc : Thread Cert.ReferenceFarIdeal.nD Cert.ReferenceFarIdeal.τ).loc Cert.ReferenceFarIdeal.main_arg1)
          ∧ r.2.mem ((c.tc : Thread Cert.ReferenceFarIdeal.nD Cert.ReferenceFarIdeal.τ).loc Cert.ReferenceFarIdeal.main_arg2) = m' ((c.tc : Thread Cert.ReferenceFarIdeal.nD Cert.ReferenceFarIdeal.τ).loc Cert.ReferenceFarIdeal.main_arg2))

def preserves_KernelIn_KernelInIdeal : Prop :=
  IdealRules.named_const.Statement Cert.KernelInIdeal.κ "half_root" .f32 0x3F3504F3#32 (((Real.sqrt 2)⁻¹ : ℝ) : EReal)

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v3_0)) (v1 : (c : Dev Cert.KernelInIdeal.nD) → Buf (Elt Ideal) ((c.tc : Thread Cert.KernelInIdeal.nD Cert.KernelInIdeal.τ).loc Cert.KernelInIdeal.main_v3_1)) (v2 : (c : Dev Cert.KernelInIdeal.nD) → Buf (Elt Ideal) ((c.tc : Thread Cert.KernelInIdeal.nD Cert.KernelInIdeal.τ).loc Cert.KernelInIdeal.main_v3_2)) (v3 : (c : Dev Cert.KernelInIdeal.nD) → Buf (Elt Ideal) ((c.tc : Thread Cert.KernelInIdeal.nD Cert.KernelInIdeal.τ).loc Cert.KernelInIdeal.main_v3_3)) (v4 : (c : Dev Cert.KernelInIdeal.nD) → Buf (Elt Ideal) ((c.tc : Thread Cert.KernelInIdeal.nD Cert.KernelInIdeal.τ).loc Cert.KernelInIdeal.main_v3_4)) (v5 : (c : Dev Cert.KernelInIdeal.nD) → Buf (Elt Ideal) ((c.tc : Thread Cert.KernelInIdeal.nD Cert.KernelInIdeal.τ).loc Cert.KernelInIdeal.main_v3_5)) (v6 : (c : Dev Cert.KernelInIdeal.nD) → Buf (Elt Ideal) ((c.tc : Thread Cert.KernelInIdeal.nD Cert.KernelInIdeal.τ).loc Cert.KernelInIdeal.main_v3_6)) (v7 : (c : Dev Cert.KernelInIdeal.nD) → Buf (Elt Ideal) ((c.tc : Thread Cert.KernelInIdeal.nD Cert.KernelInIdeal.τ).loc Cert.KernelInIdeal.main_v3_7)) (v8 : (c : Dev Cert.KernelInIdeal.nD) → Buf (Elt Ideal) ((c.tc : Thread Cert.KernelInIdeal.nD Cert.KernelInIdeal.τ).loc Cert.KernelInIdeal.main_v3_8)) (v9 : (c : Dev Cert.KernelInIdeal.nD) → Buf (Elt Ideal) ((c.tc : Thread Cert.KernelInIdeal.nD Cert.KernelInIdeal.τ).loc Cert.KernelInIdeal.main_v3_9)) (v10 : (c : Dev Cert.KernelInIdeal.nD) → Buf (Elt Ideal) ((c.tc : Thread Cert.KernelInIdeal.nD Cert.KernelInIdeal.τ).loc Cert.KernelInIdeal.main_v3_10)) (v11 : (c : Dev Cert.KernelInIdeal.nD) → Buf (Elt Ideal) ((c.tc : Thread Cert.KernelInIdeal.nD Cert.KernelInIdeal.τ).loc Cert.KernelInIdeal.main_v3_11)) (v12 : (c : Dev Cert.KernelInIdeal.nD) → Buf (Elt Ideal) ((c.tc : Thread Cert.KernelInIdeal.nD Cert.KernelInIdeal.τ).loc Cert.KernelInIdeal.main_v3_12)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v3_0) = v0 c
          ∧ r.2.mem ((c.tc : Thread Cert.KernelInIdeal.nD Cert.KernelInIdeal.τ).loc Cert.KernelInIdeal.main_v3_1) = v1 c
          ∧ r.2.mem ((c.tc : Thread Cert.KernelInIdeal.nD Cert.KernelInIdeal.τ).loc Cert.KernelInIdeal.main_v3_2) = v2 c
          ∧ r.2.mem ((c.tc : Thread Cert.KernelInIdeal.nD Cert.KernelInIdeal.τ).loc Cert.KernelInIdeal.main_v3_3) = v3 c
          ∧ r.2.mem ((c.tc : Thread Cert.KernelInIdeal.nD Cert.KernelInIdeal.τ).loc Cert.KernelInIdeal.main_v3_4) = v4 c
          ∧ r.2.mem ((c.tc : Thread Cert.KernelInIdeal.nD Cert.KernelInIdeal.τ).loc Cert.KernelInIdeal.main_v3_5) = v5 c
          ∧ r.2.mem ((c.tc : Thread Cert.KernelInIdeal.nD Cert.KernelInIdeal.τ).loc Cert.KernelInIdeal.main_v3_6) = v6 c
          ∧ r.2.mem ((c.tc : Thread Cert.KernelInIdeal.nD Cert.KernelInIdeal.τ).loc Cert.KernelInIdeal.main_v3_7) = v7 c
          ∧ r.2.mem ((c.tc : Thread Cert.KernelInIdeal.nD Cert.KernelInIdeal.τ).loc Cert.KernelInIdeal.main_v3_8) = v8 c
          ∧ r.2.mem ((c.tc : Thread Cert.KernelInIdeal.nD Cert.KernelInIdeal.τ).loc Cert.KernelInIdeal.main_v3_9) = v9 c
          ∧ r.2.mem ((c.tc : Thread Cert.KernelInIdeal.nD Cert.KernelInIdeal.τ).loc Cert.KernelInIdeal.main_v3_10) = v10 c
          ∧ r.2.mem ((c.tc : Thread Cert.KernelInIdeal.nD Cert.KernelInIdeal.τ).loc Cert.KernelInIdeal.main_v3_11) = v11 c
          ∧ r.2.mem ((c.tc : Thread Cert.KernelInIdeal.nD Cert.KernelInIdeal.τ).loc Cert.KernelInIdeal.main_v3_12) = v12 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v71) = v0 c
          ∧ r.2.mem ((c.tc : Thread Cert.ReferenceInIdeal.nD Cert.ReferenceInIdeal.τ).loc Cert.ReferenceInIdeal.main_v72) = v1 c
          ∧ r.2.mem ((c.tc : Thread Cert.ReferenceInIdeal.nD Cert.ReferenceInIdeal.τ).loc Cert.ReferenceInIdeal.main_v73) = v2 c
          ∧ r.2.mem ((c.tc : Thread Cert.ReferenceInIdeal.nD Cert.ReferenceInIdeal.τ).loc Cert.ReferenceInIdeal.main_v74) = v3 c
          ∧ r.2.mem ((c.tc : Thread Cert.ReferenceInIdeal.nD Cert.ReferenceInIdeal.τ).loc Cert.ReferenceInIdeal.main_v75) = v4 c
          ∧ r.2.mem ((c.tc : Thread Cert.ReferenceInIdeal.nD Cert.ReferenceInIdeal.τ).loc Cert.ReferenceInIdeal.main_v76) = v5 c
          ∧ r.2.mem ((c.tc : Thread Cert.ReferenceInIdeal.nD Cert.ReferenceInIdeal.τ).loc Cert.ReferenceInIdeal.main_v77) = v6 c
          ∧ r.2.mem ((c.tc : Thread Cert.ReferenceInIdeal.nD Cert.ReferenceInIdeal.τ).loc Cert.ReferenceInIdeal.main_v78) = v7 c
          ∧ r.2.mem ((c.tc : Thread Cert.ReferenceInIdeal.nD Cert.ReferenceInIdeal.τ).loc Cert.ReferenceInIdeal.main_v79) = v8 c
          ∧ r.2.mem ((c.tc : Thread Cert.ReferenceInIdeal.nD Cert.ReferenceInIdeal.τ).loc Cert.ReferenceInIdeal.main_v80) = v9 c
          ∧ r.2.mem ((c.tc : Thread Cert.ReferenceInIdeal.nD Cert.ReferenceInIdeal.τ).loc Cert.ReferenceInIdeal.main_v81) = v10 c
          ∧ r.2.mem ((c.tc : Thread Cert.ReferenceInIdeal.nD Cert.ReferenceInIdeal.τ).loc Cert.ReferenceInIdeal.main_v82) = v11 c
          ∧ r.2.mem ((c.tc : Thread Cert.ReferenceInIdeal.nD Cert.ReferenceInIdeal.τ).loc Cert.ReferenceInIdeal.main_v83) = v12 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelSgu_KernelSguIdeal : Prop :=
  True

def algebraic_KernelSguIdeal_ReferenceSguIdeal [hKernelSguIdeal : Cert.KernelSguIdeal.Facts] [hReferenceSguIdeal : Cert.ReferenceSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)
      ∧ m' ((c.tc : Thread Cert.ReferenceSguIdeal.nD Cert.ReferenceSguIdeal.τ).loc Cert.ReferenceSguIdeal.main_arg4) = m ((c.tc : Thread Cert.KernelSguIdeal.nD Cert.KernelSguIdeal.τ).loc Cert.KernelSguIdeal.main_arg4)
      ∧ m' ((c.tc : Thread Cert.ReferenceSguIdeal.nD Cert.ReferenceSguIdeal.τ).loc Cert.ReferenceSguIdeal.main_arg5) = m ((c.tc : Thread Cert.KernelSguIdeal.nD Cert.KernelSguIdeal.τ).loc Cert.KernelSguIdeal.main_arg5)
      ∧ m' ((c.tc : Thread Cert.ReferenceSguIdeal.nD Cert.ReferenceSguIdeal.τ).loc Cert.ReferenceSguIdeal.main_arg6) = m ((c.tc : Thread Cert.KernelSguIdeal.nD Cert.KernelSguIdeal.τ).loc Cert.KernelSguIdeal.main_arg6)) →
    ∃ (v0 : (c : Dev Cert.KernelSguIdeal.nD) → Buf (Elt Ideal) ((c.tc : Thread Cert.KernelSguIdeal.nD Cert.KernelSguIdeal.τ).loc Cert.KernelSguIdeal.main_v11)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v11) = v0 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
          ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
          ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
          ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v25) = v0 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3)
          ∧ r.2.mem ((c.tc : Thread Cert.ReferenceSguIdeal.nD Cert.ReferenceSguIdeal.τ).loc Cert.ReferenceSguIdeal.main_arg4) = m' ((c.tc : Thread Cert.ReferenceSguIdeal.nD Cert.ReferenceSguIdeal.τ).loc Cert.ReferenceSguIdeal.main_arg4)
          ∧ r.2.mem ((c.tc : Thread Cert.ReferenceSguIdeal.nD Cert.ReferenceSguIdeal.τ).loc Cert.ReferenceSguIdeal.main_arg5) = m' ((c.tc : Thread Cert.ReferenceSguIdeal.nD Cert.ReferenceSguIdeal.τ).loc Cert.ReferenceSguIdeal.main_arg5)
          ∧ r.2.mem ((c.tc : Thread Cert.ReferenceSguIdeal.nD Cert.ReferenceSguIdeal.τ).loc Cert.ReferenceSguIdeal.main_arg6) = m' ((c.tc : Thread Cert.ReferenceSguIdeal.nD Cert.ReferenceSguIdeal.τ).loc Cert.ReferenceSguIdeal.main_arg6))

def preserves_KernelMerge_KernelMergeIdeal : Prop :=
  True

def algebraic_KernelMergeIdeal_ReferenceMergeIdeal_pre_finite_logs [hKernelMergeIdeal : Cert.KernelMergeIdeal.Facts] [hReferenceMergeIdeal : Cert.ReferenceMergeIdeal.Facts] [hPre_finite_logs : Cert.Pre_finite_logs.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal_finite_logs m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)
      ∧ m' ((c.tc : Thread Cert.ReferenceMergeIdeal.nD Cert.ReferenceMergeIdeal.τ).loc Cert.ReferenceMergeIdeal.main_arg10) = m ((c.tc : Thread Cert.KernelMergeIdeal.nD Cert.KernelMergeIdeal.τ).loc Cert.KernelMergeIdeal.main_arg10)
      ∧ m' ((c.tc : Thread Cert.ReferenceMergeIdeal.nD Cert.ReferenceMergeIdeal.τ).loc Cert.ReferenceMergeIdeal.main_arg11) = m ((c.tc : Thread Cert.KernelMergeIdeal.nD Cert.KernelMergeIdeal.τ).loc Cert.KernelMergeIdeal.main_arg11)) →
    ∃ (v0 : (c : Dev Cert.KernelMergeIdeal.nD) → Buf (Elt Ideal) ((c.tc : Thread Cert.KernelMergeIdeal.nD Cert.KernelMergeIdeal.τ).loc Cert.KernelMergeIdeal.main_v23_0)) (v1 : (c : Dev Cert.KernelMergeIdeal.nD) → Buf (Elt Ideal) ((c.tc : Thread Cert.KernelMergeIdeal.nD Cert.KernelMergeIdeal.τ).loc Cert.KernelMergeIdeal.main_v23_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v23_0) = v0 c
          ∧ r.2.mem ((c.tc : Thread Cert.KernelMergeIdeal.nD Cert.KernelMergeIdeal.τ).loc Cert.KernelMergeIdeal.main_v23_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9)
          ∧ r.2.mem ((c.tc : Thread Cert.KernelMergeIdeal.nD Cert.KernelMergeIdeal.τ).loc Cert.KernelMergeIdeal.main_arg10) = m ((c.tc : Thread Cert.KernelMergeIdeal.nD Cert.KernelMergeIdeal.τ).loc Cert.KernelMergeIdeal.main_arg10)
          ∧ r.2.mem ((c.tc : Thread Cert.KernelMergeIdeal.nD Cert.KernelMergeIdeal.τ).loc Cert.KernelMergeIdeal.main_arg11) = m ((c.tc : Thread Cert.KernelMergeIdeal.nD Cert.KernelMergeIdeal.τ).loc Cert.KernelMergeIdeal.main_arg11))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v26) = v0 c
          ∧ r.2.mem ((c.tc : Thread Cert.ReferenceMergeIdeal.nD Cert.ReferenceMergeIdeal.τ).loc Cert.ReferenceMergeIdeal.main_v40) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9)
          ∧ r.2.mem ((c.tc : Thread Cert.ReferenceMergeIdeal.nD Cert.ReferenceMergeIdeal.τ).loc Cert.ReferenceMergeIdeal.main_arg10) = m' ((c.tc : Thread Cert.ReferenceMergeIdeal.nD Cert.ReferenceMergeIdeal.τ).loc Cert.ReferenceMergeIdeal.main_arg10)
          ∧ r.2.mem ((c.tc : Thread Cert.ReferenceMergeIdeal.nD Cert.ReferenceMergeIdeal.τ).loc Cert.ReferenceMergeIdeal.main_arg11) = m' ((c.tc : Thread Cert.ReferenceMergeIdeal.nD Cert.ReferenceMergeIdeal.τ).loc Cert.ReferenceMergeIdeal.main_arg11))

def Claim : Prop :=
  ∃ (hKernelMid : Cert.KernelMid.Facts) (hKernelMidIdeal : Cert.KernelMidIdeal.Facts) (hReferenceMidIdeal : Cert.ReferenceMidIdeal.Facts) (hKernelNear : Cert.KernelNear.Facts) (hKernelNearIdeal : Cert.KernelNearIdeal.Facts) (hReferenceNearIdeal : Cert.ReferenceNearIdeal.Facts) (hKernelFar : Cert.KernelFar.Facts) (hKernelFarIdeal : Cert.KernelFarIdeal.Facts) (hReferenceFarIdeal : Cert.ReferenceFarIdeal.Facts) (hKernelIn : Cert.KernelIn.Facts) (hKernelInIdeal : Cert.KernelInIdeal.Facts) (hReferenceInIdeal : Cert.ReferenceInIdeal.Facts) (hKernelSgu : Cert.KernelSgu.Facts) (hKernelSguIdeal : Cert.KernelSguIdeal.Facts) (hReferenceSguIdeal : Cert.ReferenceSguIdeal.Facts) (hKernelMerge : Cert.KernelMerge.Facts) (hKernelMergeIdeal : Cert.KernelMergeIdeal.Facts) (hReferenceMergeIdeal : Cert.ReferenceMergeIdeal.Facts) (hPre_finite : Cert.Pre_finite.Facts) (hPre_finite_logs : Cert.Pre_finite_logs.Facts),
    quiescent_KernelMid (hKernelMid := hKernelMid)
    ∧ quiescent_KernelMidIdeal (hKernelMidIdeal := hKernelMidIdeal)
    ∧ quiescent_KernelMidIdeal_pre_finite (hKernelMidIdeal := hKernelMidIdeal) (hPre_finite := hPre_finite)
    ∧ quiescent_ReferenceMidIdeal (hReferenceMidIdeal := hReferenceMidIdeal)
    ∧ quiescent_ReferenceMidIdeal_pre_finite (hReferenceMidIdeal := hReferenceMidIdeal) (hPre_finite := hPre_finite)
    ∧ quiescent_KernelNear (hKernelNear := hKernelNear)
    ∧ quiescent_KernelNearIdeal (hKernelNearIdeal := hKernelNearIdeal)
    ∧ quiescent_KernelNearIdeal_pre_finite (hKernelNearIdeal := hKernelNearIdeal) (hPre_finite := hPre_finite)
    ∧ quiescent_ReferenceNearIdeal (hReferenceNearIdeal := hReferenceNearIdeal)
    ∧ quiescent_ReferenceNearIdeal_pre_finite (hReferenceNearIdeal := hReferenceNearIdeal) (hPre_finite := hPre_finite)
    ∧ quiescent_KernelFar (hKernelFar := hKernelFar)
    ∧ quiescent_KernelFarIdeal (hKernelFarIdeal := hKernelFarIdeal)
    ∧ quiescent_KernelFarIdeal_pre_finite (hKernelFarIdeal := hKernelFarIdeal) (hPre_finite := hPre_finite)
    ∧ quiescent_ReferenceFarIdeal (hReferenceFarIdeal := hReferenceFarIdeal)
    ∧ quiescent_ReferenceFarIdeal_pre_finite (hReferenceFarIdeal := hReferenceFarIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelSgu (hKernelSgu := hKernelSgu)
    ∧ quiescent_KernelSguIdeal (hKernelSguIdeal := hKernelSguIdeal)
    ∧ quiescent_ReferenceSguIdeal (hReferenceSguIdeal := hReferenceSguIdeal)
    ∧ quiescent_KernelMerge (hKernelMerge := hKernelMerge)
    ∧ quiescent_KernelMergeIdeal (hKernelMergeIdeal := hKernelMergeIdeal)
    ∧ quiescent_KernelMergeIdeal_pre_finite_logs (hKernelMergeIdeal := hKernelMergeIdeal) (hPre_finite_logs := hPre_finite_logs)
    ∧ quiescent_ReferenceMergeIdeal (hReferenceMergeIdeal := hReferenceMergeIdeal)
    ∧ quiescent_ReferenceMergeIdeal_pre_finite_logs (hReferenceMergeIdeal := hReferenceMergeIdeal) (hPre_finite_logs := hPre_finite_logs)
    ∧ preserves_KernelMid_KernelMidIdeal
    ∧ algebraic_KernelMidIdeal_ReferenceMidIdeal_pre_finite (hKernelMidIdeal := hKernelMidIdeal) (hReferenceMidIdeal := hReferenceMidIdeal) (hPre_finite := hPre_finite)
    ∧ preserves_KernelNear_KernelNearIdeal
    ∧ algebraic_KernelNearIdeal_ReferenceNearIdeal_pre_finite (hKernelNearIdeal := hKernelNearIdeal) (hReferenceNearIdeal := hReferenceNearIdeal) (hPre_finite := hPre_finite)
    ∧ preserves_KernelFar_KernelFarIdeal
    ∧ algebraic_KernelFarIdeal_ReferenceFarIdeal_pre_finite (hKernelFarIdeal := hKernelFarIdeal) (hReferenceFarIdeal := hReferenceFarIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelSgu_KernelSguIdeal
    ∧ algebraic_KernelSguIdeal_ReferenceSguIdeal (hKernelSguIdeal := hKernelSguIdeal) (hReferenceSguIdeal := hReferenceSguIdeal)
    ∧ preserves_KernelMerge_KernelMergeIdeal
    ∧ algebraic_KernelMergeIdeal_ReferenceMergeIdeal_pre_finite_logs (hKernelMergeIdeal := hKernelMergeIdeal) (hReferenceMergeIdeal := hReferenceMergeIdeal) (hPre_finite_logs := hPre_finite_logs)
-- ==== Pre_finite.lean ====
abbrev S4x8192x512 : Shape := ⟨3, ![4, 8192, 512]⟩
abbrev S_ : Shape := ⟨0, ![]⟩

class Facts : Prop where
  bcast_S_S4x8192x512 : S_.BroadcastsInDim S4x8192x512 (![] : Fin 0 → Fin S4x8192x512.rank)

variable [Facts]

def fn {F : FTy → Type} [FloatOps F] (main_arg0 : FVec F S4x8192x512 .f32) (main_arg1 : FVec F S4x8192x512 .f32) (main_arg2 : FVec F S4x8192x512 .f32) : IVec S4x8192x512 1 × IVec S4x8192x512 1 :=
  let main_v0 : FVec F S4x8192x512 .f32 := Host.absf main_arg0
  let main_cst : FVec F S_ .f32 := constant S_ .f32 0x7F800000#32
  let main_v1 : FVec F S4x8192x512 .f32 := broadcastInDim S4x8192x512 ![] bcast_S_S4x8192x512 main_cst
  let main_v2 : IVec S4x8192x512 1 := cmpf .olt main_v0 main_v1
  let main_v3 : FVec F S4x8192x512 .f32 := Host.absf main_arg1
  let main_cst_0 : FVec F S_ .f32 := constant S_ .f32 0x7F800000#32
  let main_v4 : FVec F S4x8192x512 .f32 := broadcastInDim S4x8192x512 ![] bcast_S_S4x8192x512 main_cst_0
  let main_v5 : IVec S4x8192x512 1 := cmpf .olt main_v3 main_v4
  (main_v2, main_v5)
-- ==== Pre_finite_logs.lean ====
abbrev S4x8192x1024 : Shape := ⟨3, ![4, 8192, 1024]⟩
abbrev S4x8192x8x64 : Shape := ⟨4, ![4, 8192, 8, 64]⟩
abbrev S4x8192x8 : Shape := ⟨3, ![4, 8192, 8]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S4x8192x8 : S_.BroadcastsInDim S4x8192x8 (![] : Fin 0 → Fin S4x8192x8.rank)

variable [Facts]

def fn {F : FTy → Type} [FloatOps F] (main_arg0 : FVec F S4x8192x1024 .f32) (main_arg1 : FVec F S4x8192x1024 .f32) (main_arg2 : FVec F S4x8192x1024 .f32) (main_arg3 : FVec F S4x8192x8x64 .f32) (main_arg4 : FVec F S4x8192x8x64 .f32) (main_arg5 : FVec F S4x8192x8x64 .f32) (main_arg6 : FVec F S4x8192x8 .f32) (main_arg7 : FVec F S4x8192x8 .f32) (main_arg8 : FVec F S4x8192x8 .f32) (main_arg9 : FVec F S512x1024 .f32) (main_arg10 : FVec F S1024x1024 .f32) (main_arg11 : FVec F S1024 .f32) : IVec S4x8192x8 1 × IVec S4x8192x8 1 × IVec S4x8192x8 1 :=
  let main_v0 : FVec F S4x8192x8 .f32 := Host.absf main_arg6
  let main_cst : FVec F S_ .f32 := constant S_ .f32 0x7F800000#32
  let main_v1 : FVec F S4x8192x8 .f32 := broadcastInDim S4x8192x8 ![] bcast_S_S4x8192x8 main_cst
  let main_v2 : IVec S4x8192x8 1 := cmpf .olt main_v0 main_v1
  let main_v3 : FVec F S4x8192x8 .f32 := Host.absf main_arg7
  let main_cst_0 : FVec F S_ .f32 := constant S_ .f32 0x7F800000#32
  let main_v4 : FVec F S4x8192x8 .f32 := broadcastInDim S4x8192x8 ![] bcast_S_S4x8192x8 main_cst_0
  let main_v5 : IVec S4x8192x8 1 := cmpf .olt main_v3 main_v4
  let main_v6 : FVec F S4x8192x8 .f32 := Host.absf main_arg8
  let main_cst_1 : FVec F S_ .f32 := constant S_ .f32 0x7F800000#32
  let main_v7 : FVec F S4x8192x8 .f32 := broadcastInDim S4x8192x8 ![] bcast_S_S4x8192x8 main_cst_1
  let main_v8 : IVec S4x8192x8 1 := cmpf .olt main_v6 main_v7
  (main_v2, main_v5, main_v8)
-- ==== KernelMid.lean ====
abbrev S4x8192x512 : Shape := ⟨3, ![4, 8192, 512]⟩
abbrev S8192x2048 : Shape := ⟨2, ![8192, 2048]⟩
abbrev S4x2048x2048 : Shape := ⟨3, ![4, 2048, 2048]⟩
abbrev S1x128x512 : Shape := ⟨3, ![1, 128, 512]⟩
abbrev S1x64x512 : Shape := ⟨3, ![1, 64, 512]⟩
abbrev S64x512 : Shape := ⟨2, ![64, 512]⟩
abbrev S128x512 : Shape := ⟨2, ![128, 512]⟩
abbrev S256x512 : Shape := ⟨2, ![256, 512]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .bf16⟩
  | .hbm, ⟨4, _⟩ => ⟨S8192x2048, .bf16⟩
  | .hbm, ⟨5, _⟩ => ⟨S4x8192x512, .bf16⟩
  | .hbm, ⟨6, _⟩ => ⟨S8192x2048, .bf16⟩
  | .hbm, ⟨7, _⟩ => ⟨S4x8192x512, .bf16⟩
  | .hbm, ⟨8, _⟩ => ⟨S8192x2048, .bf16⟩
  | .hbm, ⟨9, _⟩ => ⟨S4x2048x2048, .bf16⟩
  | .hbm, ⟨10, _⟩ => ⟨S4x2048x2048, .bf16⟩
  | .hbm, ⟨11, _⟩ => ⟨S4x2048x2048, .bf16⟩
  | .hbm, ⟨12, _⟩ => ⟨S4x2048x2048, .bf16⟩
  | .hbm, ⟨13, _⟩ => ⟨S4x2048x2048, .f32⟩
  | .local _ .vmem, ⟨0, _⟩ => ⟨S1x128x512, .bf16⟩
  | .local _ .vmem, ⟨1, _⟩ => ⟨S1x128x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x512, .f32⟩
  | .local _ .vmem, ⟨17, _⟩ => ⟨S1x128x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c31_i32 : BitVec 32 := 31#32
  let v2 : BitVec 32 := Scalar.minsi v1 c31_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelMidIdeal.lean ====
variable {F : FTy → Type} [FloatOps F] [Named F]
def κ : String → Option EReal := fun
  | "mask" => some ⊥
  | _ => none
-- ==== ReferenceMidIdeal.lean ====
abbrev S4x8192x512 : Shape := ⟨3, ![4, 8192, 512]⟩
abbrev S4x8192x8x64 : Shape := ⟨4, ![4, 8192, 8, 64]⟩
abbrev S8 : Shape := ⟨1, ![8]⟩
abbrev S_ : Shape := ⟨0, ![]⟩
abbrev S4x32x64x4x8x64 : Shape := ⟨6, ![4, 32, 64, 4, 8, 64]⟩
abbrev S4x2048x4x8x64 : Shape := ⟨5, ![4, 2048, 4, 8, 64]⟩
abbrev S4x2176x4x8x64 : Shape := ⟨5, ![4, 2176, 4, 8, 64]⟩
abbrev S4x34x64x4x8x64 : Shape := ⟨6, ![4, 34, 64, 4, 8, 64]⟩
abbrev S4x32x192x4x8x64 : Shape := ⟨6, ![4, 32, 192, 4, 8, 64]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S32 : Shape := ⟨1, ![32]⟩
abbrev S32x1x1 : Shape := ⟨3, ![32, 1, 1]⟩
abbrev S1x1x192 : Shape := ⟨3, ![1, 1, 192]⟩
abbrev S32x1x192 : Shape := ⟨3, ![32, 1, 192]⟩
abbrev S4 : Shape := ⟨1, ![4]⟩
abbrev S1x4x1 : Shape := ⟨3, ![1, 4, 1]⟩
abbrev S32x4x192 : Shape := ⟨3, ![32, 4, 192]⟩
abbrev S1x1x64x192 : Shape := ⟨4, ![1, 1, 64, 192]⟩
abbrev S32x4x1x192 : Shape := ⟨4, ![32, 4, 1, 192]⟩
abbrev S32x4x64x192 : Shape := ⟨4, ![32, 4, 64, 192]⟩
abbrev S8x1x1 : Shape := ⟨3, ![8, 1, 1]⟩
abbrev S1x64x192 : Shape := ⟨3, ![1, 64, 192]⟩
abbrev S8x64x192 : Shape := ⟨3, ![8, 64, 192]⟩
abbrev S4x32x4x8x64x192 : Shape := ⟨6, ![4, 32, 4, 8, 64, 192]⟩
abbrev S1x1x1x8x64x192 : Shape := ⟨6, ![1, 1, 1, 8, 64, 192]⟩
abbrev S1x32x4x1x64x192 : Shape := ⟨6, ![1, 32, 4, 1, 64, 192]⟩
abbrev S4x32x4x8x64 : Shape := ⟨5, ![4, 32, 4, 8, 64]⟩
abbrev S4x32x4x8x64x1 : Shape := ⟨6, ![4, 32, 4, 8, 64, 1]⟩
abbrev S4x32x4x8x64x64 : Shape := ⟨6, ![4, 32, 4, 8, 64, 64]⟩
abbrev S4x32x64x4x8 : Shape := ⟨5, ![4, 32, 64, 4, 8]⟩
abbrev S4x8192x8 : Shape := ⟨3, ![4, 8192, 8]⟩
abbrev S4x8192x8x1 : Shape := ⟨4, ![4, 8192, 8, 1]⟩
abbrev S4x2048x2048 : Shape := ⟨3, ![4, 2048, 2048]⟩

abbrev nBuf : Space → Nat
  | .hbm => 143
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x512, .f32⟩
  | 3 => ⟨S4x8192x8x64, .f32⟩
  | 4 => ⟨S4x8192x8x64, .f32⟩
  | 5 => ⟨S4x8192x8x64, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .i32⟩
  | 20 => ⟨S_, .f32⟩
  | 21 => ⟨S4x8192x8x64, .f32⟩
  | 22 => ⟨S_, .i32⟩
  | 23 => ⟨S_, .f32⟩
  | 24 => ⟨S4x8192x8x64, .f32⟩
  | 25 => ⟨S_, .i32⟩
  | 26 => ⟨S_, .f32⟩
  | 27 => ⟨S4x8192x8x64, .f32⟩
  | 28 => ⟨S4x32x64x4x8x64, .f32⟩
  | 29 => ⟨S4x2048x4x8x64, .f32⟩
  | 30 => ⟨S_, .i32⟩
  | 31 => ⟨S_, .f32⟩
  | 32 => ⟨S4x2176x4x8x64, .f32⟩
  | 33 => ⟨S4x34x64x4x8x64, .f32⟩
  | 34 => ⟨S4x32x64x4x8x64, .f32⟩
  | 35 => ⟨S4x32x64x4x8x64, .f32⟩
  | 36 => ⟨S4x32x64x4x8x64, .f32⟩
  | 37 => ⟨S4x32x192x4x8x64, .f32⟩
  | 38 => ⟨S4x2048x4x8x64, .f32⟩
  | 39 => ⟨S_, .i32⟩
  | 40 => ⟨S_, .f32⟩
  | 41 => ⟨S4x2176x4x8x64, .f32⟩
  | 42 => ⟨S4x34x64x4x8x64, .f32⟩
  | 43 => ⟨S4x32x64x4x8x64, .f32⟩
  | 44 => ⟨S4x32x64x4x8x64, .f32⟩
  | 45 => ⟨S4x32x64x4x8x64, .f32⟩
  | 46 => ⟨S4x32x192x4x8x64, .f32⟩
  | 47 => ⟨S192, .i32⟩
  | 48 => ⟨S1x192, .i32⟩
  | 49 => ⟨S_, .i32⟩
  | 50 => ⟨S1x192, .i32⟩
  | 51 => ⟨S1x192, .i32⟩
  | 52 => ⟨S64, .i32⟩
  | 53 => ⟨S64x1, .i32⟩
  | 54 => ⟨S64x192, .i32⟩
  | 55 => ⟨S64x192, .i32⟩
  | 56 => ⟨S64x192, .i32⟩
  | 57 => ⟨S64x192, .i32⟩
  | 58 => ⟨S_, .i32⟩
  | 59 => ⟨S64x192, .i32⟩
  | 60 => ⟨S64x192, .i1⟩
  | 61 => ⟨S32, .i32⟩
  | 62 => ⟨S32x1x1, .i32⟩
  | 63 => ⟨S_, .i32⟩
  | 64 => ⟨S32x1x1, .i32⟩
  | 65 => ⟨S32x1x1, .i32⟩
  | 66 => ⟨S192, .i32⟩
  | 67 => ⟨S1x1x192, .i32⟩
  | 68 => ⟨S32x1x192, .i32⟩
  | 69 => ⟨S32x1x192, .i32⟩
  | 70 => ⟨S32x1x192, .i32⟩
  | 71 => ⟨S_, .i32⟩
  | 72 => ⟨S32x1x192, .i32⟩
  | 73 => ⟨S32x1x192, .i32⟩
  | 74 => ⟨S_, .i32⟩
  | 75 => ⟨S32x1x192, .i32⟩
  | 76 => ⟨S32x1x192, .i32⟩
  | 77 => ⟨S4, .i32⟩
  | 78 => ⟨S1x4x1, .i32⟩
  | 79 => ⟨S32x4x192, .i32⟩
  | 80 => ⟨S32x4x192, .i32⟩
  | 81 => ⟨S32x4x192, .i32⟩
  | 82 => ⟨S_, .i32⟩
  | 83 => ⟨S32x1x192, .i32⟩
  | 84 => ⟨S32x1x192, .i1⟩
  | 85 => ⟨S_, .i32⟩
  | 86 => ⟨S32x4x192, .i32⟩
  | 87 => ⟨S32x4x192, .i1⟩
  | 88 => ⟨S32x4x192, .i1⟩
  | 89 => ⟨S32x4x192, .i1⟩
  | 90 => ⟨S1x1x64x192, .i1⟩
  | 91 => ⟨S32x4x1x192, .i1⟩
  | 92 => ⟨S32x4x64x192, .i1⟩
  | 93 => ⟨S32x4x64x192, .i1⟩
  | 94 => ⟨S32x4x64x192, .i1⟩
  | 95 => ⟨S8x1x1, .f32⟩
  | 96 => ⟨S8x1x1, .f32⟩
  | 97 => ⟨S64x192, .i32⟩
  | 98 => ⟨S_, .i32⟩
  | 99 => ⟨S64x192, .i32⟩
  | 100 => ⟨S64x192, .i32⟩
  | 101 => ⟨S64x192, .f32⟩
  | 102 => ⟨S1x64x192, .f32⟩
  | 103 => ⟨S8x64x192, .f32⟩
  | 104 => ⟨S8x64x192, .f32⟩
  | 105 => ⟨S8x64x192, .f32⟩
  | 106 => ⟨S4x32x4x8x64x192, .f32⟩
  | 107 => ⟨S_, .f32⟩
  | 108 => ⟨S4x32x4x8x64x192, .f32⟩
  | 109 => ⟨S4x32x4x8x64x192, .f32⟩
  | 110 => ⟨S1x1x1x8x64x192, .f32⟩
  | 111 => ⟨S4x32x4x8x64x192, .f32⟩
  | 112 => ⟨S4x32x4x8x64x192, .f32⟩
  | 113 => ⟨S1x32x4x1x64x192, .i1⟩
  | 114 => ⟨S_, .f32⟩
  | 115 => ⟨S_, .f32⟩
  | 116 => ⟨S4x32x4x8x64x192, .i1⟩
  | 117 => ⟨S4x32x4x8x64x192, .f32⟩
  | 118 => ⟨S4x32x4x8x64x192, .f32⟩
  | 119 => ⟨S_, .f32⟩
  | 120 => ⟨S4x32x4x8x64, .f32⟩
  | 121 => ⟨S4x32x4x8x64x1, .f32⟩
  | 122 => ⟨S4x32x4x8x64x192, .f32⟩
  | 123 => ⟨S4x32x4x8x64x192, .f32⟩
  | 124 => ⟨S4x32x4x8x64x192, .f32⟩
  | 125 => ⟨S_, .f32⟩
  | 126 => ⟨S4x32x4x8x64, .f32⟩
  | 127 => ⟨S4x32x4x8x64, .f32⟩
  | _ => ⟨S4x8192x512, .f32⟩

abbrev hbmTy0_1 (i : Nat) : BufTy := match i % 128 with
  | 0 => ⟨S4x32x4x8x64, .f32⟩
  | 1 => ⟨S4x32x4x8x64x1, .f32⟩
  | 2 => ⟨S4x32x4x8x64x192, .f32⟩
  | 3 => ⟨S4x32x4x8x64x192, .f32⟩
  | 4 => ⟨S4x32x4x8x64x192, .f32⟩
  | 5 => ⟨S4x32x4x8x64x64, .f32⟩
  | 6 => ⟨S4x32x64x4x8x64, .f32⟩
  | 7 => ⟨S4x8192x8x64, .f32⟩
  | 8 => ⟨S4x32x64x4x8, .f32⟩
  | 9 => ⟨S4x8192x8, .f32⟩
  | 10 => ⟨S4x8192x8x1, .f32⟩
  | 11 => ⟨S4x8192x8x64, .f32⟩
  | 12 => ⟨S4x8192x8x64, .bf16⟩
  | 13 => ⟨S4x2048x2048, .bf16⟩
  | 14 => ⟨S4x2048x2048, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_c_3 : Ref sig .tc := ⟨.hbm, 22, rfl⟩
abbrev main_call1_v0 : Ref sig .tc := ⟨.hbm, 23, rfl⟩
abbrev main_v13 : Ref sig .tc := ⟨.hbm, 24, rfl⟩
abbrev main_c_4 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_call3_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_call4_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]
-- ==== KernelNear.lean ====
abbrev S4x8192x512 : Shape := ⟨3, ![4, 8192, 512]⟩
abbrev S32768x512 : Shape := ⟨2, ![32768, 512]⟩
abbrev S1x128x512 : Shape := ⟨3, ![1, 128, 512]⟩
abbrev S1x64x512 : Shape := ⟨3, ![1, 64, 512]⟩
abbrev S64x512 : Shape := ⟨2, ![64, 512]⟩
abbrev S128x512 : Shape := ⟨2, ![128, 512]⟩
abbrev S256x512 : Shape := ⟨2, ![256, 512]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .bf16⟩
  | .hbm, ⟨4, _⟩ => ⟨S32768x512, .bf16⟩
  | .hbm, ⟨5, _⟩ => ⟨S4x8192x512, .bf16⟩
  | .hbm, ⟨6, _⟩ => ⟨S32768x512, .bf16⟩
  | .hbm, ⟨7, _⟩ => ⟨S4x8192x512, .bf16⟩
  | .hbm, ⟨8, _⟩ => ⟨S32768x512, .bf16⟩
  | .hbm, ⟨9, _⟩ => ⟨S4x8192x512, .bf16⟩
  | .hbm, ⟨10, _⟩ => ⟨S4x8192x512, .bf16⟩
  | .hbm, ⟨11, _⟩ => ⟨S4x8192x512, .bf16⟩
  | .hbm, ⟨12, _⟩ => ⟨S4x8192x512, .bf16⟩
  | .hbm, ⟨13, _⟩ => ⟨S4x8192x512, .f32⟩
  | .local _ .vmem, ⟨0, _⟩ => ⟨S1x128x512, .bf16⟩
  | .local _ .vmem, ⟨1, _⟩ => ⟨S1x128x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x512, .f32⟩
  | .local _ .vmem, ⟨17, _⟩ => ⟨S1x128x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 1, 64], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c127_i32 : BitVec 32 := 127#32
  let v2 : BitVec 32 := Scalar.minsi v1 c127_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelNearIdeal.lean ====
variable {F : FTy → Type} [FloatOps F] [Named F]
def κ : String → Option EReal := fun
  | "mask" => some ⊥
  | _ => none
-- ==== ReferenceNearIdeal.lean ====
abbrev S4x8192x512 : Shape := ⟨3, ![4, 8192, 512]⟩
abbrev S4x8192x8x64 : Shape := ⟨4, ![4, 8192, 8, 64]⟩
abbrev S8 : Shape := ⟨1, ![8]⟩
abbrev S_ : Shape := ⟨0, ![]⟩
abbrev S4x128x64x1x8x64 : Shape := ⟨6, ![4, 128, 64, 1, 8, 64]⟩
abbrev S4x8192x1x8x64 : Shape := ⟨5, ![4, 8192, 1, 8, 64]⟩
abbrev S4x8320x1x8x64 : Shape := ⟨5, ![4, 8320, 1, 8, 64]⟩
abbrev S4x130x64x1x8x64 : Shape := ⟨6, ![4, 130, 64, 1, 8, 64]⟩
abbrev S4x128x192x1x8x64 : Shape := ⟨6, ![4, 128, 192, 1, 8, 64]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S128 : Shape := ⟨1, ![128]⟩
abbrev S128x1x1 : Shape := ⟨3, ![128, 1, 1]⟩
abbrev S1x1x192 : Shape := ⟨3, ![1, 1, 192]⟩
abbrev S128x1x192 : Shape := ⟨3, ![128, 1, 192]⟩
abbrev S1 : Shape := ⟨1, ![1]⟩
abbrev S1x1x1 : Shape := ⟨3, ![1, 1, 1]⟩
abbrev S1x1x64x192 : Shape := ⟨4, ![1, 1, 64, 192]⟩
abbrev S128x1x1x192 : Shape := ⟨4, ![128, 1, 1, 192]⟩
abbrev S128x1x64x192 : Shape := ⟨4, ![128, 1, 64, 192]⟩
abbrev S8x1x1 : Shape := ⟨3, ![8, 1, 1]⟩
abbrev S1x64x192 : Shape := ⟨3, ![1, 64, 192]⟩
abbrev S8x64x192 : Shape := ⟨3, ![8, 64, 192]⟩
abbrev S4x128x1x8x64x192 : Shape := ⟨6, ![4, 128, 1, 8, 64, 192]⟩
abbrev S1x1x1x8x64x192 : Shape := ⟨6, ![1, 1, 1, 8, 64, 192]⟩
abbrev S1x128x1x1x64x192 : Shape := ⟨6, ![1, 128, 1, 1, 64, 192]⟩
abbrev S4x128x1x8x64 : Shape := ⟨5, ![4, 128, 1, 8, 64]⟩
abbrev S4x128x1x8x64x1 : Shape := ⟨6, ![4, 128, 1, 8, 64, 1]⟩
abbrev S4x128x1x8x64x64 : Shape := ⟨6, ![4, 128, 1, 8, 64, 64]⟩
abbrev S4x128x64x1x8 : Shape := ⟨5, ![4, 128, 64, 1, 8]⟩
abbrev S4x8192x8 : Shape := ⟨3, ![4, 8192, 8]⟩
abbrev S4x8192x8x1 : Shape := ⟨4, ![4, 8192, 8, 1]⟩

abbrev nBuf : Space → Nat
  | .hbm => 141
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x512, .f32⟩
  | 3 => ⟨S4x8192x8x64, .f32⟩
  | 4 => ⟨S4x8192x8x64, .f32⟩
  | 5 => ⟨S4x8192x8x64, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .i32⟩
  | 20 => ⟨S_, .f32⟩
  | 21 => ⟨S4x8192x8x64, .f32⟩
  | 22 => ⟨S_, .i32⟩
  | 23 => ⟨S_, .f32⟩
  | 24 => ⟨S4x8192x8x64, .f32⟩
  | 25 => ⟨S_, .i32⟩
  | 26 => ⟨S_, .f32⟩
  | 27 => ⟨S4x8192x8x64, .f32⟩
  | 28 => ⟨S4x128x64x1x8x64, .f32⟩
  | 29 => ⟨S4x8192x1x8x64, .f32⟩
  | 30 => ⟨S_, .i32⟩
  | 31 => ⟨S_, .f32⟩
  | 32 => ⟨S4x8320x1x8x64, .f32⟩
  | 33 => ⟨S4x130x64x1x8x64, .f32⟩
  | 34 => ⟨S4x128x64x1x8x64, .f32⟩
  | 35 => ⟨S4x128x64x1x8x64, .f32⟩
  | 36 => ⟨S4x128x64x1x8x64, .f32⟩
  | 37 => ⟨S4x128x192x1x8x64, .f32⟩
  | 38 => ⟨S4x8192x1x8x64, .f32⟩
  | 39 => ⟨S_, .i32⟩
  | 40 => ⟨S_, .f32⟩
  | 41 => ⟨S4x8320x1x8x64, .f32⟩
  | 42 => ⟨S4x130x64x1x8x64, .f32⟩
  | 43 => ⟨S4x128x64x1x8x64, .f32⟩
  | 44 => ⟨S4x128x64x1x8x64, .f32⟩
  | 45 => ⟨S4x128x64x1x8x64, .f32⟩
  | 46 => ⟨S4x128x192x1x8x64, .f32⟩
  | 47 => ⟨S192, .i32⟩
  | 48 => ⟨S1x192, .i32⟩
  | 49 => ⟨S_, .i32⟩
  | 50 => ⟨S1x192, .i32⟩
  | 51 => ⟨S1x192, .i32⟩
  | 52 => ⟨S64, .i32⟩
  | 53 => ⟨S64x1, .i32⟩
  | 54 => ⟨S64x192, .i32⟩
  | 55 => ⟨S64x192, .i32⟩
  | 56 => ⟨S64x192, .i32⟩
  | 57 => ⟨S64x192, .i32⟩
  | 58 => ⟨S_, .i32⟩
  | 59 => ⟨S64x192, .i32⟩
  | 60 => ⟨S64x192, .i1⟩
  | 61 => ⟨S128, .i32⟩
  | 62 => ⟨S128x1x1, .i32⟩
  | 63 => ⟨S_, .i32⟩
  | 64 => ⟨S128x1x1, .i32⟩
  | 65 => ⟨S128x1x1, .i32⟩
  | 66 => ⟨S192, .i32⟩
  | 67 => ⟨S1x1x192, .i32⟩
  | 68 => ⟨S128x1x192, .i32⟩
  | 69 => ⟨S128x1x192, .i32⟩
  | 70 => ⟨S128x1x192, .i32⟩
  | 71 => ⟨S_, .i32⟩
  | 72 => ⟨S128x1x192, .i32⟩
  | 73 => ⟨S128x1x192, .i32⟩
  | 74 => ⟨S_, .i32⟩
  | 75 => ⟨S128x1x192, .i32⟩
  | 76 => ⟨S128x1x192, .i32⟩
  | 77 => ⟨S1, .i32⟩
  | 78 => ⟨S1x1x1, .i32⟩
  | 79 => ⟨S128x1x192, .i32⟩
  | 80 => ⟨S128x1x192, .i32⟩
  | 81 => ⟨S_, .i32⟩
  | 82 => ⟨S128x1x192, .i32⟩
  | 83 => ⟨S128x1x192, .i1⟩
  | 84 => ⟨S_, .i32⟩
  | 85 => ⟨S128x1x192, .i32⟩
  | 86 => ⟨S128x1x192, .i1⟩
  | 87 => ⟨S128x1x192, .i1⟩
  | 88 => ⟨S1x1x64x192, .i1⟩
  | 89 => ⟨S128x1x1x192, .i1⟩
  | 90 => ⟨S128x1x64x192, .i1⟩
  | 91 => ⟨S128x1x64x192, .i1⟩
  | 92 => ⟨S128x1x64x192, .i1⟩
  | 93 => ⟨S8x1x1, .f32⟩
  | 94 => ⟨S8x1x1, .f32⟩
  | 95 => ⟨S64x192, .i32⟩
  | 96 => ⟨S_, .i32⟩
  | 97 => ⟨S64x192, .i32⟩
  | 98 => ⟨S64x192, .i32⟩
  | 99 => ⟨S64x192, .f32⟩
  | 100 => ⟨S1x64x192, .f32⟩
  | 101 => ⟨S8x64x192, .f32⟩
  | 102 => ⟨S8x64x192, .f32⟩
  | 103 => ⟨S8x64x192, .f32⟩
  | 104 => ⟨S4x128x1x8x64x192, .f32⟩
  | 105 => ⟨S_, .f32⟩
  | 106 => ⟨S4x128x1x8x64x192, .f32⟩
  | 107 => ⟨S4x128x1x8x64x192, .f32⟩
  | 108 => ⟨S1x1x1x8x64x192, .f32⟩
  | 109 => ⟨S4x128x1x8x64x192, .f32⟩
  | 110 => ⟨S4x128x1x8x64x192, .f32⟩
  | 111 => ⟨S1x128x1x1x64x192, .i1⟩
  | 112 => ⟨S_, .f32⟩
  | 113 => ⟨S_, .f32⟩
  | 114 => ⟨S4x128x1x8x64x192, .i1⟩
  | 115 => ⟨S4x128x1x8x64x192, .f32⟩
  | 116 => ⟨S4x128x1x8x64x192, .f32⟩
  | 117 => ⟨S_, .f32⟩
  | 118 => ⟨S4x128x1x8x64, .f32⟩
  | 119 => ⟨S4x128x1x8x64x1, .f32⟩
  | 120 => ⟨S4x128x1x8x64x192, .f32⟩
  | 121 => ⟨S4x128x1x8x64x192, .f32⟩
  | 122 => ⟨S4x128x1x8x64x192, .f32⟩
  | 123 => ⟨S_, .f32⟩
  | 124 => ⟨S4x128x1x8x64, .f32⟩
  | 125 => ⟨S4x128x1x8x64, .f32⟩
  | 126 => ⟨S4x128x1x8x64, .f32⟩
  | 127 => ⟨S4x128x1x8x64x1, .f32⟩
  | _ => ⟨S4x8192x512, .f32⟩

abbrev hbmTy0_1 (i : Nat) : BufTy := match i % 128 with
  | 0 => ⟨S4x128x1x8x64x192, .f32⟩
  | 1 => ⟨S4x128x1x8x64x192, .f32⟩
  | 2 => ⟨S4x128x1x8x64x192, .f32⟩
  | 3 => ⟨S4x128x1x8x64x64, .f32⟩
  | 4 => ⟨S4x128x64x1x8x64, .f32⟩
  | 5 => ⟨S4x8192x8x64, .f32⟩
  | 6 => ⟨S4x128x64x1x8, .f32⟩
  | 7 => ⟨S4x8192x8, .f32⟩
  | 8 => ⟨S4x8192x8x1, .f32⟩
  | 9 => ⟨S4x8192x8x64, .f32⟩
  | 10 => ⟨S4x8192x8x64, .bf16⟩
  | 11 => ⟨S4x8192x512, .bf16⟩
  | 12 => ⟨S4x8192x512, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_c_3 : Ref sig .tc := ⟨.hbm, 22, rfl⟩
abbrev main_call1_v0 : Ref sig .tc := ⟨.hbm, 23, rfl⟩
abbrev main_v13 : Ref sig .tc := ⟨.hbm, 24, rfl⟩
abbrev main_c_4 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_call3_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_call4_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_15 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_16 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_18 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩

abbrev nD : Nat := 1
abbrev τ : Topo := Topo.v7x

variable {F : FTy → Type} [FloatOps F]
-- ==== KernelFar.lean ====
abbrev S4x8192x512 : Shape := ⟨3, ![4, 8192, 512]⟩
abbrev S2048x8192 : Shape := ⟨2, ![2048, 8192]⟩
abbrev S4x512x8192 : Shape := ⟨3, ![4, 512, 8192]⟩
abbrev S1x128x512 : Shape := ⟨3, ![1, 128, 512]⟩
abbrev S1x64x512 : Shape := ⟨3, ![1, 64, 512]⟩
abbrev S64x512 : Shape := ⟨2, ![64, 512]⟩
abbrev S128x512 : Shape := ⟨2, ![128, 512]⟩
abbrev S256x512 : Shape := ⟨2, ![256, 512]⟩
abbrev S128x256 : Shape := ⟨2, ![128, 256]⟩
abbrev S128x128 : Shape := ⟨2, ![128, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩

abbrev nBuf : Space → Nat
  | .hbm => 14
  | .vmem => 18
  | .smem => 0
  | _ => 0

abbrev bufTy : (tb : Table) → Fin (tcTables nBuf tb) → BufTy
  | .hbm, ⟨0, _⟩ => ⟨S4x8192x512, .f32⟩
  | .hbm, ⟨1, _⟩ => ⟨S4x8192x512, .f32⟩
  | .hbm, ⟨2, _⟩ => ⟨S4x8192x512, .f32⟩
  | .hbm, ⟨3, _⟩ => ⟨S4x8192x512, .bf16⟩
  | .hbm, ⟨4, _⟩ => ⟨S2048x8192, .bf16⟩
  | .hbm, ⟨5, _⟩ => ⟨S4x8192x512, .bf16⟩
  | .hbm, ⟨6, _⟩ => ⟨S2048x8192, .bf16⟩
  | .hbm, ⟨7, _⟩ => ⟨S4x8192x512, .bf16⟩
  | .hbm, ⟨8, _⟩ => ⟨S2048x8192, .bf16⟩
  | .hbm, ⟨9, _⟩ => ⟨S4x512x8192, .bf16⟩
  | .hbm, ⟨10, _⟩ => ⟨S4x512x8192, .bf16⟩
  | .hbm, ⟨11, _⟩ => ⟨S4x512x8192, .bf16⟩
  | .hbm, ⟨12, _⟩ => ⟨S4x512x8192, .bf16⟩
  | .hbm, ⟨13, _⟩ => ⟨S4x512x8192, .f32⟩
  | .local _ .vmem, ⟨0, _⟩ => ⟨S1x128x512, .bf16⟩
  | .local _ .vmem, ⟨1, _⟩ => ⟨S1x128x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x128x512, .bf16⟩
  | .local _ .vmem, ⟨11, _⟩ => ⟨S1x128x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x128x512, .bf16⟩
  | .local _ .vmem, ⟨15, _⟩ => ⟨S1x128x512, .bf16⟩
  | .local _ .vmem, ⟨16, _⟩ => ⟨S1x128x512, .f32⟩
  | .local _ .vmem, ⟨17, _⟩ => ⟨S1x128x512, .f32⟩
  | _, _ => ⟨S4x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c7_i32 : BitVec 32 := 7#32
  let v2 : BitVec 32 := Scalar.minsi v1 c7_i32
  let c0_i32 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c2_i32 : BitVec 32 := 2#32
  let v1 : BitVec 32 := Scalar.muli v0 c2_i32
  let c7_i32 : BitVec 32 := 7#32
  let v2 : BitVec 32 := Scalar.minsi v1 c7_i32
  let c0_i32 : BitVec 32 := 0#32
  ![arg0.toNat, v2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelFarIdeal.lean ====
variable {F : FTy → Type} [FloatOps F] [Named F]
def κ : String → Option EReal := fun
  | "mask" => some ⊥
  | _ => none
-- ==== ReferenceFarIdeal.lean ====
abbrev S4x8192x512 : Shape := ⟨3, ![4, 8192, 512]⟩
abbrev S4x8192x8x64 : Shape := ⟨4, ![4, 8192, 8, 64]⟩
abbrev S8 : Shape := ⟨1, ![8]⟩
abbrev S_ : Shape := ⟨0, ![]⟩
abbrev S4x8x64x16x8x64 : Shape := ⟨6, ![4, 8, 64, 16, 8, 64]⟩
abbrev S4x512x16x8x64 : Shape := ⟨5, ![4, 512, 16, 8, 64]⟩
abbrev S4x640x16x8x64 : Shape := ⟨5, ![4, 640, 16, 8, 64]⟩
abbrev S4x10x64x16x8x64 : Shape := ⟨6, ![4, 10, 64, 16, 8, 64]⟩
abbrev S4x8x192x16x8x64 : Shape := ⟨6, ![4, 8, 192, 16, 8, 64]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S8x1x1 : Shape := ⟨3, ![8, 1, 1]⟩
abbrev S1x1x192 : Shape := ⟨3, ![1, 1, 192]⟩
abbrev S8x1x192 : Shape := ⟨3, ![8, 1, 192]⟩
abbrev S16 : Shape := ⟨1, ![16]⟩
abbrev S1x16x1 : Shape := ⟨3, ![1, 16, 1]⟩
abbrev S8x16x192 : Shape := ⟨3, ![8, 16, 192]⟩
abbrev S1x1x64x192 : Shape := ⟨4, ![1, 1, 64, 192]⟩
abbrev S8x16x1x192 : Shape := ⟨4, ![8, 16, 1, 192]⟩
abbrev S8x16x64x192 : Shape := ⟨4, ![8, 16, 64, 192]⟩
abbrev S1x64x192 : Shape := ⟨3, ![1, 64, 192]⟩
abbrev S8x64x192 : Shape := ⟨3, ![8, 64, 192]⟩
abbrev S4x8x16x8x64x192 : Shape := ⟨6, ![4, 8, 16, 8, 64, 192]⟩
abbrev S1x1x1x8x64x192 : Shape := ⟨6, ![1, 1, 1, 8, 64, 192]⟩
abbrev S1x8x16x1x64x192 : Shape := ⟨6, ![1, 8, 16, 1, 64, 192]⟩
abbrev S4x8x16x8x64 : Shape := ⟨5, ![4, 8, 16, 8, 64]⟩
abbrev S4x8x16x8x64x1 : Shape := ⟨6, ![4, 8, 16, 8, 64, 1]⟩
abbrev S4x8x16x8x64x64 : Shape := ⟨6, ![4, 8, 16, 8, 64, 64]⟩
abbrev S4x8x64x16x8 : Shape := ⟨5, ![4, 8, 64, 16, 8]⟩
abbrev S4x8192x8 : Shape := ⟨3, ![4, 8192, 8]⟩
abbrev S4x8192x8x1 : Shape := ⟨4, ![4, 8192, 8, 1]⟩
abbrev S4x512x8192 : Shape := ⟨3, ![4, 512, 8192]⟩

abbrev nBuf : Space → Nat
  | .hbm => 143
  | .vmem => 0
  | .smem => 0
  | _ => 0

abbrev hbmTy0_0 (i : Nat) : BufTy := match i % 128 with
  | 0 => ⟨S4x8192x512, .f32⟩
  | 1 => ⟨S4x8192x512, .f32⟩
  | 2 => ⟨S4x8192x512, .f32⟩
  | 3 => ⟨S4x8192x8x64, .f32⟩
  | 4 => ⟨S4x8192x8x64, .f32⟩
  | 5 => ⟨S4x8192x8x64, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .i32⟩
  | 20 => ⟨S_, .f32⟩
  | 21 => ⟨S4x8192x8x64, .f32⟩
  | 22 => ⟨S_, .i32⟩
  | 23 => ⟨S_, .f32⟩
  | 24 => ⟨S4x8192x8x64, .f32⟩
  | 25 => ⟨S_, .i32⟩
  | 26 => ⟨S_, .f32⟩
  | 27 => ⟨S4x8192x8x64, .f32⟩
  | 28 => ⟨S4x8x64x16x8x64, .f32⟩
  | 29 => ⟨S4x512x16x8x64, .f32⟩
  | 30 => ⟨S_, .i32⟩
  | 31 => ⟨S_, .f32⟩
  | 32 => ⟨S4x640x16x8x64, .f32⟩
  | 33 => ⟨S4x10x64x16x8x64, .f32⟩
  | 34 => ⟨S4x8x64x16x8x64, .f32⟩
  | 35 => ⟨S4x8x64x16x8x64, .f32⟩
  | 36 => ⟨S4x8x64x16x8x64, .f32⟩
  | 37 => ⟨S4x8x192x16x8x64, .f32⟩
  | 38 => ⟨S4x512x16x8x64, .f32⟩
  | 39 => ⟨S_, .i32⟩
  | 40 => ⟨S_, .f32⟩
  | 41 => ⟨S4x640x16x8x64, .f32⟩
  | 42 => ⟨S4x10x64x16x8x64, .f32⟩
  | 43 => ⟨S4x8x64x16x8x64, .f32⟩
  | 44 => ⟨S4x8x64x16x8x64, .f32⟩
  | 45 => ⟨S4x8x64x16x8x64, .f32⟩
  | 46 => ⟨S4x8x192x16x8x64, .f32⟩
  | 47 => ⟨S192, .i32⟩
  | 48 => ⟨S1x192, .i32⟩
  | 49 => ⟨S_, .i32⟩
  | 50 => ⟨S1x192, .i32⟩
  | 51 => ⟨S1x192, .i32⟩
  | 52 => ⟨S64, .i32⟩
  | 53 => ⟨S64x1, .i32⟩
  | 54 => ⟨S64x192, .i32⟩
  | 55 => ⟨S64x192, .i32⟩
  | 56 => ⟨S64x192, .i32⟩
  | 57 => ⟨S64x192, .i32⟩
  | 58 => ⟨S_, .i32⟩
  | 59 => ⟨S64x192, .i32⟩
  | 60 => ⟨S64x192, .i1⟩
  | 61 => ⟨S8, .i32⟩
  | 62 => ⟨S8x1x1, .i32⟩
  | 63 => ⟨S_, .i32⟩
  | 64 => ⟨S8x1x1, .i32⟩
  | 65 => ⟨S8x1x1, .i32⟩
  | 66 => ⟨S192, .i32⟩
  | 67 => ⟨S1x1x192, .i32⟩
  | 68 => ⟨S8x1x192, .i32⟩
  | 69 => ⟨S8x1x192, .i32⟩
  | 70 => ⟨S8x1x192, .i32⟩
  | 71 => ⟨S_, .i32⟩
  | 72 => ⟨S8x1x192, .i32⟩
  | 73 => ⟨S8x1x192, .i32⟩
  | 74 => ⟨S_, .i32⟩
  | 75 => ⟨S8x1x192, .i32⟩
  | 76 => ⟨S8x1x192, .i32⟩
  | 77 => ⟨S16, .i32⟩
  | 78 => ⟨S1x16x1, .i32⟩
  | 79 => ⟨S8x16x192, .i32⟩
  | 80 => ⟨S8x16x192, .i32⟩
  | 81 => ⟨S8x16x192, .i32⟩
  | 82 => ⟨S_, .i32⟩
  | 83 => ⟨S8x1x192, .i32⟩
  | 84 => ⟨S8x1x192, .i1⟩
  | 85 => ⟨S_, .i32⟩
  | 86 => ⟨S8x16x192, .i32⟩
  | 87 => ⟨S8x16x192, .i1⟩
  | 88 => ⟨S8x16x192, .i1⟩
  | 89 => ⟨S8x16x192, .i1⟩
  | 90 => ⟨S1x1x64x192, .i1⟩
  | 91 => ⟨S8x16x1x192, .i1⟩
  | 92 => ⟨S8x16x64x192, .i1⟩
  | 93 => ⟨S8x16x64x192, .i1⟩
  | 94 => ⟨S8x16x64x192, .i1⟩
  | 95 => ⟨S8x1x1, .f32⟩
  | 96 => ⟨S8x1x1, .f32⟩
  | 97 => ⟨S64x192, .i32⟩
  | 98 => ⟨S_, .i32⟩
  | 99 => ⟨S64x192, .i32⟩
  | 100 => ⟨S64x192, .i32⟩
  | 101 => ⟨S64x192, .f32⟩
  | 102 => ⟨S1x64x192, .f32⟩
  | 103 => ⟨S8x64x192, .f32⟩
  | 104 => ⟨S8x64x192, .f32⟩
  | 105 => ⟨S8x64x192, .f32⟩
  | 106 => ⟨S4x8x16x8x64x192, .f32⟩
  | 107 => ⟨S_, .f32⟩
  | 108 => ⟨S4x8x16x8x64x192, .f32⟩
  | 109 => ⟨S4x8x16x8x64x192, .f32⟩
  | 110 => ⟨S1x1x1x8x64x192, .f32⟩
  | 111 => ⟨S4x8x16x8x64x192, .f32⟩
  | 112 => ⟨S4x8x16x8x64x192, .f32⟩
  | 113 => ⟨S1x8x16x1x64x192, .i1⟩
  | 114 => ⟨S_, .f32⟩
  | 115 => ⟨S_, .f32⟩
  | 116 => ⟨S4x8x16x8x64x192, .i1⟩
  | 117 => ⟨S4x8x16x8x64x192, .f32⟩
  | 118 => ⟨S4x8x16x8x64x192, .f32⟩
  | 119 => ⟨S_, .f32⟩
  | 120 => ⟨S4x8x16x8x64, .f32⟩
  | 121 => ⟨S4x8x16x8x64x1, .f32⟩
  | 122 => ⟨S4x8x16x8x64x192, .f32⟩
  | 123 => ⟨S4x8x16x8x64x192, .f32⟩
  | 124 => ⟨S4x8x16x8x64x192, .f32⟩
  | 125 => ⟨S_, .f32⟩
  | 126 => ⟨S4x8x16x8x64, .f32⟩
  | 127 => ⟨S4x8x16x8x64, .f32⟩
  | _ => ⟨S4x8192x512, .f32⟩

abbrev hbmTy0_1 (i : Nat) : BufTy := match i % 128 with
  | 0 => ⟨S4x8x16x8x64, .f32⟩
  | 1 => ⟨S4x8x16x8x64x1, .f32⟩
  | 2 => ⟨S4x8x16x8x64x192, .f32⟩
  | 3 => ⟨S4x8x16x8x64x192, .f32⟩
  | 4 => ⟨S4x8x16x8x64x192, .f32⟩
  | 5 => ⟨S4x8x16x8x64x64, .f32⟩
  | 6 => ⟨S4x8x64x16x8x64, .f32⟩
  | 7 => ⟨S4x8192x8x64, .f32⟩
  | 8 => ⟨S4x8x64x16x8, .f32⟩
  | 9 => ⟨S4x8192x8, .f32⟩
  | 10 => ⟨S4x8192x8x1, .f32⟩
  | 11 => ⟨S4x8192x8x64, .f32⟩
  | 12 => ⟨S4x8192x8x64, .bf16⟩
  | 13 => ⟨S4x512x8192, .bf16⟩
  | 14 => ⟨S4x512x8192, .f32⟩
  | _ => ⟨S4x8192x512, .f32⟩

abbrev hbmTy (i : Nat) : BufTy := match i / 128 with
  | 0 => hbmTy0_0 i
  | 1 => hbmTy0_1 i
  | _ => ⟨S4x8192x512, .f32⟩

abbrev bufTy : (tb : Table) → Fin (tcTables nBuf tb) → BufTy
  | .hbm, ⟨i, _⟩ => hbmTy i
  | _, _ => ⟨S4x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_c_3 : Ref sig .tc := ⟨.hbm, 22, rfl⟩
abbrev main_call1_v0 : Ref sig .tc := ⟨.hbm, 23, rfl⟩
abbrev main_v13 : Ref sig .tc := ⟨.hbm, 24, rfl⟩
abbrev main_c_4 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_call3_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_call4_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_c_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_15 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_16 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_18 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩

abbrev nD : Nat := 1
abbrev τ : Topo := Topo.v7x

variable {F : FTy → Type} [FloatOps F]
-- ==== KernelIn.lean ====
abbrev S4x8192x1024 : Shape := ⟨3, ![4, 8192, 1024]⟩
abbrev S1024 : Shape := ⟨1, ![1024]⟩
abbrev S1024x6656 : Shape := ⟨2, ![1024, 6656]⟩
abbrev S32768x1024 : Shape := ⟨2, ![32768, 1024]⟩
abbrev S1x1024 : Shape := ⟨2, ![1, 1024]⟩
abbrev S32768x512 : Shape := ⟨2, ![32768, 512]⟩
abbrev S8192x2048 : Shape := ⟨2, ![8192, 2048]⟩
abbrev S2048x8192 : Shape := ⟨2, ![2048, 8192]⟩
abbrev S512x1024 : Shape := ⟨2, ![512, 1024]⟩
abbrev S512x512 : Shape := ⟨2, ![512, 512]⟩
abbrev S128x2048 : Shape := ⟨2, ![128, 2048]⟩
abbrev S32x8192 : Shape := ⟨2, ![32, 8192]⟩
abbrev S4x512x128 : Shape := ⟨3, ![4, 512, 128]⟩
abbrev S512 : Shape := ⟨1, ![512]⟩
abbrev S512x1 : Shape := ⟨2, ![512, 1]⟩
abbrev S1024x512 : Shape := ⟨2, ![1024, 512]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 19
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6656, .f32⟩
  | .hbm, ⟨3, _⟩ => ⟨S32768x1024, .f32⟩
  | .hbm, ⟨4, _⟩ => ⟨S1x1024, .f32⟩
  | .hbm, ⟨5, _⟩ => ⟨S1024x6656, .bf16⟩
  | .hbm, ⟨6, _⟩ => ⟨S32768x1024, .bf16⟩
  | .hbm, ⟨7, _⟩ => ⟨S32768x1024, .bf16⟩
  | .hbm, ⟨8, _⟩ => ⟨S32768x1024, .bf16⟩
  | .hbm, ⟨9, _⟩ => ⟨S32768x1024, .bf16⟩
  | .hbm, ⟨10, _⟩ => ⟨S32768x512, .bf16⟩
  | .hbm, ⟨11, _⟩ => ⟨S32768x512, .bf16⟩
  | .hbm, ⟨12, _⟩ => ⟨S32768x512, .bf16⟩
  | .hbm, ⟨13, _⟩ => ⟨S8192x2048, .bf16⟩
  | .hbm, ⟨14, _⟩ => ⟨S8192x2048, .bf16⟩
  | .hbm, ⟨15, _⟩ => ⟨S8192x2048, .bf16⟩
  | .hbm, ⟨16, _⟩ => ⟨S2048x8192, .bf16⟩
  | .hbm, ⟨17, _⟩ => ⟨S2048x8192, .bf16⟩
  | .hbm, ⟨18, _⟩ => ⟨S2048x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6656, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S32x8192, .bf16⟩
  | .local _ .vmem, ⟨25, _⟩ => ⟨S32x8192, .bf16⟩
  | .local _ .vmem, ⟨26, _⟩ => ⟨S32x8192, .bf16⟩
  | .local _ .vmem, ⟨27, _⟩ => ⟨S32x8192, .bf16⟩
  | .local _ .vmem, ⟨28, _⟩ => ⟨S32x8192, .bf16⟩
  | .local _ .vmem, ⟨29, _⟩ => ⟨S32x8192, .bf16⟩
  | .local _ .vmem, ⟨30, _⟩ => ⟨S4x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev main_v3_6 : Ref sig .tc := ⟨.hbm, 12, rfl⟩
abbrev main_v3_7 : Ref sig .tc := ⟨.hbm, 13, rfl⟩
abbrev main_v3_8 : Ref sig .tc := ⟨.hbm, 14, rfl⟩
abbrev main_v3_9 : Ref sig .tc := ⟨.hbm, 15, rfl⟩
abbrev main_v3_10 : Ref sig .tc := ⟨.hbm, 16, rfl⟩
abbrev main_v3_11 : Ref sig .tc := ⟨.hbm, 17, rfl⟩
abbrev main_v3_12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x8192 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelInIdeal.lean ====
variable {F : FTy → Type} [FloatOps F] [Named F]
def κ : String → Option EReal := fun
  | "half_root" => some (((Real.sqrt 2)⁻¹ : ℝ) : EReal)
  | _ => none
-- ==== ReferenceInIdeal.lean ====
abbrev S4x8192x1024 : Shape := ⟨3, ![4, 8192, 1024]⟩
abbrev S1024 : Shape := ⟨1, ![1024]⟩
abbrev S1024x6656 : Shape := ⟨2, ![1024, 6656]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6656 : Shape := ⟨3, ![4, 8192, 6656]⟩
abbrev S4x8192x1536 : Shape := ⟨3, ![4, 8192, 1536]⟩
abbrev S4x8192x512 : Shape := ⟨3, ![4, 8192, 512]⟩
abbrev S4x8192x3x512 : Shape := ⟨4, ![4, 8192, 3, 512]⟩
abbrev S32768x1024 : Shape := ⟨2, ![32768, 1024]⟩
abbrev S4x8192x1x512 : Shape := ⟨4, ![4, 8192, 1, 512]⟩
abbrev S32768x512 : Shape := ⟨2, ![32768, 512]⟩
abbrev S8192x2048 : Shape := ⟨2, ![8192, 2048]⟩
abbrev S2048x8192 : Shape := ⟨2, ![2048, 8192]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x6656, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x6656, .f32⟩
  | .hbm, ⟨20, _⟩ => ⟨S4x8192x1024, .f32⟩
  | .hbm, ⟨21, _⟩ => ⟨S4x8192x1024, .f32⟩
  | .hbm, ⟨22, _⟩ => ⟨S4x8192x1536, .f32⟩
  | .hbm, ⟨23, _⟩ => ⟨S4x8192x512, .f32⟩
  | .hbm, ⟨24, _⟩ => ⟨S4x8192x512, .f32⟩
  | .hbm, ⟨25, _⟩ => ⟨S4x8192x1024, .f32⟩
  | .hbm, ⟨26, _⟩ => ⟨S4x8192x1024, .f32⟩
  | .hbm, ⟨27, _⟩ => ⟨S4x8192x3x512, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S_, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S_, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .f32⟩
  | .hbm, ⟨54, _⟩ => ⟨S_, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192x1024, .f32⟩
  | .hbm, ⟨67, _⟩ => ⟨S4x8192x1024, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S4x8192x1x512, .f32⟩
  | .hbm, ⟨73, _⟩ => ⟨S4x8192x512, .f32⟩
  | .hbm, ⟨74, _⟩ => ⟨S32768x512, .f32⟩
  | .hbm, ⟨75, _⟩ => ⟨S32768x512, .f32⟩
  | .hbm, ⟨76, _⟩ => ⟨S32768x512, .f32⟩
  | .hbm, ⟨77, _⟩ => ⟨S4x8192x1x512, .f32⟩
  | .hbm, ⟨78, _⟩ => ⟨S4x8192x512, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S4x8192x1x512, .f32⟩
  | .hbm, ⟨83, _⟩ => ⟨S4x8192x512, .f32⟩
  | .hbm, ⟨84, _⟩ => ⟨S2048x8192, .f32⟩
  | .hbm, ⟨85, _⟩ => ⟨S2048x8192, .f32⟩
  | .hbm, ⟨86, _⟩ => ⟨S2048x8192, .f32⟩
  | .hbm, ⟨87, _⟩ => ⟨S32768x1024, .bf16⟩
  | .hbm, ⟨88, _⟩ => ⟨S32768x1024, .bf16⟩
  | .hbm, ⟨89, _⟩ => ⟨S32768x1024, .bf16⟩
  | .hbm, ⟨90, _⟩ => ⟨S32768x1024, .bf16⟩
  | .hbm, ⟨91, _⟩ => ⟨S32768x512, .bf16⟩
  | .hbm, ⟨92, _⟩ => ⟨S32768x512, .bf16⟩
  | .hbm, ⟨93, _⟩ => ⟨S32768x512, .bf16⟩
  | .hbm, ⟨94, _⟩ => ⟨S8192x2048, .bf16⟩
  | .hbm, ⟨95, _⟩ => ⟨S8192x2048, .bf16⟩
  | .hbm, ⟨96, _⟩ => ⟨S8192x2048, .bf16⟩
  | .hbm, ⟨97, _⟩ => ⟨S2048x8192, .bf16⟩
  | .hbm, ⟨98, _⟩ => ⟨S2048x8192, .bf16⟩
  | .hbm, ⟨99, _⟩ => ⟨S2048x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_cst_9 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_10 : Ref sig .tc := ⟨.hbm, 62, rfl⟩
abbrev main_v48 : Ref sig .tc := ⟨.hbm, 63, rfl⟩
abbrev main_v49 : Ref sig .tc := ⟨.hbm, 64, rfl⟩
abbrev main_cst_11 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩

abbrev nD : Nat := 1
abbrev τ : Topo := Topo.v7x

variable {F : FTy → Type} [FloatOps F]
-- ==== KernelSgu.lean ====
abbrev S4x8192x1024 : Shape := ⟨3, ![4, 8192, 1024]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S32768x1024 : Shape := ⟨2, ![32768, 1024]⟩
abbrev S8x128x1 : Shape := ⟨3, ![8, 128, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1024 : Shape := ⟨2, ![128, 1024]⟩

abbrev nBuf : Space → Nat
  | .hbm => 19
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S32768x1024, .f32⟩
  | .hbm, ⟨8, _⟩ => ⟨S32768x1024, .bf16⟩
  | .hbm, ⟨9, _⟩ => ⟨S32768x1024, .f32⟩
  | .hbm, ⟨10, _⟩ => ⟨S32768x1024, .bf16⟩
  | .hbm, ⟨11, _⟩ => ⟨S32768x1024, .f32⟩
  | .hbm, ⟨12, _⟩ => ⟨S32768x1024, .bf16⟩
  | .hbm, ⟨13, _⟩ => ⟨S8x128x1, .f32⟩
  | .hbm, ⟨14, _⟩ => ⟨S8x128x128, .f32⟩
  | .hbm, ⟨15, _⟩ => ⟨S1x1024, .f32⟩
  | .hbm, ⟨16, _⟩ => ⟨S8x128x128, .bf16⟩
  | .hbm, ⟨17, _⟩ => ⟨S1024x1024, .bf16⟩
  | .hbm, ⟨18, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S8x128x128, .bf16⟩
  | .local _ .vmem, ⟨8, _⟩ => ⟨S8x128x128, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceSguIdeal.lean ====
abbrev S4x8192x1024 : Shape := ⟨3, ![4, 8192, 1024]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x64x128x8x128 : Shape := ⟨5, ![4, 64, 128, 8, 128]⟩
abbrev S8x4x64x128x128 : Shape := ⟨5, ![8, 4, 64, 128, 128]⟩
abbrev S128x8 : Shape := ⟨2, ![128, 8]⟩
abbrev S1x1x128x8x1 : Shape := ⟨5, ![1, 1, 128, 8, 1]⟩
abbrev S32768x1024 : Shape := ⟨2, ![32768, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x64x128x8x128, .f32⟩
  | .hbm, ⟨24, _⟩ => ⟨S8x4x64x128x128, .f32⟩
  | .hbm, ⟨25, _⟩ => ⟨S4x64x128x8x128, .f32⟩
  | .hbm, ⟨26, _⟩ => ⟨S128x8, .f32⟩
  | .hbm, ⟨27, _⟩ => ⟨S1x1x128x8x1, .f32⟩
  | .hbm, ⟨28, _⟩ => ⟨S4x64x128x8x128, .f32⟩
  | .hbm, ⟨29, _⟩ => ⟨S4x64x128x8x128, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S32768x1024, .f32⟩
  | .hbm, ⟨35, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== KernelMerge.lean ====
abbrev S4x8192x1024 : Shape := ⟨3, ![4, 8192, 1024]⟩
abbrev S4x8192x8x64 : Shape := ⟨4, ![4, 8192, 8, 64]⟩
abbrev S4x8192x8 : Shape := ⟨3, ![4, 8192, 8]⟩
abbrev S512x1024 : Shape := ⟨2, ![512, 1024]⟩
abbrev S1024x1024 : Shape := ⟨2, ![1024, 1024]⟩
abbrev S1024 : Shape := ⟨1, ![1024]⟩
abbrev S32768x1024 : Shape := ⟨2, ![32768, 1024]⟩
abbrev S32768x512 : Shape := ⟨2, ![32768, 512]⟩
abbrev S4x8192x8x1 : Shape := ⟨4, ![4, 8192, 8, 1]⟩
abbrev S8192x2048 : Shape := ⟨2, ![8192, 2048]⟩
abbrev S2048x8192 : Shape := ⟨2, ![2048, 8192]⟩
abbrev S1x1024 : Shape := ⟨2, ![1, 1024]⟩
abbrev S262144x128 : Shape := ⟨2, ![262144, 128]⟩
abbrev S512x512 : Shape := ⟨2, ![512, 512]⟩
abbrev S128x2048 : Shape := ⟨2, ![128, 2048]⟩
abbrev S32x8192 : Shape := ⟨2, ![32, 8192]⟩
abbrev S4096x128 : Shape := ⟨2, ![4096, 128]⟩
abbrev S4x512x128 : Shape := ⟨3, ![4, 512, 128]⟩
abbrev S128x128 : Shape := ⟨2, ![128, 128]⟩
abbrev S1x128x128 : Shape := ⟨3, ![1, 128, 128]⟩
abbrev S1x512x128 : Shape := ⟨3, ![1, 512, 128]⟩
abbrev S512x128 : Shape := ⟨2, ![512, 128]⟩
abbrev S32x128 : Shape := ⟨2, ![32, 128]⟩
abbrev S1x32x128 : Shape := ⟨3, ![1, 32, 128]⟩
abbrev S512 : Shape := ⟨1, ![512]⟩
abbrev S512x1 : Shape := ⟨2, ![512, 1]⟩

abbrev nBuf : Space → Nat
  | .hbm => 37
  | .vmem => 29
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x8x64, .f32⟩
  | .hbm, ⟨4, _⟩ => ⟨S4x8192x8x64, .f32⟩
  | .hbm, ⟨5, _⟩ => ⟨S4x8192x8x64, .f32⟩
  | .hbm, ⟨6, _⟩ => ⟨S4x8192x8, .f32⟩
  | .hbm, ⟨7, _⟩ => ⟨S4x8192x8, .f32⟩
  | .hbm, ⟨8, _⟩ => ⟨S4x8192x8, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S32768x1024, .f32⟩
  | .hbm, ⟨13, _⟩ => ⟨S32768x1024, .bf16⟩
  | .hbm, ⟨14, _⟩ => ⟨S32768x1024, .f32⟩
  | .hbm, ⟨15, _⟩ => ⟨S32768x1024, .bf16⟩
  | .hbm, ⟨16, _⟩ => ⟨S32768x512, .f32⟩
  | .hbm, ⟨17, _⟩ => ⟨S32768x512, .bf16⟩
  | .hbm, ⟨18, _⟩ => ⟨S4x8192x8x1, .f32⟩
  | .hbm, ⟨19, _⟩ => ⟨S4x8192x8x64, .f32⟩
  | .hbm, ⟨20, _⟩ => ⟨S32768x512, .f32⟩
  | .hbm, ⟨21, _⟩ => ⟨S8192x2048, .f32⟩
  | .hbm, ⟨22, _⟩ => ⟨S8192x2048, .bf16⟩
  | .hbm, ⟨23, _⟩ => ⟨S4x8192x8x1, .f32⟩
  | .hbm, ⟨24, _⟩ => ⟨S4x8192x8x64, .f32⟩
  | .hbm, ⟨25, _⟩ => ⟨S8192x2048, .f32⟩
  | .hbm, ⟨26, _⟩ => ⟨S2048x8192, .f32⟩
  | .hbm, ⟨27, _⟩ => ⟨S2048x8192, .bf16⟩
  | .hbm, ⟨28, _⟩ => ⟨S4x8192x8x1, .f32⟩
  | .hbm, ⟨29, _⟩ => ⟨S4x8192x8x64, .f32⟩
  | .hbm, ⟨30, _⟩ => ⟨S2048x8192, .f32⟩
  | .hbm, ⟨31, _⟩ => ⟨S32768x1024, .f32⟩
  | .hbm, ⟨32, _⟩ => ⟨S512x1024, .bf16⟩
  | .hbm, ⟨33, _⟩ => ⟨S1024x1024, .bf16⟩
  | .hbm, ⟨34, _⟩ => ⟨S1x1024, .f32⟩
  | .hbm, ⟨35, _⟩ => ⟨S262144x128, .f32⟩
  | .hbm, ⟨36, _⟩ => ⟨S262144x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S128x2048, .bf16⟩
  | .local _ .vmem, ⟨9, _⟩ => ⟨S128x2048, .bf16⟩
  | .local _ .vmem, ⟨10, _⟩ => ⟨S32x8192, .bf16⟩
  | .local _ .vmem, ⟨11, _⟩ => ⟨S32x8192, .bf16⟩
  | .local _ .vmem, ⟨12, _⟩ => ⟨S512x512, .f32⟩
  | .local _ .vmem, ⟨13, _⟩ => ⟨S512x512, .f32⟩
  | .local _ .vmem, ⟨14, _⟩ => ⟨S128x2048, .f32⟩
  | .local _ .vmem, ⟨15, _⟩ => ⟨S128x2048, .f32⟩
  | .local _ .vmem, ⟨16, _⟩ => ⟨S32x8192, .f32⟩
  | .local _ .vmem, ⟨17, _⟩ => ⟨S32x8192, .f32⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4x512x128, .f32⟩
  | .local _ .vmem, ⟨26, _⟩ => ⟨S4x512x128, .f32⟩
  | .local _ .vmem, ⟨27, _⟩ => ⟨S4x512x128, .f32⟩
  | .local _ .vmem, ⟨28, _⟩ => ⟨S4x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceMergeIdeal.lean ====
abbrev S4x8192x1024 : Shape := ⟨3, ![4, 8192, 1024]⟩
abbrev S4x8192x8x64 : Shape := ⟨4, ![4, 8192, 8, 64]⟩
abbrev S4x8192x8 : Shape := ⟨3, ![4, 8192, 8]⟩
abbrev S512x1024 : Shape := ⟨2, ![512, 1024]⟩
abbrev S1024x1024 : Shape := ⟨2, ![1024, 1024]⟩
abbrev S1024 : Shape := ⟨1, ![1024]⟩
abbrev S1x4x8192x8 : Shape := ⟨4, ![1, 4, 8192, 8]⟩
abbrev S3x4x8192x8 : Shape := ⟨4, ![3, 4, 8192, 8]⟩
abbrev S_ : Shape := ⟨0, ![]⟩
abbrev S1x4x8192x8x64 : Shape := ⟨5, ![1, 4, 8192, 8, 64]⟩
abbrev S3x4x8192x8x64 : Shape := ⟨5, ![3, 4, 8192, 8, 64]⟩
abbrev S4x8192x512 : Shape := ⟨3, ![4, 8192, 512]⟩
abbrev S262144x128 : Shape := ⟨2, ![262144, 128]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x8192x1024, .f32⟩
  | .hbm, ⟨3, _⟩ => ⟨S4x8192x8x64, .f32⟩
  | .hbm, ⟨4, _⟩ => ⟨S4x8192x8x64, .f32⟩
  | .hbm, ⟨5, _⟩ => ⟨S4x8192x8x64, .f32⟩
  | .hbm, ⟨6, _⟩ => ⟨S4x8192x8, .f32⟩
  | .hbm, ⟨7, _⟩ => ⟨S4x8192x8, .f32⟩
  | .hbm, ⟨8, _⟩ => ⟨S4x8192x8, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S1x4x8192x8, .f32⟩
  | .hbm, ⟨13, _⟩ => ⟨S1x4x8192x8, .f32⟩
  | .hbm, ⟨14, _⟩ => ⟨S1x4x8192x8, .f32⟩
  | .hbm, ⟨15, _⟩ => ⟨S3x4x8192x8, .f32⟩
  | .hbm, ⟨16, _⟩ => ⟨S_, .f32⟩
  | .hbm, ⟨17, _⟩ => ⟨S4x8192x8, .f32⟩
  | .hbm, ⟨18, _⟩ => ⟨S_, .f32⟩
  | .hbm, ⟨19, _⟩ => ⟨S4x8192x8, .f32⟩
  | .hbm, ⟨20, _⟩ => ⟨S4x8192x8, .f32⟩
  | .hbm, ⟨21, _⟩ => ⟨S1x4x8192x8, .f32⟩
  | .hbm, ⟨22, _⟩ => ⟨S3x4x8192x8, .f32⟩
  | .hbm, ⟨23, _⟩ => ⟨S3x4x8192x8, .f32⟩
  | .hbm, ⟨24, _⟩ => ⟨S3x4x8192x8, .f32⟩
  | .hbm, ⟨25, _⟩ => ⟨S_, .f32⟩
  | .hbm, ⟨26, _⟩ => ⟨S4x8192x8, .f32⟩
  | .hbm, ⟨27, _⟩ => ⟨S1x4x8192x8, .f32⟩
  | .hbm, ⟨28, _⟩ => ⟨S3x4x8192x8, .f32⟩
  | .hbm, ⟨29, _⟩ => ⟨S3x4x8192x8, .f32⟩
  | .hbm, ⟨30, _⟩ => ⟨S1x4x8192x8x64, .f32⟩
  | .hbm, ⟨31, _⟩ => ⟨S1x4x8192x8x64, .f32⟩
  | .hbm, ⟨32, _⟩ => ⟨S1x4x8192x8x64, .f32⟩
  | .hbm, ⟨33, _⟩ => ⟨S3x4x8192x8x64, .f32⟩
  | .hbm, ⟨34, _⟩ => ⟨S4x8192x8x64, .f32⟩
  | .hbm, ⟨35, _⟩ => ⟨S4x8192x512, .f32⟩
  | .hbm, ⟨36, _⟩ => ⟨S4x8192x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S4x8192x1024, .f32⟩
  | .hbm, ⟨41, _⟩ => ⟨S262144x128, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x1, .f32⟩
  | .hbm, ⟨53, _⟩ => ⟨S4x8192x1024, .f32⟩
  | .hbm, ⟨54, _⟩ => ⟨S4x8192x1024, .f32⟩
  | .hbm, ⟨55, _⟩ => ⟨S1x1x1024, .f32⟩
  | .hbm, ⟨56, _⟩ => ⟨S4x8192x1024, .f32⟩
  | .hbm, ⟨57, _⟩ => ⟨S4x8192x1024, .f32⟩
  | .hbm, ⟨58, _⟩ => ⟨S262144x128, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Proof.Band.lean ====
/- One softmax row on extended reals, in the two forms the programs take it: over all the columns of a tile with the
   columns outside the band at minus infinity and the division done after the weighted sum, and over the band's columns
   alone with the weights divided first. The two forms agree whenever no score is plus infinity and some score is real. -/
module

public import Idealize.ShloMosaic.PureOps.Ideal
public import Idealize.ShloMosaic.PureOps.Ideal.Laws

@[expose] public section

set_option maxRecDepth 16384

noncomputable section

namespace Cert.Band

open Idealize.ShloMosaic

/-- The largest score of a row. -/
def top {ι : Type} [Fintype ι] (s : ι → EReal) : EReal := Finset.univ.fold max ⊥ s

/-- The sum of the exponentials of a row's scores less the largest. -/
def mass {ι : Type} [Fintype ι] (s : ι → EReal) : EReal := ∑ c, Ideal.exp (s c - top s)

/-- The logarithm of the sum of the exponentials of a row's scores. -/
def lse {ι : Type} [Fintype ι] (s : ι → EReal) : EReal := top s + Ideal.log (mass s)

theorem top_eq_sup {ι : Type} [Fintype ι] (s : ι → EReal) : top s = Finset.univ.sup s := rfl

theorem exp_bot : Ideal.exp ⊥ = 0 := rfl
theorem exp_coe (r : ℝ) : Ideal.exp (r : EReal) = (Real.exp r : EReal) := rfl
theorem log_pos {r : ℝ} (h : 0 < r) : Ideal.log (r : EReal) = (Real.log r : EReal) := by
  show (if r ≤ 0 then (⊥ : EReal) else _) = _
  rw [if_neg (not_le.mpr h)]

/-- A sum of extended reals times a real that is not negative is the sum of the products. -/
theorem sum_mul_coe {ι : Type} (S : Finset ι) (f : ι → EReal) {r : ℝ} (hr : 0 ≤ r) :
    (∑ c ∈ S, f c) * (r : EReal) = ∑ c ∈ S, f c * (r : EReal) := by
  classical
  induction S using Finset.induction_on with
  | empty => simp
  | insert a S ha ih =>
    rw [Finset.sum_insert ha, Finset.sum_insert ha, ← ih,
      EReal.right_distrib_of_nonneg_of_ne_top (EReal.coe_nonneg.mpr hr) (EReal.coe_ne_top r)]

/-- A sum of reals read as extended reals. -/
theorem coe_sum {ι : Type} (S : Finset ι) (f : ι → ℝ) : ((∑ c ∈ S, f c : ℝ) : EReal) = ∑ c ∈ S, (f c : EReal) := by
  classical
  induction S using Finset.induction_on with
  | empty => simp
  | insert a S ha ih => rw [Finset.sum_insert ha, Finset.sum_insert ha, EReal.coe_add, ih]

section Row
variable {ι κ : Type} [Fintype ι] [Fintype κ] (e : ι ↪ κ) (s v : κ → EReal) (t u : ι → EReal)

/-- A sum over all the columns of a function that vanishes off the band is the sum over the band. -/
theorem sum_band (f : κ → EReal) (h : ∀ c, c ∉ Set.range e → f c = 0) : ∑ c, f c = ∑ j, f (e j) := by
  classical
  rw [← Finset.sum_map Finset.univ e f]
  refine (Finset.sum_subset (Finset.subset_univ _) fun c _ hc => h c ?_).symm
  rintro ⟨j, rfl⟩
  exact hc (Finset.mem_map_of_mem e (Finset.mem_univ j))

/-- The largest score over all the columns is the largest over the band. -/
theorem top_band (hst : ∀ j, s (e j) = t j) (hoff : ∀ c, c ∉ Set.range e → s c = ⊥) : top s = top t := by
  rw [top_eq_sup, top_eq_sup]
  apply le_antisymm
  · refine Finset.sup_le fun c _ => ?_
    by_cases hc : c ∈ Set.range e
    · obtain ⟨j, rfl⟩ := hc
      rw [hst]; exact Finset.le_sup (Finset.mem_univ j)
    · rw [hoff c hc]; exact bot_le
  · refine Finset.sup_le fun j _ => ?_
    rw [← hst]; exact Finset.le_sup (Finset.mem_univ (e j))

/-- The mass over all the columns is the mass over the band. -/
theorem mass_band (hst : ∀ j, s (e j) = t j) (hoff : ∀ c, c ∉ Set.range e → s c = ⊥) : mass s = mass t := by
  unfold mass
  rw [top_band e s t hst hoff, sum_band e _ (fun c hc => by rw [hoff c hc, EReal.bot_sub]; rfl)]
  exact Finset.sum_congr rfl fun j _ => by rw [hst]

/-- The logarithm over all the columns is the logarithm over the band. -/
theorem lse_band (hst : ∀ j, s (e j) = t j) (hoff : ∀ c, c ∉ Set.range e → s c = ⊥) : lse s = lse t := by
  unfold lse
  rw [top_band e s t hst hoff, mass_band e s t hst hoff]

/-- The largest score of a row whose scores are below plus infinity and not all minus infinity is a real. -/
theorem top_real (hlt : ∀ j, t j ≠ ⊤) (hex : ∃ j, t j ≠ ⊥) : ∃ M : ℝ, top t = (M : EReal) := by
  have h1 : top t ≠ ⊤ := by
    rw [top_eq_sup]
    exact ne_of_lt ((Finset.sup_lt_iff bot_lt_top).mpr fun j _ => lt_top_iff_ne_top.mpr (hlt j))
  have h2 : top t ≠ ⊥ := by
    obtain ⟨j, hj⟩ := hex
    rw [top_eq_sup]
    intro h
    exact hj (le_bot_iff.mp (h ▸ Finset.le_sup (f := t) (Finset.mem_univ j)))
  exact ⟨(top t).toReal, (EReal.coe_toReal h1 h2).symm⟩

/-- Such a row's exponentials are reals, none negative, and their sum is a positive real. -/
theorem mass_real (hlt : ∀ j, t j ≠ ⊤) (hex : ∃ j, t j ≠ ⊥) : ∃ (M L : ℝ) (p : ι → ℝ), top t = (M : EReal) ∧ mass t = (L : EReal) ∧ 0 < L
    ∧ (∀ j, 0 ≤ p j) ∧ (∀ j, Ideal.exp (t j - top t) = (p j : EReal)) ∧ (∀ j, t j = ⊥ → p j = 0)
    ∧ (∀ j (x : ℝ), t j = (x : EReal) → p j = Real.exp (x - M)) := by
  obtain ⟨M, hM⟩ := top_real t hlt hex
  let p : ι → ℝ := fun j => if t j = ⊥ then 0 else Real.exp ((t j).toReal - M)
  have hp : ∀ j, Ideal.exp (t j - top t) = (p j : EReal) := by
    intro j
    by_cases hj : t j = ⊥
    · simp only [p, if_pos hj, hj, EReal.bot_sub]; rfl
    · simp only [p, if_neg hj]
      rw [hM, ← EReal.coe_toReal (hlt j) hj, ← EReal.coe_sub, exp_coe, EReal.toReal_coe]
  have hp0 : ∀ j, 0 ≤ p j := by
    intro j; simp only [p]; split_ifs
    · exact le_refl 0
    · exact (Real.exp_pos _).le
  refine ⟨M, ∑ j, p j, p, hM, ?_, ?_, hp0, hp, fun j hj => by simp only [p, if_pos hj], fun j x hx => by
    simp only [p, hx, EReal.coe_ne_bot, if_false, EReal.toReal_coe]⟩
  · unfold mass; rw [coe_sum]; exact Finset.sum_congr rfl fun j _ => hp j
  · obtain ⟨j, hj⟩ := hex
    refine Finset.sum_pos' (fun j _ => hp0 j) ⟨j, Finset.mem_univ j, ?_⟩
    simp only [p, if_neg hj]; exact Real.exp_pos _

/-- The weighted sum divided at the end is the weighted sum with the divided weights, over the band alone. The values
    need agree only where the score is not minus infinity. -/
theorem out_band (hst : ∀ j, s (e j) = t j) (hoff : ∀ c, c ∉ Set.range e → s c = ⊥)
    (hlt : ∀ j, t j ≠ ⊤) (hex : ∃ j, t j ≠ ⊥) (huv : ∀ j, t j ≠ ⊥ → v (e j) = u j) :
    Ideal.div (∑ c, Ideal.exp (s c - top s) * v c) (mass s) = ∑ j, u j * Ideal.exp (t j - lse t) := by
  obtain ⟨M, L, p, hM, hL, hL0, hp0, hp, hb, hx⟩ := mass_real t hlt hex
  rw [mass_band e s t hst hoff, hL, Ideal.div_coe hL0.ne', top_band e s t hst hoff,
    sum_band e _ (fun c hc => by rw [hoff c hc, EReal.bot_sub, exp_bot, zero_mul]),
    sum_mul_coe _ _ (one_div_nonneg.mpr hL0.le)]
  refine Finset.sum_congr rfl fun j _ => ?_
  rw [hst]
  unfold lse
  by_cases hj : t j = ⊥
  · rw [hj, EReal.bot_sub, EReal.bot_sub, exp_bot, zero_mul, zero_mul, mul_zero]
  · have hr : t j = ((t j).toReal : EReal) := (EReal.coe_toReal (hlt j) hj).symm
    rw [huv j hj, hp j, hM, hL, log_pos hL0, hr, ← EReal.coe_add, ← EReal.coe_sub, exp_coe, hx j _ hr, mul_comm _ (u j), mul_assoc,
      ← EReal.coe_mul]
    congr 2
    rw [← sub_sub, Real.exp_sub (_ - _) (Real.log L), Real.exp_log hL0]; ring

end Row

end Cert.Band

end
-- ==== Proof.Head.lean ====
/- One tile of the banded attention as the kernel's body computes it, two heads side by side in 128 lanes: the tile's
   integer masks, one head's scores, its weighted values and the logarithm of its mass, each read at an index. -/
module

public import Idealize.ShloMosaic.Lib.Pointwise
public import Idealize.ShloMosaic.Lib.WordCmp
public import proofs.«01_k».proof.Proof.Band

@[expose] public section

set_option maxRecDepth 16384

noncomputable section

namespace Cert.Head

open Idealize.ShloMosaic

/-- A word below the sign bit, read signed. -/
theorem int_nat {a : ℕ} (h : a < 2 ^ 31) : (BitVec.ofNat 32 a).toInt = (a : ℤ) := WordCmp.toInt_ofNat_of_lt h

theorem int_fit {z : ℤ} (h1 : -2 ^ 31 ≤ z) (h2 : z < 2 ^ 31) : z.bmod (2 ^ 32) = z :=
  Int.bmod_eq_of_le (by norm_num; omega) (by norm_num; omega)

theorem int_sub {x y : BitVec 32} {a b : ℤ} (hx : x.toInt = a) (hy : y.toInt = b) (h1 : -2 ^ 31 ≤ a - b) (h2 : a - b < 2 ^ 31) :
    (IntOp.subi x y).toInt = a - b := by
  rw [IntOp.subi, BitVec.toInt_sub, hx, hy, int_fit h1 h2]

theorem int_add {x y : BitVec 32} {a b : ℤ} (hx : x.toInt = a) (hy : y.toInt = b) (h1 : -2 ^ 31 ≤ a + b) (h2 : a + b < 2 ^ 31) :
    (IntOp.addi x y).toInt = a + b := by
  rw [IntOp.addi, BitVec.toInt_add, hx, hy, int_fit h1 h2]

theorem int_mul {x y : BitVec 32} {a b : ℤ} (hx : x.toInt = a) (hy : y.toInt = b) (h1 : -2 ^ 31 ≤ a * b) (h2 : a * b < 2 ^ 31) :
    (IntOp.muli x y).toInt = a * b := by
  rw [IntOp.muli, BitVec.toInt_mul, hx, hy, int_fit h1 h2]

theorem int_abs {x : BitVec 32} {a : ℤ} (hx : x.toInt = a) (h : -2 ^ 31 < a) : (IntOp.absi x).toInt = |a| := by
  have hlt : a < 2 ^ 31 := by have := BitVec.toInt_lt (x := x); omega
  have hm : x.msb = decide (a < 0) := by rw [BitVec.msb_eq_toInt, hx]
  unfold IntOp.absi
  rw [hm]
  by_cases h0 : a < 0
  · rw [if_pos (by simpa using h0), BitVec.toInt_neg, hx, int_fit (by omega) (by omega), abs_of_neg h0]
  · rw [if_neg (by simpa using h0), hx, abs_of_nonneg (by omega)]

theorem bit_sle {x y : BitVec 32} {a b : ℤ} (hx : x.toInt = a) (hy : y.toInt = b) : IntOp.cmpi .sle x y = BitVec.ofBool (decide (a ≤ b)) := by
  show BitVec.ofBool (x.sle y) = _
  rw [BitVec.sle_eq_decide, hx, hy]

theorem bit_sge {x y : BitVec 32} {a b : ℤ} (hx : x.toInt = a) (hy : y.toInt = b) : IntOp.cmpi .sge x y = BitVec.ofBool (decide (b ≤ a)) := by
  show BitVec.ofBool (y.sle x) = _
  rw [BitVec.sle_eq_decide, hx, hy]

theorem bit_slt {x y : BitVec 32} {a b : ℤ} (hx : x.toInt = a) (hy : y.toInt = b) : IntOp.cmpi .slt x y = BitVec.ofBool (decide (a < b)) := by
  show BitVec.ofBool (x.slt y) = _
  rw [BitVec.slt_eq_decide, hx, hy]

theorem bit_and (p q : Bool) : IntOp.andi (BitVec.ofBool p) (BitVec.ofBool q) = BitVec.ofBool (p && q) := by
  cases p <;> cases q <;> rfl

theorem bit_not (p : Bool) : IntOp.xori (BitVec.ofBool p) 1#1 = BitVec.ofBool (!p) := by
  cases p <;> rfl

theorem bit_one (p : Bool) : BitVec.ofBool p = 1#1 ↔ p = true := by
  cases p <;> decide

abbrev T256x512 : Shape := ⟨2, ![256, 512]⟩
abbrev T128x256 : Shape := ⟨2, ![128, 256]⟩
abbrev T128x128 : Shape := ⟨2, ![128, 128]⟩
abbrev T256x128 : Shape := ⟨2, ![256, 128]⟩
abbrev T1x128x128 : Shape := ⟨3, ![1, 128, 128]⟩
abbrev T128 : Shape := ⟨1, ![128]⟩
abbrev T128x1 : Shape := ⟨2, ![128, 1]⟩

theorem lanes_to_one : T128.ShapeCasts T128x1 := by decide
theorem one_to_one : T128x1.ShapeCasts T128x1 := by decide
theorem drop_unit : T1x128x128.ShapeCasts T128x128 := by decide
theorem add_unit : T128x128.ShapeCasts T1x128x128 := by decide
theorem rows_reduce : T128x256.Reduces [1] T128 := by decide
theorem one_to_wide : T128x1.Broadcasts T128x256 := by decide
theorem one_to_tile : T128x1.Broadcasts T128x128 := by decide
theorem rows_iota : T128x256.Iotas .tc 32 [0] := by decide
theorem cols_iota : T128x256.Iotas .tc 32 [1] := by decide
theorem lanes_iota : T128x128.Iotas .tc 32 [1] := by decide
theorem narrows : FTy.bits .bf16 < FTy.bits .f32 := by decide

/-- The offset of a column's key from a row's query. -/
def rel : IVec T128x256 32 :=
  subi (subi (iota .tc T128x256 32 [1] cols_iota) (broadcast T128x256 64#32)) (iota .tc T128x256 32 [0] rows_iota)

/-- Which columns a row attends to: those of the band whose key is inside the sequence of `M` positions, in tile `t`. -/
def ok (t M : BitVec 32) : IVec T128x256 1 :=
  andi (andi (cmpi .sle (absi rel) (broadcast T128x256 64#32))
      (cmpi .sge (addi (broadcast T128x256 (Scalar.subi (Scalar.muli t 128#32) 64#32)) (iota .tc T128x256 32 [1] cols_iota)) (broadcast T128x256 0#32)))
    (cmpi .slt (addi (broadcast T128x256 (Scalar.subi (Scalar.muli t 128#32) 64#32)) (iota .tc T128x256 32 [1] cols_iota)) (broadcast T128x256 M))

/-- The distance of query and key, negated. -/
def negDist (d : BitVec 32) : FVec Ideal T128x256 .f32 :=
  subf (broadcast T128x256 (Scalar.ofBits (F := Ideal) .f32 0x00000000#32)) (sitofp .f32 (muli (absi rel) (broadcast T128x256 d)))

/-- The lanes of the first of the two heads. -/
def low : IVec T128x128 1 := cmpi .slt (iota .tc T128x128 32 [1] lanes_iota) (broadcast T128x128 64#32)

/-- The lanes of the second of the two heads. -/
def high : IVec T128x128 1 := xori low (constantI T128x128 1 1#1)

/-- The queries of the head whose lanes `side` marks, zero in the other lanes. -/
def part (side : IVec T128x128 1) (q : FVec Ideal T1x128x128 .bf16) : FVec Ideal T128x128 .bf16 :=
  select side (shapeCast T128x128 q drop_unit) (broadcast T128x128 (Scalar.ofBits (F := Ideal) .bf16 0x0000#16))

/-- One head's scores, `off` where the mask is off. -/
def score (mask : IVec T128x256 1) (dist : FVec Ideal T128x256 .f32) (slope : BitVec 32) (off : Ideal .f32)
    (q : FVec Ideal T128x128 .bf16) (k : FVec Ideal T256x128 .bf16) : FVec Ideal T128x256 .f32 :=
  select mask
    (addf (mulf (matmul (DotDims.transposedRhs 128 128 256) none q k (constant T128x256 .f32 0x00000000#32))
        (broadcast T128x256 (Scalar.ofBits (F := Ideal) .f32 0x3E000000#32)))
      (mulf (broadcast T128x256 (Scalar.ofBits (F := Ideal) .f32 slope)) dist))
    (broadcast T128x256 off)

/-- Each row's largest score. -/
def most (s : FVec Ideal T128x256 .f32) : FVec Ideal T128x1 .f32 :=
  shapeCast T128x1 (multiReduction .maximumf [1] T128 s 0xFF800000#32 rows_reduce (.inl rfl) rfl) lanes_to_one

/-- The exponentials of the scores less their row's largest. -/
def weights (s : FVec Ideal T128x256 .f32) : FVec Ideal T128x256 .f32 :=
  exp (subf s (broadcastTo T128x256 (most s) one_to_wide))

/-- Each row's sum of exponentials. -/
def total (s : FVec Ideal T128x256 .f32) : FVec Ideal T128x1 .f32 :=
  shapeCast T128x1 (multiReduction .add [1] T128 (weights s) 0x00000000#32 rows_reduce (.inl rfl) rfl) lanes_to_one

/-- Each row's weighted values over its sum of exponentials. -/
def outs (s : FVec Ideal T128x256 .f32) (v : FVec Ideal T256x128 .bf16) : FVec Ideal T128x128 .f32 :=
  divf (matmul (DotDims.plain 128 256 128) none (truncf .bf16 (weights s) narrows) v (constant T128x128 .f32 0x00000000#32))
    (broadcastTo T128x128 (total s) one_to_tile)

/-- Each row's logarithm of the mass, over the lanes. -/
def lses (s : FVec Ideal T128x256 .f32) : FVec Ideal T128x128 .f32 :=
  broadcastTo T128x128 (shapeCast T128x1 (addf (most s) (log (total s))) one_to_one) one_to_tile

/-- What two heads' lanes of the output hold. -/
def pairOut (s0 s1 : FVec Ideal T128x256 .f32) (v : FVec Ideal T256x128 .bf16) : FVec Ideal T1x128x128 .bf16 :=
  shapeCast T1x128x128 (truncf .bf16 (select low (outs s0 v) (outs s1 v)) narrows) add_unit

/-- What two heads' lanes of the logarithms hold. -/
def pairLse (s0 s1 : FVec Ideal T128x256 .f32) : FVec Ideal T1x128x128 .f32 :=
  shapeCast T1x128x128 (select low (lses s0) (lses s1)) add_unit

theorem bits_zero : Ideal.ofBits .f32 0x00000000#32 = 0 := by
  simp [Ideal.ofBits, Ideal.ieee]
theorem bits_neg_inf : Ideal.ofBits .f32 0xFF800000#32 = ⊥ := by
  simp [Ideal.ofBits, Ideal.ieee]
theorem bits_eighth : Ideal.ofBits .f32 0x3E000000#32 = ((1 / 8 : ℝ) : EReal) := by
  simp [Ideal.ofBits, Ideal.ieee, -EReal.coe_mul]; norm_num

theorem most_apply (s : FVec Ideal T128x256 .f32) (r : Fin 128) (z : Fin 1) :
    most s (ix2 r z) = Band.top (fun c : Fin 256 => s (ix2 r c)) := by
  pointwise [most]
  rw [bits_neg_inf]; rfl

theorem weights_apply (s : FVec Ideal T128x256 .f32) (r : Fin 128) (c : Fin 256) :
    weights s (ix2 r c) = Ideal.exp (s (ix2 r c) - Band.top (fun c : Fin 256 => s (ix2 r c))) := by
  pointwise [weights, most_apply]

theorem total_apply (s : FVec Ideal T128x256 .f32) (r : Fin 128) (z : Fin 1) :
    total s (ix2 r z) = Band.mass (fun c : Fin 256 => s (ix2 r c)) := by
  pointwise [total, weights_apply]
  rfl

theorem lses_apply (s : FVec Ideal T128x256 .f32) (r l : Fin 128) :
    lses s (ix2 r l) = Band.lse (fun c : Fin 256 => s (ix2 r c)) := by
  pointwise [lses, most_apply, total_apply]
  rfl

theorem outs_apply (s : FVec Ideal T128x256 .f32) (v : FVec Ideal T256x128 .bf16) (r l : Fin 128) :
    outs s v (ix2 r l) = Ideal.div (∑ c : Fin 256, Ideal.exp (s (ix2 r c) - Band.top (fun c : Fin 256 => s (ix2 r c))) * v (ix2 c l))
      (Band.mass (fun c : Fin 256 => s (ix2 r c))) := by
  pointwise [outs, weights_apply, total_apply]

theorem low_apply (r l : Fin 128) : low (ix2 r l) = BitVec.ofBool (decide (l.val < 64)) := by
  pointwise [low]
  rw [bit_slt (int_nat (by omega)) (int_nat (a := 64) (by norm_num))]
  norm_num

theorem high_apply (r l : Fin 128) : high (ix2 r l) = BitVec.ofBool (!decide (l.val < 64)) := by
  pointwise [high, low_apply]
  exact bit_not _

theorem part_apply (side : IVec T128x128 1) (q : FVec Ideal T1x128x128 .bf16) (r l : Fin 128) :
    part side q (ix2 r l) = if side (ix2 r l) = 1#1 then q (ix3 0 r l) else 0 := by
  pointwise [part]
  rfl

theorem score_apply (mask : IVec T128x256 1) (dist : FVec Ideal T128x256 .f32) (slope : BitVec 32) (off : Ideal .f32)
    (q : FVec Ideal T128x128 .bf16) (k : FVec Ideal T256x128 .bf16) (r : Fin 128) (c : Fin 256) :
    score mask dist slope off q k (ix2 r c) = if mask (ix2 r c) = 1#1 then
      (∑ e : Fin 128, q (ix2 r e) * k (ix2 c e)) * ((1 / 8 : ℝ) : EReal) + Ideal.ofBits .f32 slope * dist (ix2 r c) else off := by
  pointwise [score]
  rw [bits_eighth]
  rfl

theorem int_rel (r : Fin 128) (c : Fin 256) : (rel (ix2 r c)).toInt = (c.val : ℤ) - 64 - r.val := by
  pointwise [rel]
  exact int_sub (int_sub (int_nat (by omega)) (int_nat (a := 64) (by norm_num)) (by omega) (by omega)) (int_nat (by omega)) (by omega) (by omega)

theorem ok_apply (t M : ℕ) (ht : t ≤ 64) (hM : M ≤ 8192) (r : Fin 128) (c : Fin 256) :
    ok (BitVec.ofNat 32 t) (BitVec.ofNat 32 M) (ix2 r c) = 1#1 ↔
      (r.val ≤ c.val ∧ c.val ≤ r.val + 128) ∧ 64 ≤ 128 * t + c.val ∧ 128 * t + c.val < M + 64 := by
  have h128 := int_nat (a := 128) (by norm_num)
  have h64 := int_nat (a := 64) (by norm_num)
  have h0 := int_nat (a := 0) (by norm_num)
  have hpos := int_add (int_sub (int_mul (int_nat (a := t) (by omega)) h128 (by omega) (by omega)) h64 (by omega) (by omega))
    (int_nat (a := c.val) (by omega)) (by omega) (by omega)
  have hm := int_nat (a := M) (by omega)
  pointwise [ok]
  rw [bit_sle (int_abs (int_rel r c) (by omega)) h64]
  rw [show Scalar.subi (Scalar.muli (BitVec.ofNat 32 t) 128#32) 64#32 = IntOp.subi (IntOp.muli (BitVec.ofNat 32 t) (BitVec.ofNat 32 128)) (BitVec.ofNat 32 64) from rfl,
    bit_sge hpos h0, bit_slt hpos hm, bit_and, bit_and, bit_one, Bool.and_eq_true, Bool.and_eq_true, decide_eq_true_eq, decide_eq_true_eq, decide_eq_true_eq, abs_le]
  push_cast
  omega

theorem negDist_apply (d : ℕ) (hd : d ≤ 16) (r : Fin 128) (c : Fin 256) :
    negDist (BitVec.ofNat 32 d) (ix2 r c) = (((-(|(c.val : ℤ) - 64 - r.val| * d) : ℤ) : ℝ) : EReal) := by
  have ha : |(c.val : ℤ) - 64 - r.val| ≤ 256 := abs_le.mpr ⟨by omega, by omega⟩
  have ha0 := abs_nonneg ((c.val : ℤ) - 64 - r.val)
  have hm := int_mul (int_abs (int_rel r c) (by omega)) (int_nat (a := d) (by omega)) (by nlinarith) (by nlinarith)
  pointwise [negDist]
  show (0 : EReal) - (((IntOp.muli _ _).toInt : ℝ) : EReal) = _
  rw [hm]
  push_cast
  simp

theorem pairOut_apply (s0 s1 : FVec Ideal T128x256 .f32) (v : FVec Ideal T256x128 .bf16) (r l : Fin 128) :
    pairOut s0 s1 v (ix3 0 r l) = if l.val < 64 then outs s0 v (ix2 r l) else outs s1 v (ix2 r l) := by
  pointwise [pairOut, low_apply]

theorem pairLse_apply (s0 s1 : FVec Ideal T128x256 .f32) (r l : Fin 128) :
    pairLse s0 s1 (ix3 0 r l) = if l.val < 64 then lses s0 (ix2 r l) else lses s1 (ix2 r l) := by
  pointwise [pairLse, low_apply]

end Cert.Head

end
-- ==== Proof.Tile.lean ====
/- One tile of the banded attention over all eight heads: the four stores of two heads each, read at an index of the block. -/
module

public import proofs.«01_k».proof.Proof.Head
public import Idealize.ShloMosaic.Lib.Pipeline.Value

@[expose] public section

set_option maxRecDepth 16384

noncomputable section

namespace Cert.Head

open Idealize.ShloMosaic

abbrev T1x128x512 : Shape := ⟨3, ![1, 128, 512]⟩
abbrev T1x64x512 : Shape := ⟨3, ![1, 64, 512]⟩
abbrev T128x512 : Shape := ⟨2, ![128, 512]⟩
abbrev T64x512 : Shape := ⟨2, ![64, 512]⟩

theorem drop_unit_wide : T1x128x512.ShapeCasts T128x512 := by decide
theorem drop_unit_half : T1x64x512.ShapeCasts T64x512 := by decide
theorem three_piles : Shape.Concatenates [T64x512, T128x512, T64x512] T256x512 0 := by decide
theorem fits_half : ∀ a, (![0, 0, 0] : Fin 3 → ℕ) a + T1x64x512.size a ≤ T1x64x512.size a := by decide
theorem fits_whole : ∀ a, (![0, 0, 0] : Fin 3 → ℕ) a + T1x128x512.size a ≤ T1x128x512.size a := by decide

abbrev wholeHalf : Rect T1x64x512 := Rect.unit (s := T1x64x512) ![0, 0, 0] T1x64x512.size fits_half
abbrev wholeBlock : Rect T1x128x512 := Rect.unit (s := T1x128x512) ![0, 0, 0] T1x128x512.size fits_whole

/-- The 256 keys (or values) that a tile meets: half a block before it, its own, half a block after it. -/
def pile {F : FTy → Type} (x1 : Vec F T1x64x512 .bf16) (x2 : Vec F T1x128x512 .bf16) (x3 : Vec F T1x64x512 .bf16) : FVec F T256x512 .bf16 :=
  have v1 : FVec F T64x512 .bf16 := shapeCast T64x512 x1 drop_unit_half
  have v3 : FVec F T128x512 .bf16 := shapeCast T128x512 x2 drop_unit_wide
  have v5 : FVec F T64x512 .bf16 := shapeCast T64x512 x3 drop_unit_half
  concatenate T256x512 0 [⟨T64x512, v1⟩, ⟨T128x512, v3⟩, ⟨T64x512, v5⟩] three_piles

/-- Its row `c`, lane `l`, by cases on the block that holds it. -/
def rowAt (x1 : Vec Ideal T1x64x512 .bf16) (x2 : Vec Ideal T1x128x512 .bf16) (x3 : Vec Ideal T1x64x512 .bf16) (c : Fin 256) (l : Fin 512) : EReal :=
  if h1 : c.val < 64 then x1 (ix3 0 ⟨c.val, h1⟩ l) else if h2 : c.val - 64 < 128 then x2 (ix3 0 ⟨c.val - 64, h2⟩ l)
    else x3 (ix3 0 ⟨c.val - 64 - 128, by omega⟩ l)

theorem pile_apply (x1 : Vec Ideal T1x64x512 .bf16) (x2 : Vec Ideal T1x128x512 .bf16) (x3 : Vec Ideal T1x64x512 .bf16) (c : Fin 256) (l : Fin 512) :
    pile x1 x2 x3 (ix2 c l) = rowAt x1 x2 x3 c l := by
  pointwise [pile]
  rfl

theorem load_half (x : Vec Ideal T1x64x512 .bf16) : View.ld x wholeHalf = x := View.ld_unit_zero (by funext a; fin_cases a <;> rfl) _ _
theorem load_block (x : Vec Ideal T1x128x512 .bf16) : View.ld x wholeBlock = x := View.ld_unit_zero (by funext a; fin_cases a <;> rfl) _ _

theorem load_lanes (x : Vec Ideal T1x128x512 .bf16) (o : ℕ) (inb : ∀ a, (![0, 0, o] : Fin 3 → ℕ) a + T1x128x128.size a ≤ T1x128x512.size a) (r l : Fin 128) (h : o + l.val < 512) :
    View.ld x (Rect.unit (s := T1x128x512) ![0, 0, o] T1x128x128.size inb) (ix3 0 r l) = x (ix3 0 r ⟨o + l.val, h⟩) := by
  pointwise

theorem slice_lanes (k : FVec Ideal T256x512 .bf16) (o : ℕ) (hs : T256x512.Slices ![0, o] T256x128) (c : Fin 256) (l : Fin 128) (h : o + l.val < 512) :
    extractStridedSlice T256x128 ![0, o] k hs (ix2 c l) = k (ix2 c ⟨o + l.val, h⟩) := by
  pointwise

/-- The value of a head's slope. -/
def slope (h : ℕ) : BitVec 32 :=
  match h with
  | 0 => 0x3F000000#32
  | 1 => 0x3E800000#32
  | 2 => 0x3E000000#32
  | 3 => 0x3D800000#32
  | 4 => 0x3D000000#32
  | 5 => 0x3C800000#32
  | 6 => 0x3C000000#32
  | _ => 0x3B800000#32

/-- One row's masked scores in tile `t`, from the products of its query with the 256 keys. -/
def tileRow (t M d : ℕ) (h : ℕ) (f : Fin 256 → EReal) (r : Fin 128) : Fin 256 → EReal := fun c =>
  if (r.val ≤ c.val ∧ c.val ≤ r.val + 128) ∧ 64 ≤ 128 * t + c.val ∧ 128 * t + c.val < M + 64 then
    f c * ((1 / 8 : ℝ) : EReal) + Ideal.ofBits .f32 (slope h) * (((-(|(c.val : ℤ) - 64 - r.val| * d) : ℤ) : ℝ) : EReal)
  else ⊥

/-- The products of the query in row `r` with the keys, over the 64 lanes of head `h`. -/
def products (q : Fin 128 → Fin 512 → EReal) (k : Fin 256 → Fin 512 → EReal) (r : Fin 128) (h : Fin 8) : Fin 256 → EReal := fun c =>
  ∑ e : Fin 64, q r ⟨64 * h.val + e.val, by omega⟩ * k c ⟨64 * h.val + e.val, by omega⟩

section Piece

variable (o : ℕ) (inb : ∀ a, (![0, 0, o] : Fin 3 → ℕ) a + T1x128x128.size a ≤ T1x128x512.size a) (hs : T256x512.Slices ![0, o] T256x128)
variable (t M d : ℕ) (off : Ideal .f32) (x0 : Vec Ideal T1x128x512 .bf16) (kk vv : FVec Ideal T256x512 .bf16) (sl0 sl1 : BitVec 32)

/-- The scores of the pair's first head. -/
def score0 : FVec Ideal T128x256 .f32 :=
  score (ok (BitVec.ofNat 32 t) (BitVec.ofNat 32 M)) (negDist (BitVec.ofNat 32 d)) sl0 off
    (part low (View.ld x0 (Rect.unit (s := T1x128x512) ![0, 0, o] T1x128x128.size inb))) (extractStridedSlice T256x128 ![0, o] kk hs)

/-- The scores of the pair's second head. -/
def score1 : FVec Ideal T128x256 .f32 :=
  score (ok (BitVec.ofNat 32 t) (BitVec.ofNat 32 M)) (negDist (BitVec.ofNat 32 d)) sl1 off
    (part high (View.ld x0 (Rect.unit (s := T1x128x512) ![0, 0, o] T1x128x128.size inb))) (extractStridedSlice T256x128 ![0, o] kk hs)

/-- A sum over 128 lanes of which the first half is kept. -/
theorem sum_low (a b : Fin 128 → EReal) :
    ∑ e : Fin 128, (if e.val < 64 then a e else 0) * b e = ∑ e : Fin 64, a ⟨e.val, by omega⟩ * b ⟨e.val, by omega⟩ := by
  rw [Fin.sum_univ_add (a := 64) (b := 64) (f := fun e : Fin 128 => (if e.val < 64 then a e else 0) * b e)]
  have h : ∑ e : Fin 64, (if (Fin.natAdd 64 e : Fin 128).val < 64 then a (Fin.natAdd 64 e) else 0) * b (Fin.natAdd 64 e) = 0 :=
    Finset.sum_eq_zero fun e _ => by rw [if_neg (by simp), zero_mul]
  rw [h, add_zero]
  refine Finset.sum_congr rfl fun e _ => ?_
  rw [if_pos (by simp)]; rfl

/-- A sum over 128 lanes of which the second half is kept. -/
theorem sum_high (a b : Fin 128 → EReal) :
    ∑ e : Fin 128, (if e.val < 64 then 0 else a e) * b e = ∑ e : Fin 64, a ⟨64 + e.val, by omega⟩ * b ⟨64 + e.val, by omega⟩ := by
  rw [Fin.sum_univ_add (a := 64) (b := 64) (f := fun e : Fin 128 => (if e.val < 64 then 0 else a e) * b e)]
  have h : ∑ e : Fin 64, (if (Fin.castAdd 64 e : Fin 128).val < 64 then 0 else a (Fin.castAdd 64 e)) * b (Fin.castAdd 64 e) = 0 :=
    Finset.sum_eq_zero fun e _ => by rw [if_pos (by simp), zero_mul]
  rw [h, zero_add]
  refine Finset.sum_congr rfl fun e _ => ?_
  rw [if_neg (by simp)]; rfl

variable (hoff : off = ⊥) (ht : t ≤ 64) (hM : M ≤ 8192) (hd : d ≤ 16)
include hoff ht hM hd

theorem score0_row (h : Fin 8) (ho : o = 64 * h.val) (ho2 : o + 128 ≤ 512) (hsl : sl0 = slope h.val) (r : Fin 128) :
    (fun c => score0 o inb hs t M d off x0 kk sl0 (ix2 r c)) =
      tileRow t M d h.val (products (fun r l => x0 (ix3 0 r l)) (fun c l => kk (ix2 c l)) r h) r := by
  funext c
  subst ho hsl
  unfold score0 tileRow
  rw [score_apply, hoff]
  refine if_congr (ok_apply t M ht hM r c) ?_ rfl
  rw [negDist_apply d hd]
  congr 2
  simp only [part_apply, low_apply, bit_one, decide_eq_true_eq]
  rw [sum_low]
  refine Finset.sum_congr rfl fun e _ => ?_
  rw [load_lanes _ _ _ _ _ (by have := e.isLt; show _ + e.val < 512; omega), slice_lanes _ _ _ _ _ (by have := e.isLt; show _ + e.val < 512; omega)]

theorem score1_row (h : Fin 8) (ho : o + 64 = 64 * h.val) (ho2 : o + 128 ≤ 512) (hsl : sl1 = slope h.val) (r : Fin 128) :
    (fun c => score1 o inb hs t M d off x0 kk sl1 (ix2 r c)) =
      tileRow t M d h.val (products (fun r l => x0 (ix3 0 r l)) (fun c l => kk (ix2 c l)) r h) r := by
  funext c
  subst hsl
  unfold score1 tileRow
  rw [score_apply, hoff]
  refine if_congr (ok_apply t M ht hM r c) ?_ rfl
  rw [negDist_apply d hd]
  congr 2
  simp only [part_apply, high_apply, bit_one, Bool.not_eq_true', decide_eq_false_iff_not, ite_not]
  rw [sum_high]
  refine Finset.sum_congr rfl fun e _ => ?_
  rw [load_lanes _ _ _ _ _ (by have := e.isLt; show _ + (64 + e.val) < 512; omega), slice_lanes _ _ _ _ _ (by have := e.isLt; show _ + (64 + e.val) < 512; omega)]
  simp only [← ho, Nat.add_assoc]

end Piece

theorem outs_row (s : FVec Ideal T128x256 .f32) (v : FVec Ideal T256x128 .bf16) (r l : Fin 128) (g : Fin 256 → EReal) (hg : (fun c => s (ix2 r c)) = g) :
    outs s v (ix2 r l) = Ideal.div (∑ c : Fin 256, Ideal.exp (g c - Band.top g) * v (ix2 c l)) (Band.mass g) := by
  subst hg; exact outs_apply s v r l

/-- The output of a tile at row `r`, lane `l`. -/
def tileOut (t M d : ℕ) (q : Fin 128 → Fin 512 → EReal) (k v : Fin 256 → Fin 512 → EReal) (r : Fin 128) (l : Fin 512) : EReal :=
  Ideal.div (∑ c : Fin 256, Ideal.exp (tileRow t M d (l.val / 64) (products q k r ⟨l.val / 64, by omega⟩) r c
      - Band.top (tileRow t M d (l.val / 64) (products q k r ⟨l.val / 64, by omega⟩) r)) * v c l)
    (Band.mass (tileRow t M d (l.val / 64) (products q k r ⟨l.val / 64, by omega⟩) r))

/-- The logarithm of the mass of a tile at row `r`, lane `l`. -/
def tileLse (t M d : ℕ) (q : Fin 128 → Fin 512 → EReal) (k : Fin 256 → Fin 512 → EReal) (r : Fin 128) (l : Fin 512) : EReal :=
  Band.lse (tileRow t M d (l.val / 64) (products q k r ⟨l.val / 64, by omega⟩) r)

section Pieces

variable (o : ℕ) (inb : ∀ a, (![0, 0, o] : Fin 3 → ℕ) a + T1x128x128.size a ≤ T1x128x512.size a) (hs : T256x512.Slices ![0, o] T256x128)
variable (t M d : ℕ) (off : Ideal .f32) (x0 : Vec Ideal T1x128x512 .bf16) (kk vv : FVec Ideal T256x512 .bf16) (sl0 sl1 : BitVec 32)

/-- What the store of a pair of heads writes to the output block. -/
def storeOut : FVec Ideal T1x128x128 .bf16 :=
  pairOut (score0 o inb hs t M d off x0 kk sl0) (score1 o inb hs t M d off x0 kk sl1) (extractStridedSlice T256x128 ![0, o] vv hs)

/-- What the store of a pair of heads writes to the block of logarithms. -/
def storeLse : FVec Ideal T1x128x128 .f32 :=
  pairLse (score0 o inb hs t M d off x0 kk sl0) (score1 o inb hs t M d off x0 kk sl1)

variable (hoff : off = ⊥) (ht : t ≤ 64) (hM : M ≤ 8192) (hd : d ≤ 16) (p : Fin 4) (ho : o = 128 * p.val)
  (hsl0 : sl0 = slope (2 * p.val)) (hsl1 : sl1 = slope (2 * p.val + 1))
include hoff ht hM hd ho hsl0 hsl1

theorem storeOut_apply (r l : Fin 128) :
    storeOut o inb hs t M d off x0 kk vv sl0 sl1 (ix3 0 r l) =
      tileOut t M d (fun r l => x0 (ix3 0 r l)) (fun c l => kk (ix2 c l)) (fun c l => vv (ix2 c l)) r ⟨128 * p.val + l.val, by omega⟩ := by
  have hp := p.isLt
  unfold storeOut tileOut
  rw [pairOut_apply]
  have hlane : ∀ c : Fin 256, extractStridedSlice T256x128 ![0, o] vv hs (ix2 c l) = vv (ix2 c ⟨128 * p.val + l.val, by omega⟩) := fun c => by
    rw [slice_lanes vv o hs c l (by omega)]
    subst ho; rfl
  by_cases hl : l.val < 64
  · have hh : (128 * p.val + l.val) / 64 = 2 * p.val := by omega
    rw [if_pos hl, outs_row _ _ r l _ (score0_row o inb hs t M d off x0 kk sl0 hoff ht hM hd ⟨2 * p.val, by omega⟩ (by simp only; omega) (by omega) hsl0 r)]
    simp only [hh, hlane]
  · have hh : (128 * p.val + l.val) / 64 = 2 * p.val + 1 := by omega
    rw [if_neg hl, outs_row _ _ r l _ (score1_row o inb hs t M d off x0 kk sl1 hoff ht hM hd ⟨2 * p.val + 1, by omega⟩ (by simp only; omega) (by omega) hsl1 r)]
    simp only [hh, hlane]

theorem storeLse_apply (r l : Fin 128) :
    storeLse o inb hs t M d off x0 kk sl0 sl1 (ix3 0 r l) =
      tileLse t M d (fun r l => x0 (ix3 0 r l)) (fun c l => kk (ix2 c l)) r ⟨128 * p.val + l.val, by omega⟩ := by
  have hp := p.isLt
  unfold storeLse tileLse
  rw [pairLse_apply]
  by_cases hl : l.val < 64
  · have hh : (128 * p.val + l.val) / 64 = 2 * p.val := by omega
    rw [if_pos hl, lses_apply, score0_row o inb hs t M d off x0 kk sl0 hoff ht hM hd ⟨2 * p.val, by omega⟩ (by simp only; omega) (by omega) hsl0 r]
    simp only [hh]
  · have hh : (128 * p.val + l.val) / 64 = 2 * p.val + 1 := by omega
    rw [if_neg hl, lses_apply, score1_row o inb hs t M d off x0 kk sl1 hoff ht hM hd ⟨2 * p.val + 1, by omega⟩ (by simp only; omega) (by omega) hsl1 r]
    simp only [hh]

end Pieces

/-! ## The block that the four stores leave -/

theorem inb0 : ∀ a, (![0, 0, 0] : Fin 3 → ℕ) a + T1x128x128.size a ≤ T1x128x512.size a := by decide
theorem inb1 : ∀ a, (![0, 0, 128] : Fin 3 → ℕ) a + T1x128x128.size a ≤ T1x128x512.size a := by decide
theorem inb2 : ∀ a, (![0, 0, 256] : Fin 3 → ℕ) a + T1x128x128.size a ≤ T1x128x512.size a := by decide
theorem inb3 : ∀ a, (![0, 0, 384] : Fin 3 → ℕ) a + T1x128x128.size a ≤ T1x128x512.size a := by decide
theorem sl0 : T256x512.Slices ![0, 0] T256x128 := by decide
theorem sl1 : T256x512.Slices ![0, 128] T256x128 := by decide
theorem sl2 : T256x512.Slices ![0, 256] T256x128 := by decide
theorem sl3 : T256x512.Slices ![0, 384] T256x128 := by decide

/-- The lanes of one pair of heads in a block. -/
abbrev lanes (o : ℕ) (inb : ∀ a, (![0, 0, o] : Fin 3 → ℕ) a + T1x128x128.size a ≤ T1x128x512.size a) : Rect T1x128x512 :=
  Rect.unit (s := T1x128x512) ![0, 0, o] T1x128x128.size inb

section Block

variable (t M d : ℕ) (off : Ideal .f32) (x0 : Vec Ideal T1x128x512 .bf16) (kk vv : FVec Ideal T256x512 .bf16)

/-- The stores to the output block, the last first. -/
def piecesOut : List (View.Piece (Elt Ideal) T1x128x512 .bf16) :=
  [⟨lanes 384 inb3, storeOut 384 inb3 sl3 t M d off x0 kk vv 0x3C000000#32 0x3B800000#32⟩,
    ⟨lanes 256 inb2, storeOut 256 inb2 sl2 t M d off x0 kk vv 0x3D000000#32 0x3C800000#32⟩,
    ⟨lanes 128 inb1, storeOut 128 inb1 sl1 t M d off x0 kk vv 0x3E000000#32 0x3D800000#32⟩,
    ⟨lanes 0 inb0, storeOut 0 inb0 sl0 t M d off x0 kk vv 0x3F000000#32 0x3E800000#32⟩]

/-- The stores to the block of logarithms, the last first. -/
def piecesLse : List (View.Piece (Elt Ideal) T1x128x512 .f32) :=
  [⟨lanes 384 inb3, storeLse 384 inb3 sl3 t M d off x0 kk 0x3C000000#32 0x3B800000#32⟩,
    ⟨lanes 256 inb2, storeLse 256 inb2 sl2 t M d off x0 kk 0x3D000000#32 0x3C800000#32⟩,
    ⟨lanes 128 inb1, storeLse 128 inb1 sl1 t M d off x0 kk 0x3E000000#32 0x3D800000#32⟩,
    ⟨lanes 0 inb0, storeLse 0 inb0 sl0 t M d off x0 kk 0x3F000000#32 0x3E800000#32⟩]

/-- A place in a pair's lanes, in the block. -/
theorem lanes_emb (o : ℕ) (inb : ∀ a, (![0, 0, o] : Fin 3 → ℕ) a + T1x128x128.size a ≤ T1x128x512.size a) (r l : Fin 128) (h : o + l.val < 512) :
    (lanes o inb).emb (ix3 0 r l) = (ix3 0 r ⟨o + l.val, h⟩ : T1x128x512.Idx) := by
  funext a; apply Fin.ext; fin_cases a
  · show 0 + 1 * 0 = 0; rfl
  · show 0 + 1 * r.val = r.val; omega
  · show o + 1 * l.val = o + l.val; omega

theorem lanes_cover {e : EltTy} (p0 p1 p2 p3 : Vec Ideal T1x128x128 e) (y : T1x128x512.Idx) :
    ∃ pc ∈ ([⟨lanes 384 inb3, p3⟩, ⟨lanes 256 inb2, p2⟩, ⟨lanes 128 inb1, p1⟩, ⟨lanes 0 inb0, p0⟩] : List (View.Piece (Elt Ideal) T1x128x512 e)), y ∈ pc.1.set :=
  View.cover_of_tiled [⟨lanes 384 inb3, p3⟩, ⟨lanes 256 inb2, p2⟩, ⟨lanes 128 inb1, p1⟩, ⟨lanes 0 inb0, p0⟩] T1x128x128.size (by rfl) y

theorem tile_index (x : T1x128x128.Idx) : x = (ix3 0 (x 1) (x 2) : T1x128x128.Idx) := by
  funext a; fin_cases a
  · exact Subsingleton.elim (α := Fin 1) _ _
  · rfl
  · rfl

/-- What agrees with a function on every pair's lanes agrees with it on the block. -/
theorem canon_lanes {e : EltTy} (p0 p1 p2 p3 : Vec Ideal T1x128x128 e) (G : T1x128x512.Idx → Elt Ideal e)
    (h0 : ∀ r l : Fin 128, p0 (ix3 0 r l) = G (ix3 0 r ⟨0 + l.val, by omega⟩)) (h1 : ∀ r l : Fin 128, p1 (ix3 0 r l) = G (ix3 0 r ⟨128 + l.val, by omega⟩))
    (h2 : ∀ r l : Fin 128, p2 (ix3 0 r l) = G (ix3 0 r ⟨256 + l.val, by omega⟩)) (h3 : ∀ r l : Fin 128, p3 (ix3 0 r l) = G (ix3 0 r ⟨384 + l.val, by omega⟩)) :
    View.canon ([⟨lanes 384 inb3, p3⟩, ⟨lanes 256 inb2, p2⟩, ⟨lanes 128 inb1, p1⟩, ⟨lanes 0 inb0, p0⟩] : List (View.Piece (Elt Ideal) T1x128x512 e)) = G := by
  funext y
  refine View.canon_apply_of_pieces G _ ?_ y (lanes_cover p0 p1 p2 p3 y)
  intro pc hpc
  simp only [List.mem_cons, List.not_mem_nil, or_false] at hpc
  rcases hpc with rfl | rfl | rfl | rfl <;> intro x
  · rw [tile_index x]; exact (h3 _ _).trans (congrArg G (lanes_emb 384 inb3 _ _ _).symm)
  · rw [tile_index x]; exact (h2 _ _).trans (congrArg G (lanes_emb 256 inb2 _ _ _).symm)
  · rw [tile_index x]; exact (h1 _ _).trans (congrArg G (lanes_emb 128 inb1 _ _ _).symm)
  · rw [tile_index x]; exact (h0 _ _).trans (congrArg G (lanes_emb 0 inb0 _ _ _).symm)

variable (hoff : off = ⊥) (ht : t ≤ 64) (hM : M ≤ 8192) (hd : d ≤ 16)
include hoff ht hM hd

/-- The output block. -/
theorem blockOut : View.canon (piecesOut t M d off x0 kk vv) =
    fun y => tileOut t M d (fun r l => x0 (ix3 0 r l)) (fun c l => kk (ix2 c l)) (fun c l => vv (ix2 c l)) (y 1) (y 2) :=
  canon_lanes _ _ _ _ _
    (fun r l => storeOut_apply 0 inb0 sl0 t M d off x0 kk vv _ _ hoff ht hM hd 0 rfl rfl rfl r l)
    (fun r l => storeOut_apply 128 inb1 sl1 t M d off x0 kk vv _ _ hoff ht hM hd 1 rfl rfl rfl r l)
    (fun r l => storeOut_apply 256 inb2 sl2 t M d off x0 kk vv _ _ hoff ht hM hd 2 rfl rfl rfl r l)
    (fun r l => storeOut_apply 384 inb3 sl3 t M d off x0 kk vv _ _ hoff ht hM hd 3 rfl rfl rfl r l)

/-- The block of logarithms. -/
theorem blockLse : View.canon (piecesLse t M d off x0 kk) =
    fun y => tileLse t M d (fun r l => x0 (ix3 0 r l)) (fun c l => kk (ix2 c l)) (y 1) (y 2) :=
  canon_lanes _ _ _ _ _
    (fun r l => storeLse_apply 0 inb0 sl0 t M d off x0 kk _ _ hoff ht hM hd 0 rfl rfl rfl r l)
    (fun r l => storeLse_apply 128 inb1 sl1 t M d off x0 kk _ _ hoff ht hM hd 1 rfl rfl rfl r l)
    (fun r l => storeLse_apply 256 inb2 sl2 t M d off x0 kk _ _ hoff ht hM hd 2 rfl rfl rfl r l)
    (fun r l => storeLse_apply 384 inb3 sl3 t M d off x0 kk _ _ hoff ht hM hd 3 rfl rfl rfl r l)

end Block

end Cert.Head

end
-- ==== Proof.Canon.lean ====
/- The banded attention of one residue class, row by row over 192 keys, and the tile of 256 keys read as that. -/
module

public import proofs.«01_k».proof.Proof.Tile

@[expose] public section

set_option maxRecDepth 16384

noncomputable section

namespace Cert.Canon

open Idealize.ShloMosaic

abbrev TArg : Shape := ⟨3, ![4, 8192, 512]⟩

/-- An argument in its residue-class view with `d` classes: row `m` of class `L / 512`, lane `L % 512`, of batch element `b`. -/
def view (d : ℕ) (x : FVec Ideal TArg .f32) (b m L : ℕ) : EReal :=
  if h : b < 4 ∧ m * d + L / 512 < 8192 then x (ix3 ⟨b, h.1⟩ ⟨m * d + L / 512, h.2⟩ ⟨L % 512, Nat.mod_lt _ (by norm_num)⟩) else 0

/-- The bias of head `h` at distance `a`. -/
def bias (h : ℕ) (a : ℤ) : EReal := ((-((1 / 2 : ℝ) ^ (h + 1) * a) : ℝ) : EReal)

/-- The masked scores of row `m` at the 192 keys around its chunk of 64 rows, for the head of lane `L`. -/
def refRow (M d : ℕ) (q k : ℕ → ℕ → ℕ → EReal) (b m L : ℕ) : Fin 192 → EReal := fun j =>
  if (m % 64 ≤ j.val ∧ j.val ≤ m % 64 + 128) ∧ 64 ≤ 64 * (m / 64) + j.val ∧ 64 * (m / 64) + j.val < M + 64 then
    (∑ e : Fin 64, q b m (64 * (L / 64) + e.val) * k b (64 * (m / 64) + j.val - 64) (64 * (L / 64) + e.val)) * ((1 / 8 : ℝ) : EReal)
      + bias (L % 512 / 64) (|(j.val : ℤ) - 64 - ((m % 64 : ℕ) : ℤ)| * d)
  else ⊥

/-- The attention's output at row `m`, lane `L`. -/
def refOut (M d : ℕ) (q k v : ℕ → ℕ → ℕ → EReal) (b m L : ℕ) : EReal :=
  ∑ j : Fin 192, v b (64 * (m / 64) + j.val - 64) L * Ideal.exp (refRow M d q k b m L j - Band.lse (refRow M d q k b m L))

/-- The logarithm of the attention's mass at row `m`, lane `L`. -/
def refLse (M d : ℕ) (q k : ℕ → ℕ → ℕ → EReal) (b m L : ℕ) : EReal := Band.lse (refRow M d q k b m L)

theorem slope_value (h : ℕ) (hh : h < 8) : Ideal.ofBits .f32 (Head.slope h) = (((1 / 2 : ℝ) ^ (h + 1) : ℝ) : EReal) := by
  have : ∀ h : Fin 8, Ideal.ofBits .f32 (Head.slope h.val) = (((1 / 2 : ℝ) ^ (h.val + 1) : ℝ) : EReal) := by
    intro h
    fin_cases h <;> simp [Head.slope, Ideal.ofBits, Ideal.ieee, -EReal.coe_mul] <;> norm_num
  exact this ⟨h, hh⟩

theorem slope_bias (h : ℕ) (hh : h < 8) (a : ℤ) (d : ℕ) :
    Ideal.ofBits .f32 (Head.slope h) * (((-(a * d) : ℤ) : ℝ) : EReal) = bias h (a * d) := by
  rw [slope_value h hh, bias, ← EReal.coe_mul]
  congr 1
  push_cast
  ring

/-- The embedding of the 192 keys around a row's chunk in the 256 of its tile. -/
def window (o : Fin 2) : Fin 192 ↪ Fin 256 where
  toFun j := ⟨64 * o.val + j.val, by omega⟩
  inj' a b h := by
    have := congrArg Fin.val h
    apply Fin.ext
    simp only at this
    omega

theorem not_in_window (o : Fin 2) (c : Fin 256) (h : c ∉ Set.range (window o)) : c.val < 64 * o.val ∨ 64 * o.val + 192 ≤ c.val := by
  by_contra hc
  push Not at hc
  exact h ⟨⟨c.val - 64 * o.val, by omega⟩, by apply Fin.ext; show 64 * o.val + (c.val - 64 * o.val) = c.val; omega⟩

section Tile

variable (M d t b r : ℕ) (q k v : ℕ → ℕ → ℕ → EReal) (qf : Fin 128 → Fin 512 → EReal) (kf vf : Fin 256 → Fin 512 → EReal) (p : Fin 128) (l : Fin 512)

theorem row_eq (hq : ∀ l, qf p l = q b (128 * t + p.val) (512 * r + l.val))
    (hk : ∀ c l, 64 ≤ 128 * t + c.val → 128 * t + c.val < M + 64 → kf c l = k b (128 * t + c.val - 64) (512 * r + l.val)) (j : Fin 192) :
    Head.tileRow t M d (l.val / 64) (Head.products qf kf p ⟨l.val / 64, by omega⟩) p (window ⟨p.val / 64, by omega⟩ j) =
      refRow M d q k b (128 * t + p.val) (512 * r + l.val) j := by
  have hp := p.isLt
  have hl := l.isLt
  have e1 : (128 * t + p.val) % 64 = p.val % 64 := by omega
  have e2 : 64 * ((128 * t + p.val) / 64) = 128 * t + 64 * (p.val / 64) := by omega
  have e3 : 64 * ((512 * r + l.val) / 64) = 512 * r + 64 * (l.val / 64) := by omega
  have e4 : (512 * r + l.val) % 512 / 64 = l.val / 64 := by
    rw [Nat.mul_add_mod, Nat.mod_eq_of_lt hl]
  have e5 : (window ⟨p.val / 64, by omega⟩ j).val = 64 * (p.val / 64) + j.val := rfl
  unfold Head.tileRow refRow
  rw [e1, e2, e3, e4, e5]
  by_cases h : (p.val % 64 ≤ j.val ∧ j.val ≤ p.val % 64 + 128) ∧ 64 ≤ 128 * t + 64 * (p.val / 64) + j.val ∧ 128 * t + 64 * (p.val / 64) + j.val < M + 64
  · have h' : (p.val ≤ 64 * (p.val / 64) + j.val ∧ 64 * (p.val / 64) + j.val ≤ p.val + 128) ∧ 64 ≤ 128 * t + (64 * (p.val / 64) + j.val) ∧ 128 * t + (64 * (p.val / 64) + j.val) < M + 64 := by omega
    rw [if_pos h, if_pos h', slope_bias _ (show l.val / 64 < 8 by omega)]
    congr 2
    · unfold Head.products
      refine Finset.sum_congr rfl fun e _ => ?_
      have he := e.isLt
      rw [hq, hk _ _ (by rw [e5]; omega) (by rw [e5]; omega), e5]
      congr 2
      · show 512 * r + (64 * (l.val / 64) + e.val) = _; omega
      · omega
      · show 512 * r + (64 * (l.val / 64) + e.val) = _; omega
    · have e6 : ((64 * (p.val / 64) + j.val : ℕ) : ℤ) - 64 - (p.val : ℤ) = (j.val : ℤ) - 64 - ((p.val % 64 : ℕ) : ℤ) := by omega
      rw [e6]
  · have h' : ¬((p.val ≤ 64 * (p.val / 64) + j.val ∧ 64 * (p.val / 64) + j.val ≤ p.val + 128) ∧ 64 ≤ 128 * t + (64 * (p.val / 64) + j.val) ∧ 128 * t + (64 * (p.val / 64) + j.val) < M + 64) := by omega
    rw [if_neg h, if_neg h']

theorem off_window (c : Fin 256) (hc : c ∉ Set.range (window ⟨p.val / 64, by omega⟩)) (h : ℕ) (f : Fin 256 → EReal) : Head.tileRow t M d h f p c = ⊥ := by
  have hp := p.isLt
  have := not_in_window _ c hc
  simp only at this
  exact if_neg (by omega)

theorem lse_eq (hq : ∀ l, qf p l = q b (128 * t + p.val) (512 * r + l.val))
    (hk : ∀ c l, 64 ≤ 128 * t + c.val → 128 * t + c.val < M + 64 → kf c l = k b (128 * t + c.val - 64) (512 * r + l.val)) :
    Head.tileLse t M d qf kf p l = refLse M d q k b (128 * t + p.val) (512 * r + l.val) :=
  Band.lse_band (window ⟨p.val / 64, by omega⟩) _ _ (row_eq M d t b r q k qf kf p l hq hk) fun c hc => off_window M d t p c hc _ _

/-- A score of real queries and keys is not the greatest element. -/
theorem refRow_lt (hqr : ∀ b m L, ∃ x : ℝ, q b m L = (x : EReal)) (hkr : ∀ b m L, ∃ x : ℝ, k b m L = (x : EReal)) (m L : ℕ) (j : Fin 192) :
    refRow M d q k b m L j ≠ ⊤ := by
  unfold refRow
  split_ifs with h
  · choose fq hfq using hqr
    choose fk hfk using hkr
    have : ∑ e : Fin 64, q b m (64 * (L / 64) + e.val) * k b (64 * (m / 64) + j.val - 64) (64 * (L / 64) + e.val) =
        ((∑ e : Fin 64, fq b m (64 * (L / 64) + e.val) * fk b (64 * (m / 64) + j.val - 64) (64 * (L / 64) + e.val) : ℝ) : EReal) := by
      rw [Band.coe_sum]
      exact Finset.sum_congr rfl fun e _ => by rw [hfq, hfk, EReal.coe_mul]
    rw [this, bias, ← EReal.coe_mul, ← EReal.coe_add]
    exact EReal.coe_ne_top _
  · exact bot_ne_top

/-- The own key of a row is in its band. -/
theorem refRow_own (hqr : ∀ b m L, ∃ x : ℝ, q b m L = (x : EReal)) (hkr : ∀ b m L, ∃ x : ℝ, k b m L = (x : EReal)) (m L : ℕ) (hm : m < M) :
    ∃ j, refRow M d q k b m L j ≠ ⊥ := by
  refine ⟨⟨m % 64 + 64, by omega⟩, ?_⟩
  unfold refRow
  rw [if_pos (show _ ∧ _ by simp only; omega)]
  choose fq hfq using hqr
  choose fk hfk using hkr
  simp only [hfq, hfk, ← EReal.coe_mul, ← Band.coe_sum, bias, ← EReal.coe_add]
  exact EReal.coe_ne_bot _

theorem out_eq (hq : ∀ l, qf p l = q b (128 * t + p.val) (512 * r + l.val))
    (hk : ∀ c l, 64 ≤ 128 * t + c.val → 128 * t + c.val < M + 64 → kf c l = k b (128 * t + c.val - 64) (512 * r + l.val))
    (hv : ∀ c l, 64 ≤ 128 * t + c.val → 128 * t + c.val < M + 64 → vf c l = v b (128 * t + c.val - 64) (512 * r + l.val))
    (hqr : ∀ b m L, ∃ x : ℝ, q b m L = (x : EReal)) (hkr : ∀ b m L, ∃ x : ℝ, k b m L = (x : EReal)) (hm : 128 * t + p.val < M) :
    Head.tileOut t M d qf kf vf p l = refOut M d q k v b (128 * t + p.val) (512 * r + l.val) := by
  have hp := p.isLt
  refine Band.out_band (window ⟨p.val / 64, by omega⟩) _ (fun c => vf c l) _ _ (row_eq M d t b r q k qf kf p l hq hk)
    (fun c hc => off_window M d t p c hc _ _) (refRow_lt M d b q k hqr hkr _ _) (refRow_own M d b q k hqr hkr _ _ hm) fun j hj => ?_
  have e2 : 64 * ((128 * t + p.val) / 64) = 128 * t + 64 * (p.val / 64) := by omega
  have e5 : (window ⟨p.val / 64, by omega⟩ j).val = 64 * (p.val / 64) + j.val := rfl
  have hc : 64 ≤ 64 * ((128 * t + p.val) / 64) + j.val ∧ 64 * ((128 * t + p.val) / 64) + j.val < M + 64 := by
    by_contra hc
    exact hj (if_neg (fun h => hc h.2))
  show vf _ l = _
  rw [hv _ _ (by rw [e5]; omega) (by rw [e5]; omega), e5]
  congr 1
  omega

end Tile

end Cert.Canon

end
-- ==== Proof.Finite.lean ====
/- Finite queries and keys are real numbers at every place of their residue-class view. -/
module

public import proofs.«01_k».proof.Proof.Canon
public import proofs.«01_k».proof.Proof.Gen.Pre_finite

@[expose] public section

set_option maxRecDepth 16384

noncomputable section

namespace Cert.Finite

open Idealize.ShloMosaic

theorem bits_inf : Ideal.ofBits .f32 0x7F800000#32 = ⊤ := by
  simp [Ideal.ofBits, Ideal.ieee]

/-- A number whose absolute value lies below infinity is real. -/
theorem real_of_lt (x : EReal) (h : max x (-x) < ⊤) : ∃ r : ℝ, x = (r : EReal) := by
  refine ⟨x.toReal, (EReal.coe_toReal ?_ ?_).symm⟩
  · rintro rfl
    exact absurd h (by simp)
  · rintro rfl
    exact absurd h (by simp)

theorem bit_lt (x y : Ideal .f32) (h : FloatOps.cmpf .olt x y = 1#1) : x < y := by
  have h' : BitVec.ofBool (decide (x < y)) = 1#1 := h
  by_contra hn
  rw [decide_eq_false hn] at h'
  exact absurd h' (by decide)

/-- An array that passes the test is real everywhere. -/
theorem real_at (x : FVec Ideal Canon.TArg .f32) (top : FVec Ideal Canon.TArg .f32) (ht : ∀ i, top i = ⊤)
    (h : cmpf .olt (Host.absf x) top = fun _ => 1#1) (i : Canon.TArg.Idx) : ∃ r : ℝ, x i = (r : EReal) := by
  have h1 : max (x i) (-(x i)) < top i := bit_lt _ _ (congrFun h i)
  rw [ht i] at h1
  exact real_of_lt _ h1

/-- An array that is real everywhere is so in its view, which is 0 outside. -/
theorem view_real (d : ℕ) (x : FVec Ideal Canon.TArg .f32) (h : ∀ i, ∃ r : ℝ, x i = (r : EReal)) (b m L : ℕ) :
    ∃ r : ℝ, Canon.view d x b m L = (r : EReal) := by
  unfold Canon.view
  split_ifs
  · exact h _
  · exact ⟨0, rfl⟩

theorem queries (q k v : FVec Ideal Canon.TArg .f32) (h : (Pre_finite.fn (F := Ideal) q k v).1 = fun _ => 1#1) (i : Canon.TArg.Idx) :
    ∃ r : ℝ, q i = (r : EReal) :=
  real_at q _ (fun _ => bits_inf) h i

theorem keys (q k v : FVec Ideal Canon.TArg .f32) (h : (Pre_finite.fn (F := Ideal) q k v).2 = fun _ => 1#1) (i : Canon.TArg.Idx) :
    ∃ r : ℝ, k i = (r : EReal) :=
  real_at k _ (fun _ => bits_inf) h i

end Cert.Finite

end
-- ==== Proof.KMid.lean ====
module

public import proofs.«01_k».proof.Proof.Canon
public import proofs.«01_k».proof.Proof.Gen.KernelMidIdeal.Value
public import Idealize.ShloMosaic.Lib.Pipeline.ValueKit.Point
public import Idealize.ShloMosaic.Lib.Claim

@[expose] public section

set_option maxRecDepth 16384

noncomputable section

namespace Cert.KernelMidIdeal.Whole

open Cert.KernelMidIdeal Cert.KernelMidIdeal.Gen Idealize.ShloMosaic

/-- The value of the mask's constant. -/
abbrev off : Ideal .f32 := Named.named (F := Ideal) (φ := .f32) κ "mask" 0xF149F2CA#32

theorem off_bot : off = ⊥ := IdealRules.named_const.ideal_named_scalar _ _ _ _ rfl

/-- What the body leaves in the output block. -/
theorem out7_eq (i : grid0.Coords) (x0 : Vec Ideal S1x128x512 .bf16) (x1 : Vec Ideal S1x64x512 .bf16) (x2 : Vec Ideal S1x128x512 .bf16) (x3 : Vec Ideal S1x64x512 .bf16)
    (x4 : Vec Ideal S1x64x512 .bf16) (x5 : Vec Ideal S1x128x512 .bf16) (x6 : Vec Ideal S1x64x512 .bf16) :
    out0_7 (F := Ideal) i x0 x1 x2 x3 x4 x5 x6 = View.canon (Head.piecesOut (i 2).val 2048 4 off x0
      (Head.pile (View.ld x1 Head.wholeHalf) (View.ld x2 Head.wholeBlock) (View.ld x3 Head.wholeHalf))
      (Head.pile (View.ld x4 Head.wholeHalf) (View.ld x5 Head.wholeBlock) (View.ld x6 Head.wholeHalf))) := by
  unfold_out out0_7
  unfold_payloads
  unfold Head.piecesOut Head.storeOut Head.pairOut Head.score0 Head.score1 Head.outs Head.total Head.weights Head.most Head.score Head.part Head.high Head.low Head.negDist Head.ok Head.rel Head.pile off
  rfl

theorem out8_eq (i : grid0.Coords) (x0 : Vec Ideal S1x128x512 .bf16) (x1 : Vec Ideal S1x64x512 .bf16) (x2 : Vec Ideal S1x128x512 .bf16) (x3 : Vec Ideal S1x64x512 .bf16)
    (x4 : Vec Ideal S1x64x512 .bf16) (x5 : Vec Ideal S1x128x512 .bf16) (x6 : Vec Ideal S1x64x512 .bf16) :
    out0_8 (F := Ideal) i x0 x1 x2 x3 x4 x5 x6 = View.canon (Head.piecesLse (i 2).val 2048 4 off x0
      (Head.pile (View.ld x1 Head.wholeHalf) (View.ld x2 Head.wholeBlock) (View.ld x3 Head.wholeHalf))) := by
  unfold_out out0_8
  unfold_payloads
  unfold Head.piecesLse Head.storeLse Head.pairLse Head.score0 Head.score1 Head.lses Head.total Head.weights Head.most Head.score Head.part Head.high Head.low Head.negDist Head.ok Head.rel Head.pile off
  rfl

section Array

variable (m : (ℓ : Loc nD τ sig) → Buf (Elt Ideal) ℓ)

/-- Every window's block index at a point. -/
theorem idx : ∀ t : Fin cfg0.N,
    win0_0.index t = ![(grid0.coords t 0).val, (grid0.coords t 2).val, (grid0.coords t 1).val]
    ∧ win0_1.index t = ![(grid0.coords t 0).val, 2 * (grid0.coords t 2).val - 1, (grid0.coords t 1).val]
    ∧ win0_2.index t = ![(grid0.coords t 0).val, (grid0.coords t 2).val, (grid0.coords t 1).val]
    ∧ win0_3.index t = ![(grid0.coords t 0).val, min (2 * ((grid0.coords t 2).val + 1)) 31, (grid0.coords t 1).val]
    ∧ win0_4.index t = ![(grid0.coords t 0).val, 2 * (grid0.coords t 2).val - 1, (grid0.coords t 1).val]
    ∧ win0_5.index t = ![(grid0.coords t 0).val, (grid0.coords t 2).val, (grid0.coords t 1).val]
    ∧ win0_6.index t = ![(grid0.coords t 0).val, min (2 * ((grid0.coords t 2).val + 1)) 31, (grid0.coords t 1).val]
    ∧ win0_7.index t = ![(grid0.coords t 0).val, (grid0.coords t 2).val, (grid0.coords t 1).val]
    ∧ win0_8.index t = ![(grid0.coords t 0).val, (grid0.coords t 2).val, (grid0.coords t 1).val] :=
  (by decide +kernel : ∀ t : Fin grid0.N, _)

/-- The queries, as the region finds them, are the argument in its view by residue classes. -/
theorem q_view (c : Dev nD) (j : S4x2048x2048.Idx) :
    V m c main_v6 j = Canon.view 4 (m (c.tc.loc main_arg0)) (j 0).val (j 1).val (j 2).val := by
  rw [eq_ix3 j]
  generalize j 0 = b
  generalize j 1 = a
  generalize j 2 = l
  entry_read
  pointwise
  unfold Canon.view
  rw [dif_pos (show b.val < 4 ∧ a.val * 4 + l.val / 512 < 8192 by have := b.isLt; have := a.isLt; have := l.isLt; simp at *; omega)]
  rfl

/-- The keys, as the region finds them, are the argument in its view by residue classes. -/
theorem k_view (c : Dev nD) (j : S4x2048x2048.Idx) :
    V m c main_v7 j = Canon.view 4 (m (c.tc.loc main_arg1)) (j 0).val (j 1).val (j 2).val := by
  rw [eq_ix3 j]
  generalize j 0 = b
  generalize j 1 = a
  generalize j 2 = l
  entry_read
  pointwise
  unfold Canon.view
  rw [dif_pos (show b.val < 4 ∧ a.val * 4 + l.val / 512 < 8192 by have := b.isLt; have := a.isLt; have := l.isLt; simp at *; omega)]
  rfl

/-- The values, as the region finds them, are the argument in its view by residue classes. -/
theorem v_view (c : Dev nD) (j : S4x2048x2048.Idx) :
    V m c main_v8 j = Canon.view 4 (m (c.tc.loc main_arg2)) (j 0).val (j 1).val (j 2).val := by
  rw [eq_ix3 j]
  generalize j 0 = b
  generalize j 1 = a
  generalize j 2 = l
  entry_read
  pointwise
  unfold Canon.view
  rw [dif_pos (show b.val < 4 ∧ a.val * 4 + l.val / 512 < 8192 by have := b.isLt; have := a.isLt; have := l.isLt; simp at *; omega)]
  rfl

/-- Window 0's block at a point, read at an index. -/
theorem read0 (c : Dev nD) (t : Fin cfg0.N) (y : S1x128x512.Idx) :
    iblk m c 0 t y = Canon.view 4 (m (c.tc.loc main_arg0)) (grid0.coords t 0).val ((grid0.coords t 2).val * 128 + (y 1).val) ((grid0.coords t 1).val * 512 + (y 2).val) := by
  unfold iblk
  rw [View.read_apply]
  refine (cast_eq _ _).trans ?_
  refine (q_view m c _).trans ?_
  blk_simp [idx t]

/-- Window 1's block at a point, read at an index. -/
theorem read1 (c : Dev nD) (t : Fin cfg0.N) (y : S1x64x512.Idx) :
    iblk m c 1 t y = Canon.view 4 (m (c.tc.loc main_arg1)) (grid0.coords t 0).val ((2 * (grid0.coords t 2).val - 1) * 64 + (y 1).val) ((grid0.coords t 1).val * 512 + (y 2).val) := by
  unfold iblk
  rw [View.read_apply]
  refine (cast_eq _ _).trans ?_
  refine (k_view m c _).trans ?_
  blk_simp [idx t]

/-- Window 2's block at a point, read at an index. -/
theorem read2 (c : Dev nD) (t : Fin cfg0.N) (y : S1x128x512.Idx) :
    iblk m c 2 t y = Canon.view 4 (m (c.tc.loc main_arg1)) (grid0.coords t 0).val ((grid0.coords t 2).val * 128 + (y 1).val) ((grid0.coords t 1).val * 512 + (y 2).val) := by
  unfold iblk
  rw [View.read_apply]
  refine (cast_eq _ _).trans ?_
  refine (k_view m c _).trans ?_
  blk_simp [idx t]

/-- Window 3's block at a point, read at an index. -/
theorem read3 (c : Dev nD) (t : Fin cfg0.N) (y : S1x64x512.Idx) :
    iblk m c 3 t y = Canon.view 4 (m (c.tc.loc main_arg1)) (grid0.coords t 0).val ((min (2 * ((grid0.coords t 2).val + 1)) 31) * 64 + (y 1).val) ((grid0.coords t 1).val * 512 + (y 2).val) := by
  unfold iblk
  rw [View.read_apply]
  refine (cast_eq _ _).trans ?_
  refine (k_view m c _).trans ?_
  blk_simp [idx t]

/-- Window 4's block at a point, read at an index. -/
theorem read4 (c : Dev nD) (t : Fin cfg0.N) (y : S1x64x512.Idx) :
    iblk m c 4 t y = Canon.view 4 (m (c.tc.loc main_arg2)) (grid0.coords t 0).val ((2 * (grid0.coords t 2).val - 1) * 64 + (y 1).val) ((grid0.coords t 1).val * 512 + (y 2).val) := by
  unfold iblk
  rw [View.read_apply]
  refine (cast_eq _ _).trans ?_
  refine (v_view m c _).trans ?_
  blk_simp [idx t]

/-- Window 5's block at a point, read at an index. -/
theorem read5 (c : Dev nD) (t : Fin cfg0.N) (y : S1x128x512.Idx) :
    iblk m c 5 t y = Canon.view 4 (m (c.tc.loc main_arg2)) (grid0.coords t 0).val ((grid0.coords t 2).val * 128 + (y 1).val) ((grid0.coords t 1).val * 512 + (y 2).val) := by
  unfold iblk
  rw [View.read_apply]
  refine (cast_eq _ _).trans ?_
  refine (v_view m c _).trans ?_
  blk_simp [idx t]

/-- Window 6's block at a point, read at an index. -/
theorem read6 (c : Dev nD) (t : Fin cfg0.N) (y : S1x64x512.Idx) :
    iblk m c 6 t y = Canon.view 4 (m (c.tc.loc main_arg2)) (grid0.coords t 0).val ((min (2 * ((grid0.coords t 2).val + 1)) 31) * 64 + (y 1).val) ((grid0.coords t 1).val * 512 + (y 2).val) := by
  unfold iblk
  rw [View.read_apply]
  refine (cast_eq _ _).trans ?_
  refine (v_view m c _).trans ?_
  blk_simp [idx t]

/-- The 256 keys of a tile that lie in the class are its rows from 64 before the tile on. -/
theorem k_pile (c : Dev nD) (t : Fin cfg0.N) (x : Fin 256) (l : Fin 512) (h1 : 64 ≤ 128 * (grid0.coords t 2).val + x.val) (h2 : 128 * (grid0.coords t 2).val + x.val < 2048 + 64) :
    Head.pile (View.ld (iblk m c 1 t) Head.wholeHalf) (View.ld (iblk m c 2 t) Head.wholeBlock) (View.ld (iblk m c 3 t) Head.wholeHalf) (ix2 x l) =
      Canon.view 4 (m (c.tc.loc main_arg1)) (grid0.coords t 0).val (128 * (grid0.coords t 2).val + x.val - 64) (512 * (grid0.coords t 1).val + l.val) := by
  rw [Head.pile_apply, Head.load_half, Head.load_block, Head.load_half]
  unfold Head.rowAt
  have hx := x.isLt
  split_ifs with g1 g2
  · refine (read1 m c t _).trans ?_
    congr 1
    · show (2 * (grid0.coords t 2).val - 1) * 64 + x.val = _
      omega
    · exact congrArg (· + l.val) (Nat.mul_comm _ _)
  · refine (read2 m c t _).trans ?_
    congr 1
    · show (grid0.coords t 2).val * 128 + (x.val - 64) = _
      omega
    · exact congrArg (· + l.val) (Nat.mul_comm _ _)
  · refine (read3 m c t _).trans ?_
    congr 1
    · show (min (2 * ((grid0.coords t 2).val + 1)) 31) * 64 + (x.val - 64 - 128) = _
      omega
    · exact congrArg (· + l.val) (Nat.mul_comm _ _)

/-- The 256 values of a tile that lie in the class are its rows from 64 before the tile on. -/
theorem v_pile (c : Dev nD) (t : Fin cfg0.N) (x : Fin 256) (l : Fin 512) (h1 : 64 ≤ 128 * (grid0.coords t 2).val + x.val) (h2 : 128 * (grid0.coords t 2).val + x.val < 2048 + 64) :
    Head.pile (View.ld (iblk m c 4 t) Head.wholeHalf) (View.ld (iblk m c 5 t) Head.wholeBlock) (View.ld (iblk m c 6 t) Head.wholeHalf) (ix2 x l) =
      Canon.view 4 (m (c.tc.loc main_arg2)) (grid0.coords t 0).val (128 * (grid0.coords t 2).val + x.val - 64) (512 * (grid0.coords t 1).val + l.val) := by
  rw [Head.pile_apply, Head.load_half, Head.load_block, Head.load_half]
  unfold Head.rowAt
  have hx := x.isLt
  split_ifs with g1 g2
  · refine (read4 m c t _).trans ?_
    congr 1
    · show (2 * (grid0.coords t 2).val - 1) * 64 + x.val = _
      omega
    · exact congrArg (· + l.val) (Nat.mul_comm _ _)
  · refine (read5 m c t _).trans ?_
    congr 1
    · show (grid0.coords t 2).val * 128 + (x.val - 64) = _
      omega
    · exact congrArg (· + l.val) (Nat.mul_comm _ _)
  · refine (read6 m c t _).trans ?_
    congr 1
    · show (min (2 * ((grid0.coords t 2).val + 1)) 31) * 64 + (x.val - 64 - 128) = _
      omega
    · exact congrArg (· + l.val) (Nat.mul_comm _ _)

theorem q_row (c : Dev nD) (t : Fin cfg0.N) (p : Fin 128) (l : Fin 512) :
    iblk m c 0 t (ix3 0 p l) = Canon.view 4 (m (c.tc.loc main_arg0)) (grid0.coords t 0).val (128 * (grid0.coords t 2).val + p.val) (512 * (grid0.coords t 1).val + l.val) := by
  refine (read0 m c t _).trans ?_
  rw [Nat.mul_comm 128, Nat.mul_comm 512]
  rfl

theorem tile_le (t : Fin cfg0.N) : (grid0.coords t 2).val ≤ 15 := Nat.le_of_lt_succ (grid0.coords t 2).isLt

/-- The attention's output array, of real queries and keys. -/
theorem final7 (c : Dev nD) (hq : ∀ b n L, ∃ x : ℝ, Canon.view 4 (m (c.tc.loc main_arg0)) b n L = (x : EReal))
    (hk : ∀ b n L, ∃ x : ℝ, Canon.view 4 (m (c.tc.loc main_arg1)) b n L = (x : EReal)) :
    (dats m 0 c).arrAt 7 cfg0.N = fun j => Canon.refOut 2048 4
    (Canon.view 4 (m (c.tc.loc main_arg0))) (Canon.view 4 (m (c.tc.loc main_arg1))) (Canon.view 4 (m (c.tc.loc main_arg2))) (j 0).val (j 1).val (j 2).val := by
  refine (dats m 0 c).arrAt_eq_of_covers 7 _ (by decide +kernel) fun t hf y => ?_
  blk_simp [idx t]
  rw [after0_7, out7_eq, Head.blockOut _ _ _ _ _ _ _ off_bot (by have := tile_le t; omega) (by norm_num) (by norm_num)]
  have ht := tile_le t
  have hy : (y 1).val < 128 := (y 1).isLt
  refine (Canon.out_eq 2048 4 (grid0.coords t 2).val (grid0.coords t 0).val (grid0.coords t 1).val _ _ _ _ _ _ (y 1) (y 2)
    (fun l => q_row m c t (y 1) l) (fun x l => k_pile m c t x l) (fun x l => v_pile m c t x l) hq hk (by omega)).trans ?_
  rw [Nat.mul_comm 128, Nat.mul_comm 512]

/-- The attention's logarithms of the mass. -/
theorem final8 (c : Dev nD) : (dats m 0 c).arrAt 8 cfg0.N = fun j => Canon.refLse 2048 4
    (Canon.view 4 (m (c.tc.loc main_arg0))) (Canon.view 4 (m (c.tc.loc main_arg1))) (j 0).val (j 1).val (j 2).val := by
  refine (dats m 0 c).arrAt_eq_of_covers 8 _ (by decide +kernel) fun t hf y => ?_
  blk_simp [idx t]
  rw [after0_8, out8_eq, Head.blockLse _ _ _ _ _ _ off_bot (by have := tile_le t; omega) (by norm_num) (by norm_num)]
  refine (Canon.lse_eq 2048 4 (grid0.coords t 2).val (grid0.coords t 0).val (grid0.coords t 1).val _ _ _ _ (y 1) (y 2)
    (fun l => q_row m c t (y 1) l) (fun x l => k_pile m c t x l)).trans ?_
  rw [Nat.mul_comm 128, Nat.mul_comm 512]

end Array

end Cert.KernelMidIdeal.Whole

end
-- ==== Proof.RMid.lean ====
module

public import proofs.«01_k».proof.Proof.Canon
public import proofs.«01_k».proof.Proof.Gen.ReferenceMidIdeal.Read
public import Idealize.ShloMosaic.Lib.Pointwise

@[expose] public section

set_option maxRecDepth 16384

noncomputable section

namespace Cert.ReferenceMidIdeal.Whole

open Cert.ReferenceMidIdeal Cert.ReferenceMidIdeal.Gen Cert.ReferenceMidIdeal.Read Idealize.ShloMosaic

variable (x0 x1 x2 : FVec Ideal Canon.TArg .f32)

/-- An argument's element under the reference's index is the argument in its view by residue classes. -/
theorem at_view (x : FVec Ideal Canon.TArg .f32) (b a l : ℕ) (m L : ℕ) (hb : b < 4) (ha : a < 8192) (hl : l < 512) (h1 : m * 4 + L / 512 = a) (h2 : L % 512 = l) :
    x (ix3 ⟨b, hb⟩ ⟨a, ha⟩ ⟨l, hl⟩) = Canon.view 4 x b m L := by
  subst h1 h2
  unfold Canon.view
  rw [dif_pos ⟨hb, ha⟩]

/-- The queries, split in chunks, classes and heads. -/
theorem query (b : Fin 4) (n : Fin 32) (i : Fin 64) (r : Fin 4) (h : Fin 8) (e : Fin 64) :
    val_main_v15 (F := Ideal) x0 (ix6 b n i r h e) = Canon.view 4 x0 b.val (64 * n.val + i.val) (512 * r.val + 64 * h.val + e.val) := by
  pointwise [val_main_v15, val_main_v12, val_main_v0]
  rw [dif_pos (by omega)]
  exact at_view _ _ _ _ _ _ _ _ _ (by omega) (by omega)

/-- The keys around a chunk: the rows from 64 before it to 64 after it that lie in the class. -/
theorem key (b : Fin 4) (n : Fin 32) (j : Fin 192) (r : Fin 4) (h : Fin 8) (e : Fin 64) (h1 : 64 ≤ 64 * n.val + j.val) (h2 : 64 * n.val + j.val < 2048 + 64) :
    val_main_v22 (F := Ideal) x1 (ix6 b n j r h e) = Canon.view 4 x1 b.val (64 * n.val + j.val - 64) (512 * r.val + 64 * h.val + e.val) := by
  pointwise [val_main_v22, val_main_v19, val_main_v20, val_main_v21, val_main_v18, val_main_v17, val_main_v16, val_main_v13, val_main_v1]
  split_ifs
  all_goals first | omega | exact at_view _ _ _ _ _ _ _ _ _ (by omega) (by omega)

/-- The values around a chunk: the rows from 64 before it to 64 after it that lie in the class. -/
theorem value (b : Fin 4) (n : Fin 32) (j : Fin 192) (r : Fin 4) (h : Fin 8) (e : Fin 64) (h1 : 64 ≤ 64 * n.val + j.val) (h2 : 64 * n.val + j.val < 2048 + 64) :
    val_main_v29 (F := Ideal) x2 (ix6 b n j r h e) = Canon.view 4 x2 b.val (64 * n.val + j.val - 64) (512 * r.val + 64 * h.val + e.val) := by
  pointwise [val_main_v29, val_main_v26, val_main_v27, val_main_v28, val_main_v25, val_main_v24, val_main_v23, val_main_v14, val_main_v2]
  split_ifs
  all_goals first | omega | exact at_view _ _ _ _ _ _ _ _ _ (by omega) (by omega)

theorem int_dist (i : Fin 64) (j : Fin 192) : (IntOp.absi (IntOp.subi (IntOp.subi (BitVec.ofNat 32 j.val) 64#32) (BitVec.ofNat 32 i.val))).toInt = |(j.val : ℤ) - 64 - i.val| :=
  Head.int_abs (Head.int_sub (Head.int_sub (Head.int_nat (by omega)) (Head.int_nat (a := 64) (by norm_num)) (by omega) (by omega)) (Head.int_nat (by omega)) (by omega) (by omega)) (by omega)

theorem int_place (n : Fin 32) (j : Fin 192) :
    (IntOp.subi (IntOp.addi (IntOp.muli (BitVec.ofNat 32 n.val) 64#32) (BitVec.ofNat 32 j.val)) 64#32).toInt = (n.val : ℤ) * 64 + j.val - 64 :=
  Head.int_sub (Head.int_add (Head.int_mul (Head.int_nat (by omega)) (Head.int_nat (a := 64) (by norm_num)) (by omega) (by omega)) (Head.int_nat (by omega)) (by omega) (by omega)) (Head.int_nat (a := 64) (by norm_num)) (by omega) (by omega)

/-- The mask is on at the keys of the band that lie in the class. -/
theorem mask (n : Fin 32) (r : Fin 4) (i : Fin 64) (j : Fin 192) :
    val_main_v70 (F := Ideal) (ix4 n r i j) = 1#1 ↔ (i.val ≤ j.val ∧ j.val ≤ i.val + 128) ∧ 64 ≤ 64 * n.val + j.val ∧ 64 * n.val + j.val < 2048 + 64 := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30]
  simp only [val_main_c_7_apply, val_main_c_8_apply, val_main_c_9_apply, val_main_c_10_apply, val_main_c_11_apply, val_main_c_12_apply, val_main_c_13_apply]
  rw [Head.bit_sle (int_dist i j) (Head.int_nat (a := 64) (by norm_num)), Head.bit_sge (int_place n j) (Head.int_nat (a := 0) (by norm_num)),
    Head.bit_slt (Head.int_add (Head.int_mul (int_place n j) (Head.int_nat (a := 4) (by norm_num)) (by omega) (by omega)) (Head.int_nat (a := r.val) (by omega)) (by omega) (by omega)) (Head.int_nat (a := 8192) (by norm_num)),
    Head.bit_and, Head.bit_and, Head.bit_one, Bool.and_eq_true, Bool.and_eq_true, decide_eq_true_eq, decide_eq_true_eq, decide_eq_true_eq, abs_le]
  push_cast
  omega

theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_neg_eight : Ideal.ofBits .f32 0xC1000000#32 = ((-8 : ℝ) : EReal) := by
  simp [Ideal.ofBits, Ideal.ieee, -EReal.coe_mul]; norm_num

/-- The slopes of the heads. -/
theorem slopes (h : Fin 8) : val_main_v11 (F := Ideal) (ix1 h) = (((1 / 2 : ℝ) ^ (h.val + 1) : ℝ) : EReal) := by
  pointwise [val_main_v11, val_main_v10, val_main_v9, val_main_v8, val_main_v7, val_main_v6, val_main_v5, val_main_v4, val_main_v3]
  simp only [val_main_cst_apply, val_main_cst_0_apply, val_main_cst_1_apply, val_main_cst_2_apply]
  show Ideal.pow (Ideal.ofBits .f32 0x40000000#32) (Ideal.div (Ideal.ofBits .f32 0xC1000000#32 * (Ideal.ofBits .f32 0x3F800000#32 + (((BitVec.ofNat 32 h.val).toInt : ℝ) : EReal))) (Ideal.ofBits .f32 0x41000000#32)) = _
  rw [bits_one, bits_two, bits_eight, bits_neg_eight, Head.int_nat (by omega), ← EReal.coe_add, ← EReal.coe_mul, Ideal.div_coe (by norm_num), ← EReal.coe_mul, Ideal.pow_coe_coe]
  congr 1
  have e : (-8 * (1 + ((h.val : ℤ) : ℝ)) * (1 / 8) : ℝ) = -((h.val + 1 : ℕ) : ℝ) := by push_cast; ring
  rw [e]
  show (2 : ℝ) ^ (-((h.val + 1 : ℕ) : ℝ)) = _
  rw [Real.rpow_neg (by norm_num), Real.rpow_natCast, one_div, inv_pow]

/-- The biases of the heads. -/
theorem biases (h : Fin 8) (i : Fin 64) (j : Fin 192) : val_main_v80 (F := Ideal) (ix3 h i j) = Canon.bias h.val (|(j.val : ℤ) - 64 - i.val| * 4) := by
  pointwise [val_main_v80, val_main_v79, val_main_v78, val_main_v77, val_main_v76, val_main_v75, val_main_v74, val_main_v73, val_main_v72, val_main_v71, val_main_v39, val_main_v38, val_main_v37, val_main_v36, val_main_v35, val_main_v34, val_main_v33, val_main_v32, val_main_v31, val_main_v30]
  simp only [val_main_c_7_apply, val_main_c_14_apply]
  have hb : |(j.val : ℤ) - 64 - i.val| ≤ 1000 := by rw [abs_le]; omega
  have hb' := abs_nonneg ((j.val : ℤ) - 64 - i.val)
  have hw := Head.int_mul (int_dist i j) (Head.int_nat (a := 4) (by norm_num)) (by push_cast; omega) (by push_cast; omega)
  rw [slopes]
  show -_ * (((IntOp.muli (IntOp.absi (IntOp.subi (IntOp.subi (BitVec.ofNat 32 j.val) 64#32) (BitVec.ofNat 32 i.val))) 4#32).toInt : ℝ) : EReal) = _
  rw [hw, ← EReal.coe_neg, ← EReal.coe_mul, Canon.bias]
  congr 1
  push_cast
  ring

theorem add_eq (x y : Ideal .f32) : FloatOps.addf x y = x + y := rfl
theorem sub_eq (x y : Ideal .f32) : FloatOps.subf x y = x - y := rfl
theorem mul_eq (x y : Ideal .f32) : FloatOps.mulf x y = x * y := rfl
theorem exp_eq (x : Ideal .f32) : FloatOps.hostUnary .exp x = Ideal.exp x := rfl
theorem log_eq (x : Ideal .f32) : FloatOps.hostUnary .log x = Ideal.log x := rfl

section Rows

variable (b : Fin 4) (n : Fin 32) (r : Fin 4) (h : Fin 8) (i : Fin 64)

/-- The products of a query and the keys around its chunk. -/
theorem dot (j : Fin 192) :
    val_main_v81 (F := Ideal) x0 x1 (ix6 b n r h i j) = ∑ x, val_main_v15 (F := Ideal) x0 (ix6 b n i r h x) * val_main_v22 (F := Ideal) x1 (ix6 b n j r h x) := by
  pointwise [val_main_v81]

/-- A score before the mask. -/
theorem score (j : Fin 192) :
    val_main_v86 (F := Ideal) x0 x1 (ix6 b n r h i j) = val_main_v81 (F := Ideal) x0 x1 (ix6 b n r h i j) * ((1 / 8 : ℝ) : EReal) +
        val_main_v80 (F := Ideal) (ix3 h i j) := by
  rw [val_main_v86_apply, val_main_v83_apply, val_main_v82_apply, val_main_v85_apply, val_main_v84_apply, val_main_cst_15_apply, add_eq, mul_eq, ← Head.bits_eighth]
  have e : idx_main_v84 (idx_main_v85 (ix6 b n r h i j)) = ix3 h i j := by funext a; fin_cases a <;> rfl
  rw [e]
  generalize val_main_v81 (F := Ideal) x0 x1 (ix6 b n r h i j) = u
  generalize val_main_v80 (F := Ideal) (ix3 h i j) = v
  rfl

/-- A score under the mask. -/
theorem masked (j : Fin 192) :
    val_main_v88 (F := Ideal) x0 x1 (ix6 b n r h i j) = if val_main_v70 (F := Ideal) (ix4 n r i j) = 1#1 then val_main_v86 (F := Ideal) x0 x1 (ix6 b n r h i j) else val_main_cst_16 (F := Ideal) ix0 := by
  pointwise [val_main_v88, val_main_v87, val_main_call5_v1, val_main_call5_v2, val_main_call5_v0]
  rfl

/-- The masked scores of a row are those of its class's row. -/
theorem row (j : Fin 192) (l : ℕ) (hl : l < 64) : val_main_v88 (F := Ideal) x0 x1 (ix6 b n r h i j) =
    Canon.refRow 2048 4 (Canon.view 4 x0) (Canon.view 4 x1) b.val (64 * n.val + i.val) (512 * r.val + 64 * h.val + l) j := by
  have hi := i.isLt
  have hh := h.isLt
  have e1 : (64 * n.val + i.val) % 64 = i.val := by omega
  have e2 : 64 * ((64 * n.val + i.val) / 64) = 64 * n.val := by omega
  have e3 : 64 * ((512 * r.val + 64 * h.val + l) / 64) = 512 * r.val + 64 * h.val := by omega
  have e4 : (512 * r.val + 64 * h.val + l) % 512 / 64 = h.val := by
    rw [Nat.add_assoc, Nat.mul_add_mod, Nat.mod_eq_of_lt (by omega)]; omega
  unfold Canon.refRow
  rw [masked, e1, e2, e3, e4]
  by_cases hc : (i.val ≤ j.val ∧ j.val ≤ i.val + 128) ∧ 64 ≤ 64 * n.val + j.val ∧ 64 * n.val + j.val < 2048 + 64
  · rw [if_pos ((mask n r i j).mpr hc), if_pos hc, score, dot, biases]
    congr 2
    refine Finset.sum_congr rfl fun e _ => ?_
    rw [query, key _ _ _ _ _ _ _ hc.2.1 hc.2.2]
  · rw [if_neg (fun h => hc ((mask n r i j).mp h)), if_neg hc, val_main_cst_16_apply]
    exact Head.bits_neg_inf

theorem most_of (s : FVec Ideal S4x32x4x8x64x192 .f32) :
    Host.reduce FloatOps.maximumf s (constant S_ .f32 0xFF800000#32) reducesTo_S4x32x4x8x64x192_S4x32x4x8x64_d5 h_S_ (ix5 b n r h i) = Band.top fun j : Fin 192 => s (ix6 b n r h i j) := by
  have hr : S4x32x4x8x64x192.Reduces [5] S4x32x4x8x64 := by decide
  refine (Host.reduce_eq_fold_single (FloatOps.maximumf (F := Ideal) (φ := .f32)) s _ reducesTo_S4x32x4x8x64x192_S4x32x4x8x64_d5 hr h_S_ (ix5 b n r h i)).trans ?_
  have e : (s ∘ hr.lift (ix5 b n r h i)) = fun j : Fin 192 => s (ix6 b n r h i j) := by
    funext j
    refine congrArg s ?_
    funext a
    fin_cases a <;> rfl
  rw [e]
  show Finset.fold _ (Ideal.ofBits .f32 0xFF800000#32) _ _ = _
  rw [Head.bits_neg_inf]
  rfl

theorem most : val_main_v89 (F := Ideal) x0 x1 (ix5 b n r h i) = Band.top fun j : Fin 192 => val_main_v88 (F := Ideal) x0 x1 (ix6 b n r h i j) := by
  unfold val_main_v89 val_main_cst_17
  exact most_of b n r h i _

theorem weight (j : Fin 192) :
    val_main_v93 (F := Ideal) x0 x1 (ix6 b n r h i j) = Ideal.exp (val_main_v88 (F := Ideal) x0 x1 (ix6 b n r h i j) - val_main_v89 (F := Ideal) x0 x1 (ix5 b n r h i)) := by
  rw [val_main_v93_apply, val_main_v92_apply, val_main_v91_apply, val_main_v90_apply, exp_eq, sub_eq]
  have e : idx_main_v90 (idx_main_v91 (ix6 b n r h i j)) = ix5 b n r h i := by funext a; fin_cases a <;> rfl
  rw [e]

theorem logarithm :
    val_main_v96 (F := Ideal) x0 x1 (ix5 b n r h i) = val_main_v89 (F := Ideal) x0 x1 (ix5 b n r h i) + Ideal.log (∑ j : Fin 192, val_main_v93 (F := Ideal) x0 x1 (ix6 b n r h i j)) := by
  rw [val_main_v96_apply, val_main_v95_apply, val_main_v94_apply, add_eq, log_eq, val_main_cst_18_apply]
  have e : ∀ j, idx_main_v94 (ix5 b n r h i) j = ix6 b n r h i j := fun j => by funext a; fin_cases a <;> rfl
  simp only [e]
  have z : (FloatOps.ofBits .f32 0x00000000#32 : Ideal .f32) = 0 := Head.bits_zero
  rw [z, zero_add]

/-- The logarithm of a row's mass is its class's row's. -/
theorem lse (l : ℕ) (hl : l < 64) : val_main_v96 (F := Ideal) x0 x1 (ix5 b n r h i) =
    Canon.refLse 2048 4 (Canon.view 4 x0) (Canon.view 4 x1) b.val (64 * n.val + i.val) (512 * r.val + 64 * h.val + l) := by
  have hrow : (fun j : Fin 192 => val_main_v88 (F := Ideal) x0 x1 (ix6 b n r h i j)) =
      Canon.refRow 2048 4 (Canon.view 4 x0) (Canon.view 4 x1) b.val (64 * n.val + i.val) (512 * r.val + 64 * h.val + l) :=
    funext fun j => row x0 x1 b n r h i j l hl
  rw [logarithm]
  simp only [weight, most]
  rw [hrow]
  simp only [row x0 x1 b n r h i _ l hl]
  rfl

theorem share (j : Fin 192) :
    val_main_v100 (F := Ideal) x0 x1 (ix6 b n r h i j) = Ideal.exp (val_main_v88 (F := Ideal) x0 x1 (ix6 b n r h i j) - val_main_v96 (F := Ideal) x0 x1 (ix5 b n r h i)) := by
  pointwise [val_main_v100, val_main_v99, val_main_v98, val_main_v97]

theorem weighted (e : Fin 64) :
    val_main_v101 (F := Ideal) x0 x1 x2 (ix6 b n r h e i) = ∑ j, val_main_v29 (F := Ideal) x2 (ix6 b n j r h e) * val_main_v100 (F := Ideal) x0 x1 (ix6 b n r h i j) := by
  rw [val_main_v101_apply]
  refine Finset.sum_congr rfl fun k _ => ?_
  congr 2
  · funext a; fin_cases a <;> rfl
  · funext a; fin_cases a <;> rfl

/-- The attention's output is its class's row's. -/
theorem output (e : Fin 64) : val_main_v101 (F := Ideal) x0 x1 x2 (ix6 b n r h e i) =
    Canon.refOut 2048 4 (Canon.view 4 x0) (Canon.view 4 x1) (Canon.view 4 x2) b.val (64 * n.val + i.val) (512 * r.val + 64 * h.val + e.val) := by
  have hi := i.isLt
  rw [weighted]
  unfold Canon.refOut
  refine Finset.sum_congr rfl fun j _ => ?_
  rw [share, row x0 x1 b n r h i j e.val e.isLt, lse x0 x1 b n r h i e.val e.isLt]
  have e2 : 64 * ((64 * n.val + i.val) / 64) = 64 * n.val := by omega
  rw [e2]
  by_cases hc : 64 ≤ 64 * n.val + j.val ∧ 64 * n.val + j.val < 2048 + 64
  · rw [value _ _ _ _ _ _ _ hc.1 hc.2]
    rfl
  · have hb : Canon.refRow 2048 4 (Canon.view 4 x0) (Canon.view 4 x1) b.val (64 * n.val + i.val) (512 * r.val + 64 * h.val + e.val) j = ⊥ := by
      refine if_neg fun h => hc ?_
      rw [e2] at h
      exact h.2
    rw [hb, EReal.bot_sub, EReal.bot_sub, Band.exp_bot, mul_zero, mul_zero]

end Rows

theorem output_at (b : Fin 4) (m L : Fin 2048) : val_main_v109 (F := Ideal) x0 x1 x2 (ix3 b m L) =
    Canon.refOut 2048 4 (Canon.view 4 x0) (Canon.view 4 x1) (Canon.view 4 x2) b.val m.val L.val := by
  have h1 : 64 * ((m.val * 4 + L.val / 512) / 256) + (m.val * 4 + L.val / 512) / 4 % 64 = m.val := by omega
  have h2 : 512 * ((m.val * 4 + L.val / 512) % 4) + 64 * (L.val / 64 % 8) + L.val % 64 = L.val := by omega
  pointwise [val_main_v109, val_main_v108, val_main_v103, val_main_v102]
  rw [output]
  show Canon.refOut 2048 4 (Canon.view 4 x0) (Canon.view 4 x1) (Canon.view 4 x2) b.val (64 * ((m.val * 4 + L.val / 512) / 256) + (m.val * 4 + L.val / 512) / 4 % 64)
    (512 * ((m.val * 4 + L.val / 512) % 4) + 64 * (L.val / 64 % 8) + L.val % 64) = _
  rw [h1, h2]

theorem lse_at (b : Fin 4) (m L : Fin 2048) : val_main_v110 (F := Ideal) x0 x1 (ix3 b m L) =
    Canon.refLse 2048 4 (Canon.view 4 x0) (Canon.view 4 x1) b.val m.val L.val := by
  have h1 : 64 * ((m.val * 4 + L.val / 512) / 256) + (m.val * 4 + L.val / 512) / 4 % 64 = m.val := by omega
  have h2 : 512 * ((m.val * 4 + L.val / 512) % 4) + 64 * (L.val / 64 % 8) + L.val % 64 = L.val := by omega
  pointwise [val_main_v110, val_main_v107, val_main_v106, val_main_v105, val_main_v104]
  rw [lse x0 x1 _ _ _ _ _ (L.val % 64) (Nat.mod_lt _ (by norm_num))]
  show Canon.refLse 2048 4 (Canon.view 4 x0) (Canon.view 4 x1) b.val (64 * ((m.val * 4 + L.val / 512) / 256) + (m.val * 4 + L.val / 512) / 4 % 64)
    (512 * ((m.val * 4 + L.val / 512) % 4) + 64 * (L.val / 64 % 8) + L.val % 64) = _
  rw [h1, h2]

/-- The first result. -/
theorem final0 (j : S4x2048x2048.Idx) : val_main_v109 (F := Ideal) x0 x1 x2 j =
    Canon.refOut 2048 4 (Canon.view 4 x0) (Canon.view 4 x1) (Canon.view 4 x2) (j 0).val (j 1).val (j 2).val :=
  (congrArg _ (eq_ix3 j)).trans (output_at x0 x1 x2 (j 0) (j 1) (j 2))

/-- The second result. -/
theorem final1 (j : S4x2048x2048.Idx) : val_main_v110 (F := Ideal) x0 x1 j =
    Canon.refLse 2048 4 (Canon.view 4 x0) (Canon.view 4 x1) (j 0).val (j 1).val (j 2).val :=
  (congrArg _ (eq_ix3 j)).trans (lse_at x0 x1 (j 0) (j 1) (j 2))

end Cert.ReferenceMidIdeal.Whole

end
-- ==== Proof.CMid.lean ====
/- The claims of the attention's pattern with dilation 4. -/
module

public import proofs.«01_k».proof.Defs
public import proofs.«01_k».proof.Proof.Finite
public import proofs.«01_k».proof.Proof.KMid
public import proofs.«01_k».proof.Proof.RMid
public import proofs.«01_k».proof.Proof.Gen.KernelMid.Frame
public import Idealize.ShloMosaic.Adequacy

@[expose] public section

set_option maxRecDepth 16384

noncomputable section

namespace Cert.Proof.Mid

open Idealize.ShloMosaic Idealize.SL.Sem

/-- The kernel runs, keeps its arguments and leaves every semaphore at zero. -/
theorem frame_p : Cert.quiescent_KernelMid := fun m ρ _ => Cert.KernelMid.Gen.frame m ρ

/-- So does its idealization. -/
theorem frame_pi : Cert.quiescent_KernelMidIdeal := fun m ρ _ => Cert.KernelMidIdeal.Gen.frame m ρ
theorem frame_pi_finite : Cert.quiescent_KernelMidIdeal_pre_finite := fun m ρ _ => Cert.KernelMidIdeal.Gen.frame m ρ

/-- So does the reference. -/
theorem frame_ri : Cert.quiescent_ReferenceMidIdeal := fun m ρ _ =>
  (θ_run Cert.ReferenceMidIdeal.defs _ _).mono (fun r h => ⟨fun c => (h c).2.2,
      Idealize.ShloMosaic.sem_eq_zero_of_no_sems (by decide) r.2⟩)
    (Cert.ReferenceMidIdeal.Value.run (F := Ideal) m ρ)
theorem frame_ri_finite : Cert.quiescent_ReferenceMidIdeal_pre_finite := fun m ρ _ =>
  (θ_run Cert.ReferenceMidIdeal.defs _ _).mono (fun r h => ⟨fun c => (h c).2.2,
      Idealize.ShloMosaic.sem_eq_zero_of_no_sems (by decide) r.2⟩)
    (Cert.ReferenceMidIdeal.Value.run (F := Ideal) m ρ)

/-- The idealization names the mask's value and changes nothing else. -/
theorem preserves : Cert.preserves_KernelMid_KernelMidIdeal :=
  IdealRules.named_const.statement Cert.KernelMidIdeal.κ "mask" .f32 0xF149F2CA#32 ⊥ rfl

/-- Of equal arguments with finite queries and keys, kernel and reference end with the same output and the same logarithms. -/
theorem algebraic : Cert.algebraic_KernelMidIdeal_ReferenceMidIdeal_pre_finite := by
  intro m ρ m' ρ' hpre hagree
  refine ⟨fun c j => Canon.refOut 2048 4 (Canon.view 4 (m (c.tc.loc Cert.KernelMidIdeal.main_arg0))) (Canon.view 4 (m (c.tc.loc Cert.KernelMidIdeal.main_arg1)))
      (Canon.view 4 (m (c.tc.loc Cert.KernelMidIdeal.main_arg2))) (j 0).val (j 1).val (j 2).val,
    fun c j => Canon.refLse 2048 4 (Canon.view 4 (m (c.tc.loc Cert.KernelMidIdeal.main_arg0))) (Canon.view 4 (m (c.tc.loc Cert.KernelMidIdeal.main_arg1)))
      (j 0).val (j 1).val (j 2).val, ?_, ?_⟩
  · refine (θ_run Cert.KernelMidIdeal.defs _ _).mono (fun _ h c => ⟨(h c).1.trans ?_, (h c).2.1.trans ?_, (h c).2.2⟩)
      (Cert.KernelMidIdeal.Value.run_blocks m ρ)
    · exact Cert.KernelMidIdeal.Whole.final7 m c (Finite.view_real _ _ (Finite.queries _ _ _ (hpre c).1)) (Finite.view_real _ _ (Finite.keys _ _ _ (hpre c).2))
    · exact Cert.KernelMidIdeal.Whole.final8 m c
  · refine (θ_run Cert.ReferenceMidIdeal.defs _ _).mono (fun _ h c => ⟨(h c).1.trans ?_, (h c).2.1.trans ?_, (h c).2.2⟩)
      (Cert.ReferenceMidIdeal.Value.run (F := Ideal) m' ρ')
    · rw [Cert.ReferenceMidIdeal.Read.val_main_v109_eq, (hagree c).1, (hagree c).2.1, (hagree c).2.2]
      exact funext fun j => Cert.ReferenceMidIdeal.Whole.final0 _ _ _ j
    · rw [Cert.ReferenceMidIdeal.Read.val_main_v110_eq, (hagree c).1, (hagree c).2.1]
      exact funext fun j => Cert.ReferenceMidIdeal.Whole.final1 _ _ j

end Cert.Proof.Mid

end
-- ==== Proof.KNear.lean ====
module

public import proofs.«01_k».proof.Proof.Canon
public import proofs.«01_k».proof.Proof.Gen.KernelNearIdeal.Value
public import Idealize.ShloMosaic.Lib.Pipeline.ValueKit.Point
public import Idealize.ShloMosaic.Lib.Claim

@[expose] public section

set_option maxRecDepth 16384

noncomputable section

namespace Cert.KernelNearIdeal.Whole

open Cert.KernelNearIdeal Cert.KernelNearIdeal.Gen Idealize.ShloMosaic

/-- The value of the mask's constant. -/
abbrev off : Ideal .f32 := Named.named (F := Ideal) (φ := .f32) κ "mask" 0xF149F2CA#32

theorem off_bot : off = ⊥ := IdealRules.named_const.ideal_named_scalar _ _ _ _ rfl

/-- What the body leaves in the output block. -/
theorem out7_eq (i : grid0.Coords) (x0 : Vec Ideal S1x128x512 .bf16) (x1 : Vec Ideal S1x64x512 .bf16) (x2 : Vec Ideal S1x128x512 .bf16) (x3 : Vec Ideal S1x64x512 .bf16)
    (x4 : Vec Ideal S1x64x512 .bf16) (x5 : Vec Ideal S1x128x512 .bf16) (x6 : Vec Ideal S1x64x512 .bf16) :
    out0_7 (F := Ideal) i x0 x1 x2 x3 x4 x5 x6 = View.canon (Head.piecesOut (i 2).val 8192 1 off x0
      (Head.pile (View.ld x1 Head.wholeHalf) (View.ld x2 Head.wholeBlock) (View.ld x3 Head.wholeHalf))
      (Head.pile (View.ld x4 Head.wholeHalf) (View.ld x5 Head.wholeBlock) (View.ld x6 Head.wholeHalf))) := by
  unfold_out out0_7
  unfold_payloads
  unfold Head.piecesOut Head.storeOut Head.pairOut Head.score0 Head.score1 Head.outs Head.total Head.weights Head.most Head.score Head.part Head.high Head.low Head.negDist Head.ok Head.rel Head.pile off
  rfl

theorem out8_eq (i : grid0.Coords) (x0 : Vec Ideal S1x128x512 .bf16) (x1 : Vec Ideal S1x64x512 .bf16) (x2 : Vec Ideal S1x128x512 .bf16) (x3 : Vec Ideal S1x64x512 .bf16)
    (x4 : Vec Ideal S1x64x512 .bf16) (x5 : Vec Ideal S1x128x512 .bf16) (x6 : Vec Ideal S1x64x512 .bf16) :
    out0_8 (F := Ideal) i x0 x1 x2 x3 x4 x5 x6 = View.canon (Head.piecesLse (i 2).val 8192 1 off x0
      (Head.pile (View.ld x1 Head.wholeHalf) (View.ld x2 Head.wholeBlock) (View.ld x3 Head.wholeHalf))) := by
  unfold_out out0_8
  unfold_payloads
  unfold Head.piecesLse Head.storeLse Head.pairLse Head.score0 Head.score1 Head.lses Head.total Head.weights Head.most Head.score Head.part Head.high Head.low Head.negDist Head.ok Head.rel Head.pile off
  rfl

section Array

variable (m : (ℓ : Loc nD τ sig) → Buf (Elt Ideal) ℓ)

/-- Every window's block index at a point. -/
theorem idx : ∀ t : Fin cfg0.N,
    win0_0.index t = ![(grid0.coords t 0).val, (grid0.coords t 2).val, (grid0.coords t 1).val]
    ∧ win0_1.index t = ![(grid0.coords t 0).val, 2 * (grid0.coords t 2).val - 1, (grid0.coords t 1).val]
    ∧ win0_2.index t = ![(grid0.coords t 0).val, (grid0.coords t 2).val, (grid0.coords t 1).val]
    ∧ win0_3.index t = ![(grid0.coords t 0).val, min (2 * ((grid0.coords t 2).val + 1)) 127, (grid0.coords t 1).val]
    ∧ win0_4.index t = ![(grid0.coords t 0).val, 2 * (grid0.coords t 2).val - 1, (grid0.coords t 1).val]
    ∧ win0_5.index t = ![(grid0.coords t 0).val, (grid0.coords t 2).val, (grid0.coords t 1).val]
    ∧ win0_6.index t = ![(grid0.coords t 0).val, min (2 * ((grid0.coords t 2).val + 1)) 127, (grid0.coords t 1).val]
    ∧ win0_7.index t = ![(grid0.coords t 0).val, (grid0.coords t 2).val, (grid0.coords t 1).val]
    ∧ win0_8.index t = ![(grid0.coords t 0).val, (grid0.coords t 2).val, (grid0.coords t 1).val] :=
  (by decide +kernel : ∀ t : Fin grid0.N, _)

/-- The view with a single class is the argument itself. -/
theorem view_one (x : FVec Ideal Canon.TArg .f32) (b : Fin 4) (a : Fin 8192) (l : Fin 512) : x (ix3 b a l) = Canon.view 1 x b.val a.val l.val := by
  unfold Canon.view
  rw [dif_pos (show b.val < 4 ∧ a.val * 1 + l.val / 512 < 8192 by omega)]
  congr 1
  funext e
  fin_cases e
  · rfl
  · exact Fin.ext (show a.val = a.val * 1 + l.val / 512 by omega)
  · exact Fin.ext (show l.val = l.val % 512 by omega)

/-- The queries, as the region finds them, are the argument in its view by residue classes. -/
theorem q_view (c : Dev nD) (j : S4x8192x512.Idx) :
    V m c main_v6 j = Canon.view 1 (m (c.tc.loc main_arg0)) (j 0).val (j 1).val (j 2).val := by
  rw [eq_ix3 j]
  generalize j 0 = b
  generalize j 1 = a
  generalize j 2 = l
  entry_read
  pointwise
  exact view_one _ b a l

/-- The keys, as the region finds them, are the argument in its view by residue classes. -/
theorem k_view (c : Dev nD) (j : S4x8192x512.Idx) :
    V m c main_v7 j = Canon.view 1 (m (c.tc.loc main_arg1)) (j 0).val (j 1).val (j 2).val := by
  rw [eq_ix3 j]
  generalize j 0 = b
  generalize j 1 = a
  generalize j 2 = l
  entry_read
  pointwise
  exact view_one _ b a l

/-- The values, as the region finds them, are the argument in its view by residue classes. -/
theorem v_view (c : Dev nD) (j : S4x8192x512.Idx) :
    V m c main_v8 j = Canon.view 1 (m (c.tc.loc main_arg2)) (j 0).val (j 1).val (j 2).val := by
  rw [eq_ix3 j]
  generalize j 0 = b
  generalize j 1 = a
  generalize j 2 = l
  entry_read
  pointwise
  exact view_one _ b a l

/-- Window 0's block at a point, read at an index. -/
theorem read0 (c : Dev nD) (t : Fin cfg0.N) (y : S1x128x512.Idx) :
    iblk m c 0 t y = Canon.view 1 (m (c.tc.loc main_arg0)) (grid0.coords t 0).val ((grid0.coords t 2).val * 128 + (y 1).val) ((grid0.coords t 1).val * 512 + (y 2).val) := by
  unfold iblk
  rw [View.read_apply]
  refine (cast_eq _ _).trans ?_
  refine (q_view m c _).trans ?_
  blk_simp [idx t]

/-- Window 1's block at a point, read at an index. -/
theorem read1 (c : Dev nD) (t : Fin cfg0.N) (y : S1x64x512.Idx) :
    iblk m c 1 t y = Canon.view 1 (m (c.tc.loc main_arg1)) (grid0.coords t 0).val ((2 * (grid0.coords t 2).val - 1) * 64 + (y 1).val) ((grid0.coords t 1).val * 512 + (y 2).val) := by
  unfold iblk
  rw [View.read_apply]
  refine (cast_eq _ _).trans ?_
  refine (k_view m c _).trans ?_
  blk_simp [idx t]

/-- Window 2's block at a point, read at an index. -/
theorem read2 (c : Dev nD) (t : Fin cfg0.N) (y : S1x128x512.Idx) :
    iblk m c 2 t y = Canon.view 1 (m (c.tc.loc main_arg1)) (grid0.coords t 0).val ((grid0.coords t 2).val * 128 + (y 1).val) ((grid0.coords t 1).val * 512 + (y 2).val) := by
  unfold iblk
  rw [View.read_apply]
  refine (cast_eq _ _).trans ?_
  refine (k_view m c _).trans ?_
  blk_simp [idx t]

/-- Window 3's block at a point, read at an index. -/
theorem read3 (c : Dev nD) (t : Fin cfg0.N) (y : S1x64x512.Idx) :
    iblk m c 3 t y = Canon.view 1 (m (c.tc.loc main_arg1)) (grid0.coords t 0).val ((min (2 * ((grid0.coords t 2).val + 1)) 127) * 64 + (y 1).val) ((grid0.coords t 1).val * 512 + (y 2).val) := by
  unfold iblk
  rw [View.read_apply]
  refine (cast_eq _ _).trans ?_
  refine (k_view m c _).trans ?_
  blk_simp [idx t]

/-- Window 4's block at a point, read at an index. -/
theorem read4 (c : Dev nD) (t : Fin cfg0.N) (y : S1x64x512.Idx) :
    iblk m c 4 t y = Canon.view 1 (m (c.tc.loc main_arg2)) (grid0.coords t 0).val ((2 * (grid0.coords t 2).val - 1) * 64 + (y 1).val) ((grid0.coords t 1).val * 512 + (y 2).val) := by
  unfold iblk
  rw [View.read_apply]
  refine (cast_eq _ _).trans ?_
  refine (v_view m c _).trans ?_
  blk_simp [idx t]

/-- Window 5's block at a point, read at an index. -/
theorem read5 (c : Dev nD) (t : Fin cfg0.N) (y : S1x128x512.Idx) :
    iblk m c 5 t y = Canon.view 1 (m (c.tc.loc main_arg2)) (grid0.coords t 0).val ((grid0.coords t 2).val * 128 + (y 1).val) ((grid0.coords t 1).val * 512 + (y 2).val) := by
  unfold iblk
  rw [View.read_apply]
  refine (cast_eq _ _).trans ?_
  refine (v_view m c _).trans ?_
  blk_simp [idx t]

/-- Window 6's block at a point, read at an index. -/
theorem read6 (c : Dev nD) (t : Fin cfg0.N) (y : S1x64x512.Idx) :
    iblk m c 6 t y = Canon.view 1 (m (c.tc.loc main_arg2)) (grid0.coords t 0).val ((min (2 * ((grid0.coords t 2).val + 1)) 127) * 64 + (y 1).val) ((grid0.coords t 1).val * 512 + (y 2).val) := by
  unfold iblk
  rw [View.read_apply]
  refine (cast_eq _ _).trans ?_
  refine (v_view m c _).trans ?_
  blk_simp [idx t]

/-- The 256 keys of a tile that lie in the class are its rows from 64 before the tile on. -/
theorem k_pile (c : Dev nD) (t : Fin cfg0.N) (x : Fin 256) (l : Fin 512) (h1 : 64 ≤ 128 * (grid0.coords t 2).val + x.val) (h2 : 128 * (grid0.coords t 2).val + x.val < 8192 + 64) :
    Head.pile (View.ld (iblk m c 1 t) Head.wholeHalf) (View.ld (iblk m c 2 t) Head.wholeBlock) (View.ld (iblk m c 3 t) Head.wholeHalf) (ix2 x l) =
      Canon.view 1 (m (c.tc.loc main_arg1)) (grid0.coords t 0).val (128 * (grid0.coords t 2).val + x.val - 64) (512 * (grid0.coords t 1).val + l.val) := by
  rw [Head.pile_apply, Head.load_half, Head.load_block, Head.load_half]
  unfold Head.rowAt
  have hx := x.isLt
  split_ifs with g1 g2
  · refine (read1 m c t _).trans ?_
    congr 1
    · show (2 * (grid0.coords t 2).val - 1) * 64 + x.val = _
      omega
    · exact congrArg (· + l.val) (Nat.mul_comm _ _)
  · refine (read2 m c t _).trans ?_
    congr 1
    · show (grid0.coords t 2).val * 128 + (x.val - 64) = _
      omega
    · exact congrArg (· + l.val) (Nat.mul_comm _ _)
  · refine (read3 m c t _).trans ?_
    congr 1
    · show (min (2 * ((grid0.coords t 2).val + 1)) 127) * 64 + (x.val - 64 - 128) = _
      omega
    · exact congrArg (· + l.val) (Nat.mul_comm _ _)

/-- The 256 values of a tile that lie in the class are its rows from 64 before the tile on. -/
theorem v_pile (c : Dev nD) (t : Fin cfg0.N) (x : Fin 256) (l : Fin 512) (h1 : 64 ≤ 128 * (grid0.coords t 2).val + x.val) (h2 : 128 * (grid0.coords t 2).val + x.val < 8192 + 64) :
    Head.pile (View.ld (iblk m c 4 t) Head.wholeHalf) (View.ld (iblk m c 5 t) Head.wholeBlock) (View.ld (iblk m c 6 t) Head.wholeHalf) (ix2 x l) =
      Canon.view 1 (m (c.tc.loc main_arg2)) (grid0.coords t 0).val (128 * (grid0.coords t 2).val + x.val - 64) (512 * (grid0.coords t 1).val + l.val) := by
  rw [Head.pile_apply, Head.load_half, Head.load_block, Head.load_half]
  unfold Head.rowAt
  have hx := x.isLt
  split_ifs with g1 g2
  · refine (read4 m c t _).trans ?_
    congr 1
    · show (2 * (grid0.coords t 2).val - 1) * 64 + x.val = _
      omega
    · exact congrArg (· + l.val) (Nat.mul_comm _ _)
  · refine (read5 m c t _).trans ?_
    congr 1
    · show (grid0.coords t 2).val * 128 + (x.val - 64) = _
      omega
    · exact congrArg (· + l.val) (Nat.mul_comm _ _)
  · refine (read6 m c t _).trans ?_
    congr 1
    · show (min (2 * ((grid0.coords t 2).val + 1)) 127) * 64 + (x.val - 64 - 128) = _
      omega
    · exact congrArg (· + l.val) (Nat.mul_comm _ _)

theorem q_row (c : Dev nD) (t : Fin cfg0.N) (p : Fin 128) (l : Fin 512) :
    iblk m c 0 t (ix3 0 p l) = Canon.view 1 (m (c.tc.loc main_arg0)) (grid0.coords t 0).val (128 * (grid0.coords t 2).val + p.val) (512 * (grid0.coords t 1).val + l.val) := by
  refine (read0 m c t _).trans ?_
  rw [Nat.mul_comm 128, Nat.mul_comm 512]
  rfl

theorem tile_le (t : Fin cfg0.N) : (grid0.coords t 2).val ≤ 63 := Nat.le_of_lt_succ (grid0.coords t 2).isLt

/-- The attention's output array, of real queries and keys. -/
theorem final7 (c : Dev nD) (hq : ∀ b n L, ∃ x : ℝ, Canon.view 1 (m (c.tc.loc main_arg0)) b n L = (x : EReal))
    (hk : ∀ b n L, ∃ x : ℝ, Canon.view 1 (m (c.tc.loc main_arg1)) b n L = (x : EReal)) :
    (dats m 0 c).arrAt 7 cfg0.N = fun j => Canon.refOut 8192 1
    (Canon.view 1 (m (c.tc.loc main_arg0))) (Canon.view 1 (m (c.tc.loc main_arg1))) (Canon.view 1 (m (c.tc.loc main_arg2))) (j 0).val (j 1).val (j 2).val := by
  refine (dats m 0 c).arrAt_eq_of_covers 7 _ (by decide +kernel) fun t hf y => ?_
  blk_simp [idx t]
  rw [after0_7, out7_eq, Head.blockOut _ _ _ _ _ _ _ off_bot (by have := tile_le t; omega) (by norm_num) (by norm_num)]
  have ht := tile_le t
  have hy : (y 1).val < 128 := (y 1).isLt
  refine (Canon.out_eq 8192 1 (grid0.coords t 2).val (grid0.coords t 0).val (grid0.coords t 1).val _ _ _ _ _ _ (y 1) (y 2)
    (fun l => q_row m c t (y 1) l) (fun x l => k_pile m c t x l) (fun x l => v_pile m c t x l) hq hk (by omega)).trans ?_
  have h0 : (grid0.coords t 1).val = 0 := Nat.lt_one_iff.mp (grid0.coords t 1).isLt
  rw [Nat.mul_comm 128, h0, Nat.mul_zero, Nat.zero_add]

/-- The attention's logarithms of the mass. -/
theorem final8 (c : Dev nD) : (dats m 0 c).arrAt 8 cfg0.N = fun j => Canon.refLse 8192 1
    (Canon.view 1 (m (c.tc.loc main_arg0))) (Canon.view 1 (m (c.tc.loc main_arg1))) (j 0).val (j 1).val (j 2).val := by
  refine (dats m 0 c).arrAt_eq_of_covers 8 _ (by decide +kernel) fun t hf y => ?_
  blk_simp [idx t]
  rw [after0_8, out8_eq, Head.blockLse _ _ _ _ _ _ off_bot (by have := tile_le t; omega) (by norm_num) (by norm_num)]
  refine (Canon.lse_eq 8192 1 (grid0.coords t 2).val (grid0.coords t 0).val (grid0.coords t 1).val _ _ _ _ (y 1) (y 2)
    (fun l => q_row m c t (y 1) l) (fun x l => k_pile m c t x l)).trans ?_
  have h0 : (grid0.coords t 1).val = 0 := Nat.lt_one_iff.mp (grid0.coords t 1).isLt
  rw [Nat.mul_comm 128, h0, Nat.mul_zero, Nat.zero_add]

end Array

end Cert.KernelNearIdeal.Whole

end
-- ==== Proof.RNear.lean ====
module

public import proofs.«01_k».proof.Proof.Canon
public import proofs.«01_k».proof.Proof.Gen.ReferenceNearIdeal.Read
public import Idealize.ShloMosaic.Lib.Pointwise

@[expose] public section

set_option maxRecDepth 16384

noncomputable section

namespace Cert.ReferenceNearIdeal.Whole

open Cert.ReferenceNearIdeal Cert.ReferenceNearIdeal.Gen Cert.ReferenceNearIdeal.Read Idealize.ShloMosaic

variable (x0 x1 x2 : FVec Ideal Canon.TArg .f32)

/-- An argument's element under the reference's index is the argument in its view by residue classes. -/
theorem at_view (x : FVec Ideal Canon.TArg .f32) (b a l : ℕ) (m L : ℕ) (hb : b < 4) (ha : a < 8192) (hl : l < 512) (h1 : m * 1 + L / 512 = a) (h2 : L % 512 = l) :
    x (ix3 ⟨b, hb⟩ ⟨a, ha⟩ ⟨l, hl⟩) = Canon.view 1 x b m L := by
  subst h1 h2
  unfold Canon.view
  rw [dif_pos ⟨hb, ha⟩]

/-- The queries, split in chunks, classes and heads. -/
theorem query (b : Fin 4) (n : Fin 128) (i : Fin 64) (r : Fin 1) (h : Fin 8) (e : Fin 64) :
    val_main_v15 (F := Ideal) x0 (ix6 b n i r h e) = Canon.view 1 x0 b.val (64 * n.val + i.val) (512 * r.val + 64 * h.val + e.val) := by
  pointwise [val_main_v15, val_main_v12, val_main_v0]
  rw [dif_pos (by omega)]
  exact at_view _ _ _ _ _ _ _ _ _ (by omega) (by omega)

/-- The keys around a chunk: the rows from 64 before it to 64 after it that lie in the class. -/
theorem key (b : Fin 4) (n : Fin 128) (j : Fin 192) (r : Fin 1) (h : Fin 8) (e : Fin 64) (h1 : 64 ≤ 64 * n.val + j.val) (h2 : 64 * n.val + j.val < 8192 + 64) :
    val_main_v22 (F := Ideal) x1 (ix6 b n j r h e) = Canon.view 1 x1 b.val (64 * n.val + j.val - 64) (512 * r.val + 64 * h.val + e.val) := by
  pointwise [val_main_v22, val_main_v19, val_main_v20, val_main_v21, val_main_v18, val_main_v17, val_main_v16, val_main_v13, val_main_v1]
  split_ifs
  all_goals first | omega | exact at_view _ _ _ _ _ _ _ _ _ (by omega) (by omega)

/-- The values around a chunk: the rows from 64 before it to 64 after it that lie in the class. -/
theorem value (b : Fin 4) (n : Fin 128) (j : Fin 192) (r : Fin 1) (h : Fin 8) (e : Fin 64) (h1 : 64 ≤ 64 * n.val + j.val) (h2 : 64 * n.val + j.val < 8192 + 64) :
    val_main_v29 (F := Ideal) x2 (ix6 b n j r h e) = Canon.view 1 x2 b.val (64 * n.val + j.val - 64) (512 * r.val + 64 * h.val + e.val) := by
  pointwise [val_main_v29, val_main_v26, val_main_v27, val_main_v28, val_main_v25, val_main_v24, val_main_v23, val_main_v14, val_main_v2]
  split_ifs
  all_goals first | omega | exact at_view _ _ _ _ _ _ _ _ _ (by omega) (by omega)

theorem int_dist (i : Fin 64) (j : Fin 192) : (IntOp.absi (IntOp.subi (IntOp.subi (BitVec.ofNat 32 j.val) 64#32) (BitVec.ofNat 32 i.val))).toInt = |(j.val : ℤ) - 64 - i.val| :=
  Head.int_abs (Head.int_sub (Head.int_sub (Head.int_nat (by omega)) (Head.int_nat (a := 64) (by norm_num)) (by omega) (by omega)) (Head.int_nat (by omega)) (by omega) (by omega)) (by omega)

theorem int_place (n : Fin 128) (j : Fin 192) :
    (IntOp.subi (IntOp.addi (IntOp.muli (BitVec.ofNat 32 n.val) 64#32) (BitVec.ofNat 32 j.val)) 64#32).toInt = (n.val : ℤ) * 64 + j.val - 64 :=
  Head.int_sub (Head.int_add (Head.int_mul (Head.int_nat (by omega)) (Head.int_nat (a := 64) (by norm_num)) (by omega) (by omega)) (Head.int_nat (by omega)) (by omega) (by omega)) (Head.int_nat (a := 64) (by norm_num)) (by omega) (by omega)

/-- The mask is on at the keys of the band that lie in the class. -/
theorem mask (n : Fin 128) (r : Fin 1) (i : Fin 64) (j : Fin 192) :
    val_main_v68 (F := Ideal) (ix4 n r i j) = 1#1 ↔ (i.val ≤ j.val ∧ j.val ≤ i.val + 128) ∧ 64 ≤ 64 * n.val + j.val ∧ 64 * n.val + j.val < 8192 + 64 := by
  pointwise [val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30]
  simp only [val_main_c_7_apply, val_main_c_8_apply, val_main_c_9_apply, val_main_c_10_apply, val_main_c_11_apply, val_main_c_12_apply, val_main_c_13_apply]
  rw [Head.bit_sle (int_dist i j) (Head.int_nat (a := 64) (by norm_num)), Head.bit_sge (int_place n j) (Head.int_nat (a := 0) (by norm_num)),
    Head.bit_slt (Head.int_add (Head.int_mul (int_place n j) (Head.int_nat (a := 1) (by norm_num)) (by omega) (by omega)) (Head.int_nat (a := 0) (by norm_num)) (by omega) (by omega)) (Head.int_nat (a := 8192) (by norm_num)),
    Head.bit_and, Head.bit_and, Head.bit_one, Bool.and_eq_true, Bool.and_eq_true, decide_eq_true_eq, decide_eq_true_eq, decide_eq_true_eq, abs_le]
  push_cast
  omega

theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_neg_eight : Ideal.ofBits .f32 0xC1000000#32 = ((-8 : ℝ) : EReal) := by
  simp [Ideal.ofBits, Ideal.ieee, -EReal.coe_mul]; norm_num

/-- The slopes of the heads. -/
theorem slopes (h : Fin 8) : val_main_v11 (F := Ideal) (ix1 h) = (((1 / 2 : ℝ) ^ (h.val + 1) : ℝ) : EReal) := by
  pointwise [val_main_v11, val_main_v10, val_main_v9, val_main_v8, val_main_v7, val_main_v6, val_main_v5, val_main_v4, val_main_v3]
  simp only [val_main_cst_apply, val_main_cst_0_apply, val_main_cst_1_apply, val_main_cst_2_apply]
  show Ideal.pow (Ideal.ofBits .f32 0x40000000#32) (Ideal.div (Ideal.ofBits .f32 0xC1000000#32 * (Ideal.ofBits .f32 0x3F800000#32 + (((BitVec.ofNat 32 h.val).toInt : ℝ) : EReal))) (Ideal.ofBits .f32 0x41000000#32)) = _
  rw [bits_one, bits_two, bits_eight, bits_neg_eight, Head.int_nat (by omega), ← EReal.coe_add, ← EReal.coe_mul, Ideal.div_coe (by norm_num), ← EReal.coe_mul, Ideal.pow_coe_coe]
  congr 1
  have e : (-8 * (1 + ((h.val : ℤ) : ℝ)) * (1 / 8) : ℝ) = -((h.val + 1 : ℕ) : ℝ) := by push_cast; ring
  rw [e]
  show (2 : ℝ) ^ (-((h.val + 1 : ℕ) : ℝ)) = _
  rw [Real.rpow_neg (by norm_num), Real.rpow_natCast, one_div, inv_pow]

/-- The biases of the heads. -/
theorem biases (h : Fin 8) (i : Fin 64) (j : Fin 192) : val_main_v78 (F := Ideal) (ix3 h i j) = Canon.bias h.val (|(j.val : ℤ) - 64 - i.val| * 1) := by
  pointwise [val_main_v78, val_main_v77, val_main_v76, val_main_v75, val_main_v74, val_main_v73, val_main_v72, val_main_v71, val_main_v70, val_main_v69, val_main_v39, val_main_v38, val_main_v37, val_main_v36, val_main_v35, val_main_v34, val_main_v33, val_main_v32, val_main_v31, val_main_v30]
  simp only [val_main_c_7_apply, val_main_c_14_apply]
  have hb : |(j.val : ℤ) - 64 - i.val| ≤ 1000 := by rw [abs_le]; omega
  have hb' := abs_nonneg ((j.val : ℤ) - 64 - i.val)
  have hw := Head.int_mul (int_dist i j) (Head.int_nat (a := 1) (by norm_num)) (by push_cast; omega) (by push_cast; omega)
  rw [slopes]
  show -_ * (((IntOp.muli (IntOp.absi (IntOp.subi (IntOp.subi (BitVec.ofNat 32 j.val) 64#32) (BitVec.ofNat 32 i.val)))  1#32).toInt : ℝ) : EReal) = _
  rw [hw, ← EReal.coe_neg, ← EReal.coe_mul, Canon.bias]
  congr 1
  push_cast
  ring

theorem add_eq (x y : Ideal .f32) : FloatOps.addf x y = x + y := rfl
theorem sub_eq (x y : Ideal .f32) : FloatOps.subf x y = x - y := rfl
theorem mul_eq (x y : Ideal .f32) : FloatOps.mulf x y = x * y := rfl
theorem exp_eq (x : Ideal .f32) : FloatOps.hostUnary .exp x = Ideal.exp x := rfl
theorem log_eq (x : Ideal .f32) : FloatOps.hostUnary .log x = Ideal.log x := rfl

section Rows

variable (b : Fin 4) (n : Fin 128) (r : Fin 1) (h : Fin 8) (i : Fin 64)

/-- The products of a query and the keys around its chunk. -/
theorem dot (j : Fin 192) :
    val_main_v79 (F := Ideal) x0 x1 (ix6 b n r h i j) = ∑ x, val_main_v15 (F := Ideal) x0 (ix6 b n i r h x) * val_main_v22 (F := Ideal) x1 (ix6 b n j r h x) := by
  pointwise [val_main_v79]

/-- A score before the mask. -/
theorem score (j : Fin 192) :
    val_main_v84 (F := Ideal) x0 x1 (ix6 b n r h i j) = val_main_v79 (F := Ideal) x0 x1 (ix6 b n r h i j) * ((1 / 8 : ℝ) : EReal) +
        val_main_v78 (F := Ideal) (ix3 h i j) := by
  rw [val_main_v84_apply, val_main_v81_apply, val_main_v80_apply, val_main_v83_apply, val_main_v82_apply, val_main_cst_15_apply, add_eq, mul_eq, ← Head.bits_eighth]
  have e : idx_main_v82 (idx_main_v83 (ix6 b n r h i j)) = ix3 h i j := by funext a; fin_cases a <;> rfl
  rw [e]
  generalize val_main_v79 (F := Ideal) x0 x1 (ix6 b n r h i j) = u
  generalize val_main_v78 (F := Ideal) (ix3 h i j) = v
  rfl

/-- A score under the mask. -/
theorem masked (j : Fin 192) :
    val_main_v86 (F := Ideal) x0 x1 (ix6 b n r h i j) = if val_main_v68 (F := Ideal) (ix4 n r i j) = 1#1 then val_main_v84 (F := Ideal) x0 x1 (ix6 b n r h i j) else val_main_cst_16 (F := Ideal) ix0 := by
  pointwise [val_main_v86, val_main_v85, val_main_call5_v1, val_main_call5_v2, val_main_call5_v0]
  rfl

/-- The masked scores of a row are those of its class's row. -/
theorem row (j : Fin 192) (l : ℕ) (hl : l < 64) : val_main_v86 (F := Ideal) x0 x1 (ix6 b n r h i j) =
    Canon.refRow 8192 1 (Canon.view 1 x0) (Canon.view 1 x1) b.val (64 * n.val + i.val) (512 * r.val + 64 * h.val + l) j := by
  have hi := i.isLt
  have hh := h.isLt
  have e1 : (64 * n.val + i.val) % 64 = i.val := by omega
  have e2 : 64 * ((64 * n.val + i.val) / 64) = 64 * n.val := by omega
  have e3 : 64 * ((512 * r.val + 64 * h.val + l) / 64) = 512 * r.val + 64 * h.val := by omega
  have e4 : (512 * r.val + 64 * h.val + l) % 512 / 64 = h.val := by
    rw [Nat.add_assoc, Nat.mul_add_mod, Nat.mod_eq_of_lt (by omega)]; omega
  unfold Canon.refRow
  rw [masked, e1, e2, e3, e4]
  by_cases hc : (i.val ≤ j.val ∧ j.val ≤ i.val + 128) ∧ 64 ≤ 64 * n.val + j.val ∧ 64 * n.val + j.val < 8192 + 64
  · rw [if_pos ((mask n r i j).mpr hc), if_pos hc, score, dot, biases]
    congr 2
    refine Finset.sum_congr rfl fun e _ => ?_
    rw [query, key _ _ _ _ _ _ _ hc.2.1 hc.2.2]
  · rw [if_neg (fun h => hc ((mask n r i j).mp h)), if_neg hc, val_main_cst_16_apply]
    exact Head.bits_neg_inf

theorem most_of (s : FVec Ideal S4x128x1x8x64x192 .f32) :
    Host.reduce FloatOps.maximumf s (constant S_ .f32 0xFF800000#32) reducesTo_S4x128x1x8x64x192_S4x128x1x8x64_d5 h_S_ (ix5 b n r h i) = Band.top fun j : Fin 192 => s (ix6 b n r h i j) := by
  have hr : S4x128x1x8x64x192.Reduces [5] S4x128x1x8x64 := by decide
  refine (Host.reduce_eq_fold_single (FloatOps.maximumf (F := Ideal) (φ := .f32)) s _ reducesTo_S4x128x1x8x64x192_S4x128x1x8x64_d5 hr h_S_ (ix5 b n r h i)).trans ?_
  have e : (s ∘ hr.lift (ix5 b n r h i)) = fun j : Fin 192 => s (ix6 b n r h i j) := by
    funext j
    refine congrArg s ?_
    funext a
    fin_cases a <;> rfl
  rw [e]
  show Finset.fold _ (Ideal.ofBits .f32 0xFF800000#32) _ _ = _
  rw [Head.bits_neg_inf]
  rfl

theorem most : val_main_v87 (F := Ideal) x0 x1 (ix5 b n r h i) = Band.top fun j : Fin 192 => val_main_v86 (F := Ideal) x0 x1 (ix6 b n r h i j) := by
  unfold val_main_v87 val_main_cst_17
  exact most_of b n r h i _

theorem weight (j : Fin 192) :
    val_main_v91 (F := Ideal) x0 x1 (ix6 b n r h i j) = Ideal.exp (val_main_v86 (F := Ideal) x0 x1 (ix6 b n r h i j) - val_main_v87 (F := Ideal) x0 x1 (ix5 b n r h i)) := by
  obtain rfl : r = 0 := Subsingleton.elim _ _
  rw [val_main_v91_apply, val_main_v90_apply, val_main_v89_apply, val_main_v88_apply, exp_eq, sub_eq]
  have e : idx_main_v88 (idx_main_v89 (ix6 b n 0 h i j)) = ix5 b n 0 h i := by funext a; fin_cases a <;> rfl
  rw [e]

theorem logarithm :
    val_main_v94 (F := Ideal) x0 x1 (ix5 b n r h i) = val_main_v87 (F := Ideal) x0 x1 (ix5 b n r h i) + Ideal.log (∑ j : Fin 192, val_main_v91 (F := Ideal) x0 x1 (ix6 b n r h i j)) := by
  rw [val_main_v94_apply, val_main_v93_apply, val_main_v92_apply, add_eq, log_eq, val_main_cst_18_apply]
  have e : ∀ j, idx_main_v92 (ix5 b n r h i) j = ix6 b n r h i j := fun j => by funext a; fin_cases a <;> rfl
  simp only [e]
  have z : (FloatOps.ofBits .f32 0x00000000#32 : Ideal .f32) = 0 := Head.bits_zero
  rw [z, zero_add]

/-- The logarithm of a row's mass is its class's row's. -/
theorem lse (l : ℕ) (hl : l < 64) : val_main_v94 (F := Ideal) x0 x1 (ix5 b n r h i) =
    Canon.refLse 8192 1 (Canon.view 1 x0) (Canon.view 1 x1) b.val (64 * n.val + i.val) (512 * r.val + 64 * h.val + l) := by
  have hrow : (fun j : Fin 192 => val_main_v86 (F := Ideal) x0 x1 (ix6 b n r h i j)) =
      Canon.refRow 8192 1 (Canon.view 1 x0) (Canon.view 1 x1) b.val (64 * n.val + i.val) (512 * r.val + 64 * h.val + l) :=
    funext fun j => row x0 x1 b n r h i j l hl
  rw [logarithm]
  simp only [weight, most]
  rw [hrow]
  simp only [row x0 x1 b n r h i _ l hl]
  rfl

theorem share (j : Fin 192) :
    val_main_v98 (F := Ideal) x0 x1 (ix6 b n r h i j) = Ideal.exp (val_main_v86 (F := Ideal) x0 x1 (ix6 b n r h i j) - val_main_v94 (F := Ideal) x0 x1 (ix5 b n r h i)) := by
  obtain rfl : r = 0 := Subsingleton.elim _ _
  pointwise [val_main_v98, val_main_v97, val_main_v96, val_main_v95]

theorem weighted (e : Fin 64) :
    val_main_v99 (F := Ideal) x0 x1 x2 (ix6 b n r h e i) = ∑ j, val_main_v29 (F := Ideal) x2 (ix6 b n j r h e) * val_main_v98 (F := Ideal) x0 x1 (ix6 b n r h i j) := by
  rw [val_main_v99_apply]
  refine Finset.sum_congr rfl fun k _ => ?_
  congr 2
  · funext a; fin_cases a <;> rfl
  · funext a; fin_cases a <;> rfl

/-- The attention's output is its class's row's. -/
theorem output (e : Fin 64) : val_main_v99 (F := Ideal) x0 x1 x2 (ix6 b n r h e i) =
    Canon.refOut 8192 1 (Canon.view 1 x0) (Canon.view 1 x1) (Canon.view 1 x2) b.val (64 * n.val + i.val) (512 * r.val + 64 * h.val + e.val) := by
  have hi := i.isLt
  rw [weighted]
  unfold Canon.refOut
  refine Finset.sum_congr rfl fun j _ => ?_
  rw [share, row x0 x1 b n r h i j e.val e.isLt, lse x0 x1 b n r h i e.val e.isLt]
  have e2 : 64 * ((64 * n.val + i.val) / 64) = 64 * n.val := by omega
  rw [e2]
  by_cases hc : 64 ≤ 64 * n.val + j.val ∧ 64 * n.val + j.val < 8192 + 64
  · rw [value _ _ _ _ _ _ _ hc.1 hc.2]
    rfl
  · have hb : Canon.refRow 8192 1 (Canon.view 1 x0) (Canon.view 1 x1) b.val (64 * n.val + i.val) (512 * r.val + 64 * h.val + e.val) j = ⊥ := by
      refine if_neg fun h => hc ?_
      rw [e2] at h
      exact h.2
    rw [hb, EReal.bot_sub, EReal.bot_sub, Band.exp_bot, mul_zero, mul_zero]

end Rows

theorem output_at (b : Fin 4) (m : Fin 8192) (L : Fin 512) : val_main_v107 (F := Ideal) x0 x1 x2 (ix3 b m L) =
    Canon.refOut 8192 1 (Canon.view 1 x0) (Canon.view 1 x1) (Canon.view 1 x2) b.val m.val L.val := by
  have h1 : 64 * (m.val / 64) + m.val % 64 = m.val := by omega
  have h2 : 512 * 0 + 64 * (L.val / 64) + L.val % 64 = L.val := by omega
  pointwise [val_main_v107, val_main_v106, val_main_v101, val_main_v100]
  rw [output]
  show Canon.refOut 8192 1 (Canon.view 1 x0) (Canon.view 1 x1) (Canon.view 1 x2) b.val (64 * (m.val / 64) + m.val % 64)
    (512 * 0 + 64 * (L.val / 64) + L.val % 64) = _
  rw [h1, h2]

theorem lse_at (b : Fin 4) (m : Fin 8192) (L : Fin 512) : val_main_v108 (F := Ideal) x0 x1 (ix3 b m L) =
    Canon.refLse 8192 1 (Canon.view 1 x0) (Canon.view 1 x1) b.val m.val L.val := by
  have h1 : 64 * (m.val / 64) + m.val % 64 = m.val := by omega
  have h2 : 512 * 0 + 64 * (L.val / 64) + L.val % 64 = L.val := by omega
  pointwise [val_main_v108, val_main_v105, val_main_v104, val_main_v103, val_main_v102]
  rw [lse x0 x1 _ _ _ _ _ (L.val % 64) (Nat.mod_lt _ (by norm_num))]
  show Canon.refLse 8192 1 (Canon.view 1 x0) (Canon.view 1 x1) b.val (64 * (m.val / 64) + m.val % 64)
    (512 * 0 + 64 * (L.val / 64) + L.val % 64) = _
  rw [h1, h2]

/-- The first result. -/
theorem final0 (j : S4x8192x512.Idx) : val_main_v107 (F := Ideal) x0 x1 x2 j =
    Canon.refOut 8192 1 (Canon.view 1 x0) (Canon.view 1 x1) (Canon.view 1 x2) (j 0).val (j 1).val (j 2).val :=
  (congrArg _ (eq_ix3 j)).trans (output_at x0 x1 x2 (j 0) (j 1) (j 2))

/-- The second result. -/
theorem final1 (j : S4x8192x512.Idx) : val_main_v108 (F := Ideal) x0 x1 j =
    Canon.refLse 8192 1 (Canon.view 1 x0) (Canon.view 1 x1) (j 0).val (j 1).val (j 2).val :=
  (congrArg _ (eq_ix3 j)).trans (lse_at x0 x1 (j 0) (j 1) (j 2))

end Cert.ReferenceNearIdeal.Whole

end
-- ==== Proof.CNear.lean ====
/- The claims of the attention's pattern with dilation 1. -/
module

public import proofs.«01_k».proof.Defs
public import proofs.«01_k».proof.Proof.Finite
public import proofs.«01_k».proof.Proof.KNear
public import proofs.«01_k».proof.Proof.RNear
public import proofs.«01_k».proof.Proof.Gen.KernelNear.Frame
public import Idealize.ShloMosaic.Adequacy

@[expose] public section

set_option maxRecDepth 16384

noncomputable section

namespace Cert.Proof.Near

open Idealize.ShloMosaic Idealize.SL.Sem

/-- The kernel runs, keeps its arguments and leaves every semaphore at zero. -/
theorem frame_p : Cert.quiescent_KernelNear := fun m ρ _ => Cert.KernelNear.Gen.frame m ρ

/-- So does its idealization. -/
theorem frame_pi : Cert.quiescent_KernelNearIdeal := fun m ρ _ => Cert.KernelNearIdeal.Gen.frame m ρ
theorem frame_pi_finite : Cert.quiescent_KernelNearIdeal_pre_finite := fun m ρ _ => Cert.KernelNearIdeal.Gen.frame m ρ

/-- So does the reference. -/
theorem frame_ri : Cert.quiescent_ReferenceNearIdeal := fun m ρ _ =>
  (θ_run Cert.ReferenceNearIdeal.defs _ _).mono (fun r h => ⟨fun c => (h c).2.2,
      Idealize.ShloMosaic.sem_eq_zero_of_no_sems (by decide) r.2⟩)
    (Cert.ReferenceNearIdeal.Value.run (F := Ideal) m ρ)
theorem frame_ri_finite : Cert.quiescent_ReferenceNearIdeal_pre_finite := fun m ρ _ =>
  (θ_run Cert.ReferenceNearIdeal.defs _ _).mono (fun r h => ⟨fun c => (h c).2.2,
      Idealize.ShloMosaic.sem_eq_zero_of_no_sems (by decide) r.2⟩)
    (Cert.ReferenceNearIdeal.Value.run (F := Ideal) m ρ)

/-- The idealization names the mask's value and changes nothing else. -/
theorem preserves : Cert.preserves_KernelNear_KernelNearIdeal :=
  IdealRules.named_const.statement Cert.KernelNearIdeal.κ "mask" .f32 0xF149F2CA#32 ⊥ rfl

/-- Of equal arguments with finite queries and keys, kernel and reference end with the same output and the same logarithms. -/
theorem algebraic : Cert.algebraic_KernelNearIdeal_ReferenceNearIdeal_pre_finite := by
  intro m ρ m' ρ' hpre hagree
  refine ⟨fun c j => Canon.refOut 8192 1 (Canon.view 1 (m (c.tc.loc Cert.KernelNearIdeal.main_arg0))) (Canon.view 1 (m (c.tc.loc Cert.KernelNearIdeal.main_arg1)))
      (Canon.view 1 (m (c.tc.loc Cert.KernelNearIdeal.main_arg2))) (j 0).val (j 1).val (j 2).val,
    fun c j => Canon.refLse 8192 1 (Canon.view 1 (m (c.tc.loc Cert.KernelNearIdeal.main_arg0))) (Canon.view 1 (m (c.tc.loc Cert.KernelNearIdeal.main_arg1)))
      (j 0).val (j 1).val (j 2).val, ?_, ?_⟩
  · refine (θ_run Cert.KernelNearIdeal.defs _ _).mono (fun _ h c => ⟨(h c).1.trans ?_, (h c).2.1.trans ?_, (h c).2.2⟩)
      (Cert.KernelNearIdeal.Value.run_blocks m ρ)
    · exact Cert.KernelNearIdeal.Whole.final7 m c (Finite.view_real _ _ (Finite.queries _ _ _ (hpre c).1)) (Finite.view_real _ _ (Finite.keys _ _ _ (hpre c).2))
    · exact Cert.KernelNearIdeal.Whole.final8 m c
  · refine (θ_run Cert.ReferenceNearIdeal.defs _ _).mono (fun _ h c => ⟨(h c).1.trans ?_, (h c).2.1.trans ?_, (h c).2.2⟩)
      (Cert.ReferenceNearIdeal.Value.run (F := Ideal) m' ρ')
    · rw [Cert.ReferenceNearIdeal.Read.val_main_v107_eq, (hagree c).1, (hagree c).2.1, (hagree c).2.2]
      exact funext fun j => Cert.ReferenceNearIdeal.Whole.final0 _ _ _ j
    · rw [Cert.ReferenceNearIdeal.Read.val_main_v108_eq, (hagree c).1, (hagree c).2.1]
      exact funext fun j => Cert.ReferenceNearIdeal.Whole.final1 _ _ j

end Cert.Proof.Near

end
-- ==== Proof.KFar.lean ====
module

public import proofs.«01_k».proof.Proof.Canon
public import proofs.«01_k».proof.Proof.Gen.KernelFarIdeal.Value
public import Idealize.ShloMosaic.Lib.Pipeline.ValueKit.Point
public import Idealize.ShloMosaic.Lib.Claim

@[expose] public section

set_option maxRecDepth 16384

noncomputable section

namespace Cert.KernelFarIdeal.Whole

open Cert.KernelFarIdeal Cert.KernelFarIdeal.Gen Idealize.ShloMosaic

/-- The value of the mask's constant. -/
abbrev off : Ideal .f32 := Named.named (F := Ideal) (φ := .f32) κ "mask" 0xF149F2CA#32

theorem off_bot : off = ⊥ := IdealRules.named_const.ideal_named_scalar _ _ _ _ rfl

/-- What the body leaves in the output block. -/
theorem out7_eq (i : grid0.Coords) (x0 : Vec Ideal S1x128x512 .bf16) (x1 : Vec Ideal S1x64x512 .bf16) (x2 : Vec Ideal S1x128x512 .bf16) (x3 : Vec Ideal S1x64x512 .bf16)
    (x4 : Vec Ideal S1x64x512 .bf16) (x5 : Vec Ideal S1x128x512 .bf16) (x6 : Vec Ideal S1x64x512 .bf16) :
    out0_7 (F := Ideal) i x0 x1 x2 x3 x4 x5 x6 = View.canon (Head.piecesOut (i 2).val 512 16 off x0
      (Head.pile (View.ld x1 Head.wholeHalf) (View.ld x2 Head.wholeBlock) (View.ld x3 Head.wholeHalf))
      (Head.pile (View.ld x4 Head.wholeHalf) (View.ld x5 Head.wholeBlock) (View.ld x6 Head.wholeHalf))) := by
  unfold_out out0_7
  unfold_payloads
  unfold Head.piecesOut Head.storeOut Head.pairOut Head.score0 Head.score1 Head.outs Head.total Head.weights Head.most Head.score Head.part Head.high Head.low Head.negDist Head.ok Head.rel Head.pile off
  rfl

theorem out8_eq (i : grid0.Coords) (x0 : Vec Ideal S1x128x512 .bf16) (x1 : Vec Ideal S1x64x512 .bf16) (x2 : Vec Ideal S1x128x512 .bf16) (x3 : Vec Ideal S1x64x512 .bf16)
    (x4 : Vec Ideal S1x64x512 .bf16) (x5 : Vec Ideal S1x128x512 .bf16) (x6 : Vec Ideal S1x64x512 .bf16) :
    out0_8 (F := Ideal) i x0 x1 x2 x3 x4 x5 x6 = View.canon (Head.piecesLse (i 2).val 512 16 off x0
      (Head.pile (View.ld x1 Head.wholeHalf) (View.ld x2 Head.wholeBlock) (View.ld x3 Head.wholeHalf))) := by
  unfold_out out0_8
  unfold_payloads
  unfold Head.piecesLse Head.storeLse Head.pairLse Head.score0 Head.score1 Head.lses Head.total Head.weights Head.most Head.score Head.part Head.high Head.low Head.negDist Head.ok Head.rel Head.pile off
  rfl

section Array

variable (m : (ℓ : Loc nD τ sig) → Buf (Elt Ideal) ℓ)

/-- Every window's block index at a point. -/
theorem idx : ∀ t : Fin cfg0.N,
    win0_0.index t = ![(grid0.coords t 0).val, (grid0.coords t 2).val, (grid0.coords t 1).val]
    ∧ win0_1.index t = ![(grid0.coords t 0).val, 2 * (grid0.coords t 2).val - 1, (grid0.coords t 1).val]
    ∧ win0_2.index t = ![(grid0.coords t 0).val, (grid0.coords t 2).val, (grid0.coords t 1).val]
    ∧ win0_3.index t = ![(grid0.coords t 0).val, min (2 * ((grid0.coords t 2).val + 1)) 7, (grid0.coords t 1).val]
    ∧ win0_4.index t = ![(grid0.coords t 0).val, 2 * (grid0.coords t 2).val - 1, (grid0.coords t 1).val]
    ∧ win0_5.index t = ![(grid0.coords t 0).val, (grid0.coords t 2).val, (grid0.coords t 1).val]
    ∧ win0_6.index t = ![(grid0.coords t 0).val, min (2 * ((grid0.coords t 2).val + 1)) 7, (grid0.coords t 1).val]
    ∧ win0_7.index t = ![(grid0.coords t 0).val, (grid0.coords t 2).val, (grid0.coords t 1).val]
    ∧ win0_8.index t = ![(grid0.coords t 0).val, (grid0.coords t 2).val, (grid0.coords t 1).val] :=
  (by decide +kernel : ∀ t : Fin grid0.N, _)

/-- The queries, as the region finds them, are the argument in its view by residue classes. -/
theorem q_view (c : Dev nD) (j : S4x512x8192.Idx) :
    V m c main_v6 j = Canon.view 16 (m (c.tc.loc main_arg0)) (j 0).val (j 1).val (j 2).val := by
  rw [eq_ix3 j]
  generalize j 0 = b
  generalize j 1 = a
  generalize j 2 = l
  entry_read
  pointwise
  unfold Canon.view
  rw [dif_pos (show b.val < 4 ∧ a.val * 16 + l.val / 512 < 8192 by have := b.isLt; have := a.isLt; have := l.isLt; simp at *; omega)]
  rfl

/-- The keys, as the region finds them, are the argument in its view by residue classes. -/
theorem k_view (c : Dev nD) (j : S4x512x8192.Idx) :
    V m c main_v7 j = Canon.view 16 (m (c.tc.loc main_arg1)) (j 0).val (j 1).val (j 2).val := by
  rw [eq_ix3 j]
  generalize j 0 = b
  generalize j 1 = a
  generalize j 2 = l
  entry_read
  pointwise
  unfold Canon.view
  rw [dif_pos (show b.val < 4 ∧ a.val * 16 + l.val / 512 < 8192 by have := b.isLt; have := a.isLt; have := l.isLt; simp at *; omega)]
  rfl

/-- The values, as the region finds them, are the argument in its view by residue classes. -/
theorem v_view (c : Dev nD) (j : S4x512x8192.Idx) :
    V m c main_v8 j = Canon.view 16 (m (c.tc.loc main_arg2)) (j 0).val (j 1).val (j 2).val := by
  rw [eq_ix3 j]
  generalize j 0 = b
  generalize j 1 = a
  generalize j 2 = l
  entry_read
  pointwise
  unfold Canon.view
  rw [dif_pos (show b.val < 4 ∧ a.val * 16 + l.val / 512 < 8192 by have := b.isLt; have := a.isLt; have := l.isLt; simp at *; omega)]
  rfl

/-- Window 0's block at a point, read at an index. -/
theorem read0 (c : Dev nD) (t : Fin cfg0.N) (y : S1x128x512.Idx) :
    iblk m c 0 t y = Canon.view 16 (m (c.tc.loc main_arg0)) (grid0.coords t 0).val ((grid0.coords t 2).val * 128 + (y 1).val) ((grid0.coords t 1).val * 512 + (y 2).val) := by
  unfold iblk
  rw [View.read_apply]
  refine (cast_eq _ _).trans ?_
  refine (q_view m c _).trans ?_
  blk_simp [idx t]

/-- Window 1's block at a point, read at an index. -/
theorem read1 (c : Dev nD) (t : Fin cfg0.N) (y : S1x64x512.Idx) :
    iblk m c 1 t y = Canon.view 16 (m (c.tc.loc main_arg1)) (grid0.coords t 0).val ((2 * (grid0.coords t 2).val - 1) * 64 + (y 1).val) ((grid0.coords t 1).val * 512 + (y 2).val) := by
  unfold iblk
  rw [View.read_apply]
  refine (cast_eq _ _).trans ?_
  refine (k_view m c _).trans ?_
  blk_simp [idx t]

/-- Window 2's block at a point, read at an index. -/
theorem read2 (c : Dev nD) (t : Fin cfg0.N) (y : S1x128x512.Idx) :
    iblk m c 2 t y = Canon.view 16 (m (c.tc.loc main_arg1)) (grid0.coords t 0).val ((grid0.coords t 2).val * 128 + (y 1).val) ((grid0.coords t 1).val * 512 + (y 2).val) := by
  unfold iblk
  rw [View.read_apply]
  refine (cast_eq _ _).trans ?_
  refine (k_view m c _).trans ?_
  blk_simp [idx t]

/-- Window 3's block at a point, read at an index. -/
theorem read3 (c : Dev nD) (t : Fin cfg0.N) (y : S1x64x512.Idx) :
    iblk m c 3 t y = Canon.view 16 (m (c.tc.loc main_arg1)) (grid0.coords t 0).val ((min (2 * ((grid0.coords t 2).val + 1)) 7) * 64 + (y 1).val) ((grid0.coords t 1).val * 512 + (y 2).val) := by
  unfold iblk
  rw [View.read_apply]
  refine (cast_eq _ _).trans ?_
  refine (k_view m c _).trans ?_
  blk_simp [idx t]

/-- Window 4's block at a point, read at an index. -/
theorem read4 (c : Dev nD) (t : Fin cfg0.N) (y : S1x64x512.Idx) :
    iblk m c 4 t y = Canon.view 16 (m (c.tc.loc main_arg2)) (grid0.coords t 0).val ((2 * (grid0.coords t 2).val - 1) * 64 + (y 1).val) ((grid0.coords t 1).val * 512 + (y 2).val) := by
  unfold iblk
  rw [View.read_apply]
  refine (cast_eq _ _).trans ?_
  refine (v_view m c _).trans ?_
  blk_simp [idx t]

/-- Window 5's block at a point, read at an index. -/
theorem read5 (c : Dev nD) (t : Fin cfg0.N) (y : S1x128x512.Idx) :
    iblk m c 5 t y = Canon.view 16 (m (c.tc.loc main_arg2)) (grid0.coords t 0).val ((grid0.coords t 2).val * 128 + (y 1).val) ((grid0.coords t 1).val * 512 + (y 2).val) := by
  unfold iblk
  rw [View.read_apply]
  refine (cast_eq _ _).trans ?_
  refine (v_view m c _).trans ?_
  blk_simp [idx t]

/-- Window 6's block at a point, read at an index. -/
theorem read6 (c : Dev nD) (t : Fin cfg0.N) (y : S1x64x512.Idx) :
    iblk m c 6 t y = Canon.view 16 (m (c.tc.loc main_arg2)) (grid0.coords t 0).val ((min (2 * ((grid0.coords t 2).val + 1)) 7) * 64 + (y 1).val) ((grid0.coords t 1).val * 512 + (y 2).val) := by
  unfold iblk
  rw [View.read_apply]
  refine (cast_eq _ _).trans ?_
  refine (v_view m c _).trans ?_
  blk_simp [idx t]

/-- The 256 keys of a tile that lie in the class are its rows from 64 before the tile on. -/
theorem k_pile (c : Dev nD) (t : Fin cfg0.N) (x : Fin 256) (l : Fin 512) (h1 : 64 ≤ 128 * (grid0.coords t 2).val + x.val) (h2 : 128 * (grid0.coords t 2).val + x.val < 512 + 64) :
    Head.pile (View.ld (iblk m c 1 t) Head.wholeHalf) (View.ld (iblk m c 2 t) Head.wholeBlock) (View.ld (iblk m c 3 t) Head.wholeHalf) (ix2 x l) =
      Canon.view 16 (m (c.tc.loc main_arg1)) (grid0.coords t 0).val (128 * (grid0.coords t 2).val + x.val - 64) (512 * (grid0.coords t 1).val + l.val) := by
  rw [Head.pile_apply, Head.load_half, Head.load_block, Head.load_half]
  unfold Head.rowAt
  have hx := x.isLt
  split_ifs with g1 g2
  · refine (read1 m c t _).trans ?_
    congr 1
    · show (2 * (grid0.coords t 2).val - 1) * 64 + x.val = _
      omega
    · exact congrArg (· + l.val) (Nat.mul_comm _ _)
  · refine (read2 m c t _).trans ?_
    congr 1
    · show (grid0.coords t 2).val * 128 + (x.val - 64) = _
      omega
    · exact congrArg (· + l.val) (Nat.mul_comm _ _)
  · refine (read3 m c t _).trans ?_
    congr 1
    · show (min (2 * ((grid0.coords t 2).val + 1)) 7) * 64 + (x.val - 64 - 128) = _
      omega
    · exact congrArg (· + l.val) (Nat.mul_comm _ _)

/-- The 256 values of a tile that lie in the class are its rows from 64 before the tile on. -/
theorem v_pile (c : Dev nD) (t : Fin cfg0.N) (x : Fin 256) (l : Fin 512) (h1 : 64 ≤ 128 * (grid0.coords t 2).val + x.val) (h2 : 128 * (grid0.coords t 2).val + x.val < 512 + 64) :
    Head.pile (View.ld (iblk m c 4 t) Head.wholeHalf) (View.ld (iblk m c 5 t) Head.wholeBlock) (View.ld (iblk m c 6 t) Head.wholeHalf) (ix2 x l) =
      Canon.view 16 (m (c.tc.loc main_arg2)) (grid0.coords t 0).val (128 * (grid0.coords t 2).val + x.val - 64) (512 * (grid0.coords t 1).val + l.val) := by
  rw [Head.pile_apply, Head.load_half, Head.load_block, Head.load_half]
  unfold Head.rowAt
  have hx := x.isLt
  split_ifs with g1 g2
  · refine (read4 m c t _).trans ?_
    congr 1
    · show (2 * (grid0.coords t 2).val - 1) * 64 + x.val = _
      omega
    · exact congrArg (· + l.val) (Nat.mul_comm _ _)
  · refine (read5 m c t _).trans ?_
    congr 1
    · show (grid0.coords t 2).val * 128 + (x.val - 64) = _
      omega
    · exact congrArg (· + l.val) (Nat.mul_comm _ _)
  · refine (read6 m c t _).trans ?_
    congr 1
    · show (min (2 * ((grid0.coords t 2).val + 1)) 7) * 64 + (x.val - 64 - 128) = _
      omega
    · exact congrArg (· + l.val) (Nat.mul_comm _ _)

theorem q_row (c : Dev nD) (t : Fin cfg0.N) (p : Fin 128) (l : Fin 512) :
    iblk m c 0 t (ix3 0 p l) = Canon.view 16 (m (c.tc.loc main_arg0)) (grid0.coords t 0).val (128 * (grid0.coords t 2).val + p.val) (512 * (grid0.coords t 1).val + l.val) := by
  refine (read0 m c t _).trans ?_
  rw [Nat.mul_comm 128, Nat.mul_comm 512]
  rfl

theorem tile_le (t : Fin cfg0.N) : (grid0.coords t 2).val ≤ 3 := Nat.le_of_lt_succ (grid0.coords t 2).isLt

/-- The attention's output array, of real queries and keys. -/
theorem final7 (c : Dev nD) (hq : ∀ b n L, ∃ x : ℝ, Canon.view 16 (m (c.tc.loc main_arg0)) b n L = (x : EReal))
    (hk : ∀ b n L, ∃ x : ℝ, Canon.view 16 (m (c.tc.loc main_arg1)) b n L = (x : EReal)) :
    (dats m 0 c).arrAt 7 cfg0.N = fun j => Canon.refOut 512 16
    (Canon.view 16 (m (c.tc.loc main_arg0))) (Canon.view 16 (m (c.tc.loc main_arg1))) (Canon.view 16 (m (c.tc.loc main_arg2))) (j 0).val (j 1).val (j 2).val := by
  refine (dats m 0 c).arrAt_eq_of_covers 7 _ (by decide +kernel) fun t hf y => ?_
  blk_simp [idx t]
  rw [after0_7, out7_eq, Head.blockOut _ _ _ _ _ _ _ off_bot (by have := tile_le t; omega) (by norm_num) (by norm_num)]
  have ht := tile_le t
  have hy : (y 1).val < 128 := (y 1).isLt
  refine (Canon.out_eq 512 16 (grid0.coords t 2).val (grid0.coords t 0).val (grid0.coords t 1).val _ _ _ _ _ _ (y 1) (y 2)
    (fun l => q_row m c t (y 1) l) (fun x l => k_pile m c t x l) (fun x l => v_pile m c t x l) hq hk (by omega)).trans ?_
  rw [Nat.mul_comm 128, Nat.mul_comm 512]

/-- The attention's logarithms of the mass. -/
theorem final8 (c : Dev nD) : (dats m 0 c).arrAt 8 cfg0.N = fun j => Canon.refLse 512 16
    (Canon.view 16 (m (c.tc.loc main_arg0))) (Canon.view 16 (m (c.tc.loc main_arg1))) (j 0).val (j 1).val (j 2).val := by
  refine (dats m 0 c).arrAt_eq_of_covers 8 _ (by decide +kernel) fun t hf y => ?_
  blk_simp [idx t]
  rw [after0_8, out8_eq, Head.blockLse _ _ _ _ _ _ off_bot (by have := tile_le t; omega) (by norm_num) (by norm_num)]
  refine (Canon.lse_eq 512 16 (grid0.coords t 2).val (grid0.coords t 0).val (grid0.coords t 1).val _ _ _ _ (y 1) (y 2)
    (fun l => q_row m c t (y 1) l) (fun x l => k_pile m c t x l)).trans ?_
  rw [Nat.mul_comm 128, Nat.mul_comm 512]

end Array

end Cert.KernelFarIdeal.Whole

end
-- ==== Proof.RFar.lean ====
module

public import proofs.«01_k».proof.Proof.Canon
public import proofs.«01_k».proof.Proof.Gen.ReferenceFarIdeal.Read
public import Idealize.ShloMosaic.Lib.Pointwise

@[expose] public section

set_option maxRecDepth 16384

noncomputable section

namespace Cert.ReferenceFarIdeal.Whole

open Cert.ReferenceFarIdeal Cert.ReferenceFarIdeal.Gen Cert.ReferenceFarIdeal.Read Idealize.ShloMosaic

variable (x0 x1 x2 : FVec Ideal Canon.TArg .f32)

/-- An argument's element under the reference's index is the argument in its view by residue classes. -/
theorem at_view (x : FVec Ideal Canon.TArg .f32) (b a l : ℕ) (m L : ℕ) (hb : b < 4) (ha : a < 8192) (hl : l < 512) (h1 : m * 16 + L / 512 = a) (h2 : L % 512 = l) :
    x (ix3 ⟨b, hb⟩ ⟨a, ha⟩ ⟨l, hl⟩) = Canon.view 16 x b m L := by
  subst h1 h2
  unfold Canon.view
  rw [dif_pos ⟨hb, ha⟩]

/-- The queries, split in chunks, classes and heads. -/
theorem query (b : Fin 4) (n : Fin 8) (i : Fin 64) (r : Fin 16) (h : Fin 8) (e : Fin 64) :
    val_main_v15 (F := Ideal) x0 (ix6 b n i r h e) = Canon.view 16 x0 b.val (64 * n.val + i.val) (512 * r.val + 64 * h.val + e.val) := by
  pointwise [val_main_v15, val_main_v12, val_main_v0]
  rw [dif_pos (by omega)]
  exact at_view _ _ _ _ _ _ _ _ _ (by omega) (by omega)

/-- The keys around a chunk: the rows from 64 before it to 64 after it that lie in the class. -/
theorem key (b : Fin 4) (n : Fin 8) (j : Fin 192) (r : Fin 16) (h : Fin 8) (e : Fin 64) (h1 : 64 ≤ 64 * n.val + j.val) (h2 : 64 * n.val + j.val < 512 + 64) :
    val_main_v22 (F := Ideal) x1 (ix6 b n j r h e) = Canon.view 16 x1 b.val (64 * n.val + j.val - 64) (512 * r.val + 64 * h.val + e.val) := by
  pointwise [val_main_v22, val_main_v19, val_main_v20, val_main_v21, val_main_v18, val_main_v17, val_main_v16, val_main_v13, val_main_v1]
  split_ifs
  all_goals first | omega | exact at_view _ _ _ _ _ _ _ _ _ (by omega) (by omega)

/-- The values around a chunk: the rows from 64 before it to 64 after it that lie in the class. -/
theorem value (b : Fin 4) (n : Fin 8) (j : Fin 192) (r : Fin 16) (h : Fin 8) (e : Fin 64) (h1 : 64 ≤ 64 * n.val + j.val) (h2 : 64 * n.val + j.val < 512 + 64) :
    val_main_v29 (F := Ideal) x2 (ix6 b n j r h e) = Canon.view 16 x2 b.val (64 * n.val + j.val - 64) (512 * r.val + 64 * h.val + e.val) := by
  pointwise [val_main_v29, val_main_v26, val_main_v27, val_main_v28, val_main_v25, val_main_v24, val_main_v23, val_main_v14, val_main_v2]
  split_ifs
  all_goals first | omega | exact at_view _ _ _ _ _ _ _ _ _ (by omega) (by omega)

theorem int_dist (i : Fin 64) (j : Fin 192) : (IntOp.absi (IntOp.subi (IntOp.subi (BitVec.ofNat 32 j.val) 64#32) (BitVec.ofNat 32 i.val))).toInt = |(j.val : ℤ) - 64 - i.val| :=
  Head.int_abs (Head.int_sub (Head.int_sub (Head.int_nat (by omega)) (Head.int_nat (a := 64) (by norm_num)) (by omega) (by omega)) (Head.int_nat (by omega)) (by omega) (by omega)) (by omega)

theorem int_place (n : Fin 8) (j : Fin 192) :
    (IntOp.subi (IntOp.addi (IntOp.muli (BitVec.ofNat 32 n.val) 64#32) (BitVec.ofNat 32 j.val)) 64#32).toInt = (n.val : ℤ) * 64 + j.val - 64 :=
  Head.int_sub (Head.int_add (Head.int_mul (Head.int_nat (by omega)) (Head.int_nat (a := 64) (by norm_num)) (by omega) (by omega)) (Head.int_nat (by omega)) (by omega) (by omega)) (Head.int_nat (a := 64) (by norm_num)) (by omega) (by omega)

/-- The mask is on at the keys of the band that lie in the class. -/
theorem mask (n : Fin 8) (r : Fin 16) (i : Fin 64) (j : Fin 192) :
    val_main_v70 (F := Ideal) (ix4 n r i j) = 1#1 ↔ (i.val ≤ j.val ∧ j.val ≤ i.val + 128) ∧ 64 ≤ 64 * n.val + j.val ∧ 64 * n.val + j.val < 512 + 64 := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30]
  simp only [val_main_c_7_apply, val_main_c_8_apply, val_main_c_9_apply, val_main_c_10_apply, val_main_c_11_apply, val_main_c_12_apply, val_main_c_13_apply]
  rw [Head.bit_sle (int_dist i j) (Head.int_nat (a := 64) (by norm_num)), Head.bit_sge (int_place n j) (Head.int_nat (a := 0) (by norm_num)),
    Head.bit_slt (Head.int_add (Head.int_mul (int_place n j) (Head.int_nat (a := 16) (by norm_num)) (by omega) (by omega)) (Head.int_nat (a := r.val) (by omega)) (by omega) (by omega)) (Head.int_nat (a := 8192) (by norm_num)),
    Head.bit_and, Head.bit_and, Head.bit_one, Bool.and_eq_true, Bool.and_eq_true, decide_eq_true_eq, decide_eq_true_eq, decide_eq_true_eq, abs_le]
  push_cast
  omega

theorem bits_one : Ideal.ofBits .f32 0x3F800000#32 = ((1 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_neg_eight : Ideal.ofBits .f32 0xC1000000#32 = ((-8 : ℝ) : EReal) := by
  simp [Ideal.ofBits, Ideal.ieee, -EReal.coe_mul]; norm_num

/-- The slopes of the heads. -/
theorem slopes (h : Fin 8) : val_main_v11 (F := Ideal) (ix1 h) = (((1 / 2 : ℝ) ^ (h.val + 1) : ℝ) : EReal) := by
  pointwise [val_main_v11, val_main_v10, val_main_v9, val_main_v8, val_main_v7, val_main_v6, val_main_v5, val_main_v4, val_main_v3]
  simp only [val_main_cst_apply, val_main_cst_0_apply, val_main_cst_1_apply, val_main_cst_2_apply]
  show Ideal.pow (Ideal.ofBits .f32 0x40000000#32) (Ideal.div (Ideal.ofBits .f32 0xC1000000#32 * (Ideal.ofBits .f32 0x3F800000#32 + (((BitVec.ofNat 32 h.val).toInt : ℝ) : EReal))) (Ideal.ofBits .f32 0x41000000#32)) = _
  rw [bits_one, bits_two, bits_eight, bits_neg_eight, Head.int_nat (by omega), ← EReal.coe_add, ← EReal.coe_mul, Ideal.div_coe (by norm_num), ← EReal.coe_mul, Ideal.pow_coe_coe]
  congr 1
  have e : (-8 * (1 + ((h.val : ℤ) : ℝ)) * (1 / 8) : ℝ) = -((h.val + 1 : ℕ) : ℝ) := by push_cast; ring
  rw [e]
  show (2 : ℝ) ^ (-((h.val + 1 : ℕ) : ℝ)) = _
  rw [Real.rpow_neg (by norm_num), Real.rpow_natCast, one_div, inv_pow]

/-- The biases of the heads. -/
theorem biases (h : Fin 8) (i : Fin 64) (j : Fin 192) : val_main_v80 (F := Ideal) (ix3 h i j) = Canon.bias h.val (|(j.val : ℤ) - 64 - i.val| * 16) := by
  pointwise [val_main_v80, val_main_v79, val_main_v78, val_main_v77, val_main_v76, val_main_v75, val_main_v74, val_main_v73, val_main_v72, val_main_v71, val_main_v39, val_main_v38, val_main_v37, val_main_v36, val_main_v35, val_main_v34, val_main_v33, val_main_v32, val_main_v31, val_main_v30]
  simp only [val_main_c_7_apply, val_main_c_14_apply]
  have hb : |(j.val : ℤ) - 64 - i.val| ≤ 1000 := by rw [abs_le]; omega
  have hb' := abs_nonneg ((j.val : ℤ) - 64 - i.val)
  have hw := Head.int_mul (int_dist i j) (Head.int_nat (a := 16) (by norm_num)) (by push_cast; omega) (by push_cast; omega)
  rw [slopes]
  show -_ * (((IntOp.muli (IntOp.absi (IntOp.subi (IntOp.subi (BitVec.ofNat 32 j.val) 64#32) (BitVec.ofNat 32 i.val)))  16#32).toInt : ℝ) : EReal) = _
  rw [hw, ← EReal.coe_neg, ← EReal.coe_mul, Canon.bias]
  congr 1
  push_cast
  ring

theorem add_eq (x y : Ideal .f32) : FloatOps.addf x y = x + y := rfl
theorem sub_eq (x y : Ideal .f32) : FloatOps.subf x y = x - y := rfl
theorem mul_eq (x y : Ideal .f32) : FloatOps.mulf x y = x * y := rfl
theorem exp_eq (x : Ideal .f32) : FloatOps.hostUnary .exp x = Ideal.exp x := rfl
theorem log_eq (x : Ideal .f32) : FloatOps.hostUnary .log x = Ideal.log x := rfl

section Rows

variable (b : Fin 4) (n : Fin 8) (r : Fin 16) (h : Fin 8) (i : Fin 64)

/-- The products of a query and the keys around its chunk. -/
theorem dot (j : Fin 192) :
    val_main_v81 (F := Ideal) x0 x1 (ix6 b n r h i j) = ∑ x, val_main_v15 (F := Ideal) x0 (ix6 b n i r h x) * val_main_v22 (F := Ideal) x1 (ix6 b n j r h x) := by
  pointwise [val_main_v81]

/-- A score before the mask. -/
theorem score (j : Fin 192) :
    val_main_v86 (F := Ideal) x0 x1 (ix6 b n r h i j) = val_main_v81 (F := Ideal) x0 x1 (ix6 b n r h i j) * ((1 / 8 : ℝ) : EReal) +
        val_main_v80 (F := Ideal) (ix3 h i j) := by
  rw [val_main_v86_apply, val_main_v83_apply, val_main_v82_apply, val_main_v85_apply, val_main_v84_apply, val_main_cst_15_apply, add_eq, mul_eq, ← Head.bits_eighth]
  have e : idx_main_v84 (idx_main_v85 (ix6 b n r h i j)) = ix3 h i j := by funext a; fin_cases a <;> rfl
  rw [e]
  generalize val_main_v81 (F := Ideal) x0 x1 (ix6 b n r h i j) = u
  generalize val_main_v80 (F := Ideal) (ix3 h i j) = v
  rfl

/-- A score under the mask. -/
theorem masked (j : Fin 192) :
    val_main_v88 (F := Ideal) x0 x1 (ix6 b n r h i j) = if val_main_v70 (F := Ideal) (ix4 n r i j) = 1#1 then val_main_v86 (F := Ideal) x0 x1 (ix6 b n r h i j) else val_main_cst_16 (F := Ideal) ix0 := by
  pointwise [val_main_v88, val_main_v87, val_main_call5_v1, val_main_call5_v2, val_main_call5_v0]
  rfl

/-- The masked scores of a row are those of its class's row. -/
theorem row (j : Fin 192) (l : ℕ) (hl : l < 64) : val_main_v88 (F := Ideal) x0 x1 (ix6 b n r h i j) =
    Canon.refRow 512 16 (Canon.view 16 x0) (Canon.view 16 x1) b.val (64 * n.val + i.val) (512 * r.val + 64 * h.val + l) j := by
  have hi := i.isLt
  have hh := h.isLt
  have e1 : (64 * n.val + i.val) % 64 = i.val := by omega
  have e2 : 64 * ((64 * n.val + i.val) / 64) = 64 * n.val := by omega
  have e3 : 64 * ((512 * r.val + 64 * h.val + l) / 64) = 512 * r.val + 64 * h.val := by omega
  have e4 : (512 * r.val + 64 * h.val + l) % 512 / 64 = h.val := by
    rw [Nat.add_assoc, Nat.mul_add_mod, Nat.mod_eq_of_lt (by omega)]; omega
  unfold Canon.refRow
  rw [masked, e1, e2, e3, e4]
  by_cases hc : (i.val ≤ j.val ∧ j.val ≤ i.val + 128) ∧ 64 ≤ 64 * n.val + j.val ∧ 64 * n.val + j.val < 512 + 64
  · rw [if_pos ((mask n r i j).mpr hc), if_pos hc, score, dot, biases]
    congr 2
    refine Finset.sum_congr rfl fun e _ => ?_
    rw [query, key _ _ _ _ _ _ _ hc.2.1 hc.2.2]
  · rw [if_neg (fun h => hc ((mask n r i j).mp h)), if_neg hc, val_main_cst_16_apply]
    exact Head.bits_neg_inf

theorem most_of (s : FVec Ideal S4x8x16x8x64x192 .f32) :
    Host.reduce FloatOps.maximumf s (constant S_ .f32 0xFF800000#32) reducesTo_S4x8x16x8x64x192_S4x8x16x8x64_d5 h_S_ (ix5 b n r h i) = Band.top fun j : Fin 192 => s (ix6 b n r h i j) := by
  have hr : S4x8x16x8x64x192.Reduces [5] S4x8x16x8x64 := by decide
  refine (Host.reduce_eq_fold_single (FloatOps.maximumf (F := Ideal) (φ := .f32)) s _ reducesTo_S4x8x16x8x64x192_S4x8x16x8x64_d5 hr h_S_ (ix5 b n r h i)).trans ?_
  have e : (s ∘ hr.lift (ix5 b n r h i)) = fun j : Fin 192 => s (ix6 b n r h i j) := by
    funext j
    refine congrArg s ?_
    funext a
    fin_cases a <;> rfl
  rw [e]
  show Finset.fold _ (Ideal.ofBits .f32 0xFF800000#32) _ _ = _
  rw [Head.bits_neg_inf]
  rfl

theorem most : val_main_v89 (F := Ideal) x0 x1 (ix5 b n r h i) = Band.top fun j : Fin 192 => val_main_v88 (F := Ideal) x0 x1 (ix6 b n r h i j) := by
  unfold val_main_v89 val_main_cst_17
  exact most_of b n r h i _

theorem weight (j : Fin 192) :
    val_main_v93 (F := Ideal) x0 x1 (ix6 b n r h i j) = Ideal.exp (val_main_v88 (F := Ideal) x0 x1 (ix6 b n r h i j) - val_main_v89 (F := Ideal) x0 x1 (ix5 b n r h i)) := by
  rw [val_main_v93_apply, val_main_v92_apply, val_main_v91_apply, val_main_v90_apply, exp_eq, sub_eq]
  have e : idx_main_v90 (idx_main_v91 (ix6 b n r h i j)) = ix5 b n r h i := by funext a; fin_cases a <;> rfl
  rw [e]

theorem logarithm :
    val_main_v96 (F := Ideal) x0 x1 (ix5 b n r h i) = val_main_v89 (F := Ideal) x0 x1 (ix5 b n r h i) + Ideal.log (∑ j : Fin 192, val_main_v93 (F := Ideal) x0 x1 (ix6 b n r h i j)) := by
  rw [val_main_v96_apply, val_main_v95_apply, val_main_v94_apply, add_eq, log_eq, val_main_cst_18_apply]
  have e : ∀ j, idx_main_v94 (ix5 b n r h i) j = ix6 b n r h i j := fun j => by funext a; fin_cases a <;> rfl
  simp only [e]
  have z : (FloatOps.ofBits .f32 0x00000000#32 : Ideal .f32) = 0 := Head.bits_zero
  rw [z, zero_add]

/-- The logarithm of a row's mass is its class's row's. -/
theorem lse (l : ℕ) (hl : l < 64) : val_main_v96 (F := Ideal) x0 x1 (ix5 b n r h i) =
    Canon.refLse 512 16 (Canon.view 16 x0) (Canon.view 16 x1) b.val (64 * n.val + i.val) (512 * r.val + 64 * h.val + l) := by
  have hrow : (fun j : Fin 192 => val_main_v88 (F := Ideal) x0 x1 (ix6 b n r h i j)) =
      Canon.refRow 512 16 (Canon.view 16 x0) (Canon.view 16 x1) b.val (64 * n.val + i.val) (512 * r.val + 64 * h.val + l) :=
    funext fun j => row x0 x1 b n r h i j l hl
  rw [logarithm]
  simp only [weight, most]
  rw [hrow]
  simp only [row x0 x1 b n r h i _ l hl]
  rfl

theorem share (j : Fin 192) :
    val_main_v100 (F := Ideal) x0 x1 (ix6 b n r h i j) = Ideal.exp (val_main_v88 (F := Ideal) x0 x1 (ix6 b n r h i j) - val_main_v96 (F := Ideal) x0 x1 (ix5 b n r h i)) := by
  pointwise [val_main_v100, val_main_v99, val_main_v98, val_main_v97]

theorem weighted (e : Fin 64) :
    val_main_v101 (F := Ideal) x0 x1 x2 (ix6 b n r h e i) = ∑ j, val_main_v29 (F := Ideal) x2 (ix6 b n j r h e) * val_main_v100 (F := Ideal) x0 x1 (ix6 b n r h i j) := by
  rw [val_main_v101_apply]
  refine Finset.sum_congr rfl fun k _ => ?_
  congr 2
  · funext a; fin_cases a <;> rfl
  · funext a; fin_cases a <;> rfl

/-- The attention's output is its class's row's. -/
theorem output (e : Fin 64) : val_main_v101 (F := Ideal) x0 x1 x2 (ix6 b n r h e i) =
    Canon.refOut 512 16 (Canon.view 16 x0) (Canon.view 16 x1) (Canon.view 16 x2) b.val (64 * n.val + i.val) (512 * r.val + 64 * h.val + e.val) := by
  have hi := i.isLt
  rw [weighted]
  unfold Canon.refOut
  refine Finset.sum_congr rfl fun j _ => ?_
  rw [share, row x0 x1 b n r h i j e.val e.isLt, lse x0 x1 b n r h i e.val e.isLt]
  have e2 : 64 * ((64 * n.val + i.val) / 64) = 64 * n.val := by omega
  rw [e2]
  by_cases hc : 64 ≤ 64 * n.val + j.val ∧ 64 * n.val + j.val < 512 + 64
  · rw [value _ _ _ _ _ _ _ hc.1 hc.2]
    rfl
  · have hb : Canon.refRow 512 16 (Canon.view 16 x0) (Canon.view 16 x1) b.val (64 * n.val + i.val) (512 * r.val + 64 * h.val + e.val) j = ⊥ := by
      refine if_neg fun h => hc ?_
      rw [e2] at h
      exact h.2
    rw [hb, EReal.bot_sub, EReal.bot_sub, Band.exp_bot, mul_zero, mul_zero]

end Rows

theorem output_at (b : Fin 4) (m : Fin 512) (L : Fin 8192) : val_main_v109 (F := Ideal) x0 x1 x2 (ix3 b m L) =
    Canon.refOut 512 16 (Canon.view 16 x0) (Canon.view 16 x1) (Canon.view 16 x2) b.val m.val L.val := by
  have h1 : 64 * ((m.val * 16 + L.val / 512) / 1024) + (m.val * 16 + L.val / 512) / 16 % 64 = m.val := by omega
  have h2 : 512 * ((m.val * 16 + L.val / 512) % 16) + 64 * (L.val / 64 % 8) + L.val % 64 = L.val := by omega
  pointwise [val_main_v109, val_main_v108, val_main_v103, val_main_v102]
  rw [output]
  show Canon.refOut 512 16 (Canon.view 16 x0) (Canon.view 16 x1) (Canon.view 16 x2) b.val (64 * ((m.val * 16 + L.val / 512) / 1024) + (m.val * 16 + L.val / 512) / 16 % 64)
    (512 * ((m.val * 16 + L.val / 512) % 16) + 64 * (L.val / 64 % 8) + L.val % 64) = _
  rw [h1, h2]

theorem lse_at (b : Fin 4) (m : Fin 512) (L : Fin 8192) : val_main_v110 (F := Ideal) x0 x1 (ix3 b m L) =
    Canon.refLse 512 16 (Canon.view 16 x0) (Canon.view 16 x1) b.val m.val L.val := by
  have h1 : 64 * ((m.val * 16 + L.val / 512) / 1024) + (m.val * 16 + L.val / 512) / 16 % 64 = m.val := by omega
  have h2 : 512 * ((m.val * 16 + L.val / 512) % 16) + 64 * (L.val / 64 % 8) + L.val % 64 = L.val := by omega
  pointwise [val_main_v110, val_main_v107, val_main_v106, val_main_v105, val_main_v104]
  rw [lse x0 x1 _ _ _ _ _ (L.val % 64) (Nat.mod_lt _ (by norm_num))]
  show Canon.refLse 512 16 (Canon.view 16 x0) (Canon.view 16 x1) b.val (64 * ((m.val * 16 + L.val / 512) / 1024) + (m.val * 16 + L.val / 512) / 16 % 64)
    (512 * ((m.val * 16 + L.val / 512) % 16) + 64 * (L.val / 64 % 8) + L.val % 64) = _
  rw [h1, h2]

/-- The first result. -/
theorem final0 (j : S4x512x8192.Idx) : val_main_v109 (F := Ideal) x0 x1 x2 j =
    Canon.refOut 512 16 (Canon.view 16 x0) (Canon.view 16 x1) (Canon.view 16 x2) (j 0).val (j 1).val (j 2).val :=
  (congrArg _ (eq_ix3 j)).trans (output_at x0 x1 x2 (j 0) (j 1) (j 2))

/-- The second result. -/
theorem final1 (j : S4x512x8192.Idx) : val_main_v110 (F := Ideal) x0 x1 j =
    Canon.refLse 512 16 (Canon.view 16 x0) (Canon.view 16 x1) (j 0).val (j 1).val (j 2).val :=
  (congrArg _ (eq_ix3 j)).trans (lse_at x0 x1 (j 0) (j 1) (j 2))

end Cert.ReferenceFarIdeal.Whole

end
-- ==== Proof.CFar.lean ====
/- The claims of the attention's pattern with dilation 16. -/
module

public import proofs.«01_k».proof.Defs
public import proofs.«01_k».proof.Proof.Finite
public import proofs.«01_k».proof.Proof.KFar
public import proofs.«01_k».proof.Proof.RFar
public import proofs.«01_k».proof.Proof.Gen.KernelFar.Frame
public import Idealize.ShloMosaic.Adequacy

@[expose] public section

set_option maxRecDepth 16384

noncomputable section

namespace Cert.Proof.Far

open Idealize.ShloMosaic Idealize.SL.Sem

/-- The kernel runs, keeps its arguments and leaves every semaphore at zero. -/
theorem frame_p : Cert.quiescent_KernelFar := fun m ρ _ => Cert.KernelFar.Gen.frame m ρ

/-- So does its idealization. -/
theorem frame_pi : Cert.quiescent_KernelFarIdeal := fun m ρ _ => Cert.KernelFarIdeal.Gen.frame m ρ
theorem frame_pi_finite : Cert.quiescent_KernelFarIdeal_pre_finite := fun m ρ _ => Cert.KernelFarIdeal.Gen.frame m ρ

/-- So does the reference. -/
theorem frame_ri : Cert.quiescent_ReferenceFarIdeal := fun m ρ _ =>
  (θ_run Cert.ReferenceFarIdeal.defs _ _).mono (fun r h => ⟨fun c => (h c).2.2,
      Idealize.ShloMosaic.sem_eq_zero_of_no_sems (by decide) r.2⟩)
    (Cert.ReferenceFarIdeal.Value.run (F := Ideal) m ρ)
theorem frame_ri_finite : Cert.quiescent_ReferenceFarIdeal_pre_finite := fun m ρ _ =>
  (θ_run Cert.ReferenceFarIdeal.defs _ _).mono (fun r h => ⟨fun c => (h c).2.2,
      Idealize.ShloMosaic.sem_eq_zero_of_no_sems (by decide) r.2⟩)
    (Cert.ReferenceFarIdeal.Value.run (F := Ideal) m ρ)

/-- The idealization names the mask's value and changes nothing else. -/
theorem preserves : Cert.preserves_KernelFar_KernelFarIdeal :=
  IdealRules.named_const.statement Cert.KernelFarIdeal.κ "mask" .f32 0xF149F2CA#32 ⊥ rfl

/-- Of equal arguments with finite queries and keys, kernel and reference end with the same output and the same logarithms. -/
theorem algebraic : Cert.algebraic_KernelFarIdeal_ReferenceFarIdeal_pre_finite := by
  intro m ρ m' ρ' hpre hagree
  refine ⟨fun c j => Canon.refOut 512 16 (Canon.view 16 (m (c.tc.loc Cert.KernelFarIdeal.main_arg0))) (Canon.view 16 (m (c.tc.loc Cert.KernelFarIdeal.main_arg1)))
      (Canon.view 16 (m (c.tc.loc Cert.KernelFarIdeal.main_arg2))) (j 0).val (j 1).val (j 2).val,
    fun c j => Canon.refLse 512 16 (Canon.view 16 (m (c.tc.loc Cert.KernelFarIdeal.main_arg0))) (Canon.view 16 (m (c.tc.loc Cert.KernelFarIdeal.main_arg1)))
      (j 0).val (j 1).val (j 2).val, ?_, ?_⟩
  · refine (θ_run Cert.KernelFarIdeal.defs _ _).mono (fun _ h c => ⟨(h c).1.trans ?_, (h c).2.1.trans ?_, (h c).2.2⟩)
      (Cert.KernelFarIdeal.Value.run_blocks m ρ)
    · exact Cert.KernelFarIdeal.Whole.final7 m c (Finite.view_real _ _ (Finite.queries _ _ _ (hpre c).1)) (Finite.view_real _ _ (Finite.keys _ _ _ (hpre c).2))
    · exact Cert.KernelFarIdeal.Whole.final8 m c
  · refine (θ_run Cert.ReferenceFarIdeal.defs _ _).mono (fun _ h c => ⟨(h c).1.trans ?_, (h c).2.1.trans ?_, (h c).2.2⟩)
      (Cert.ReferenceFarIdeal.Value.run (F := Ideal) m' ρ')
    · rw [Cert.ReferenceFarIdeal.Read.val_main_v109_eq, (hagree c).1, (hagree c).2.1, (hagree c).2.2]
      exact funext fun j => Cert.ReferenceFarIdeal.Whole.final0 _ _ _ j
    · rw [Cert.ReferenceFarIdeal.Read.val_main_v110_eq, (hagree c).1, (hagree c).2.1]
      exact funext fun j => Cert.ReferenceFarIdeal.Whole.final1 _ _ j

end Cert.Proof.Far

end
-- ==== Proof.Proj.lean ====
/- The input projection, token by token: the normalized row, its products with the weights, the two activations, and the view by residue classes. -/
module

public import proofs.«01_k».proof.Proof.Tile
public import Idealize.ShloMosaic.Lib.Pipeline.ReadBack
public import Idealize.ShloMosaic.Lib.Pipeline.ValueKit.Point

@[expose] public section

set_option maxRecDepth 16384

noncomputable section

namespace Cert.Proj

open Idealize.ShloMosaic

abbrev TX : Shape := ⟨3, ![4, 8192, 1024]⟩
abbrev TG : Shape := ⟨1, ![1024]⟩
abbrev TW : Shape := ⟨2, ![1024, 6656]⟩

/-- A token's row. -/
def tok (x : FVec Ideal TX .f32) (n : ℕ) (e : Fin 1024) : EReal :=
  x (ix3 ⟨n / 8192 % 4, Nat.mod_lt _ (by norm_num)⟩ ⟨n % 8192, Nat.mod_lt _ (by norm_num)⟩ e)

/-- A column of the weights. -/
def col (w : FVec Ideal TW .f32) (c : ℕ) (e : Fin 1024) : EReal := w (ix2 e ⟨c % 6656, Nat.mod_lt _ (by norm_num)⟩)

/-- The gains. -/
def gain (g : FVec Ideal TG .f32) (e : Fin 1024) : EReal := g (ix1 e)

/-- A row divided by the root of its mean square, times the gains. -/
def rms (x g : Fin 1024 → EReal) (e : Fin 1024) : EReal :=
  x e * Ideal.rsqrt (Ideal.div (∑ i, x i * x i) (Ideal.ofBits .f32 0x44800000#32) + Ideal.ofBits .f32 0x358637BD#32) * g e

/-- The projection of a token on a column. -/
def lin (x : Fin 1024 → EReal) (g w : Fin 1024 → EReal) : EReal := ∑ e, rms x g e * w e

/-- The exact gelu. -/
def gelu (y : EReal) : EReal :=
  Ideal.ofBits .f32 0x3F000000#32 * y * (Ideal.ofBits .f32 0x3F800000#32 + Ideal.erf (y * (((Real.sqrt 2)⁻¹ : ℝ) : EReal)))

/-- The projection of token `n` on column `c`. -/
def proj (x : FVec Ideal TX .f32) (g : FVec Ideal TG .f32) (w : FVec Ideal TW .f32) (n c : ℕ) : EReal := lin (tok x n) (gain g) (col w c)

/-- The projection on the 512 columns from `o` on, in the view by `d` residue classes: row `a`, lane `L`. -/
def view (d o : ℕ) (x : FVec Ideal TX .f32) (g : FVec Ideal TG .f32) (w : FVec Ideal TW .f32) (a L : ℕ) : EReal :=
  proj x g w (a * d + L / 512) (o + L % 512)

section Scratch

abbrev TY : Shape := ⟨2, ![512, 512]⟩
abbrev TP : Shape := ⟨2, ![512, 128]⟩
abbrev TS : Shape := ⟨3, ![4, 512, 128]⟩
abbrev TS1 : Shape := ⟨3, ![1, 512, 128]⟩

/-- A chunk's product at a row and a lane. -/
def at' (Y : FVec Ideal TY .f32) (p l : ℕ) : EReal := Y (ix2 ⟨p % 512, Nat.mod_lt _ (by norm_num)⟩ ⟨l % 512, Nat.mod_lt _ (by norm_num)⟩)

theorem at_eq (Y : FVec Ideal TY .f32) (p l : Fin 512) : Y (ix2 p l) = at' Y p.val l.val := by
  unfold at'
  congr 2
  · exact Fin.ext (Nat.mod_eq_of_lt p.isLt).symm
  · exact Fin.ext (Nat.mod_eq_of_lt l.isLt).symm

/-- A chunk's product as the scratch holds it: 128 lanes of 512 rows in each of four planes. -/
def planes (Y : FVec Ideal TY .f32) (i : TS.Idx) : EReal := at' Y (i 1).val (128 * (i 0).val + (i 2).val)

/-- A chunk's product in the view by `d` residue classes. -/
def classes (d : ℕ) {M W : ℕ} (Y : FVec Ideal TY .f32) (i : (⟨2, ![M, W]⟩ : Shape).Idx) : EReal :=
  at' Y ((i 0).val * d + (i 1).val / 512) ((i 1).val % 512)

theorem plane_apply (Y : FVec Ideal TY .f32) (o j : ℕ) (hj : j < 4) (ho : o = 128 * j) (hs : TY.Slices ![0, o] TP) (hc : TP.ShapeCasts TS1)
    (inb : ∀ a, (![j, 0, 0] : Fin 3 → ℕ) a + TS1.size a ≤ TS.size a) (x : TS1.Idx) :
    shapeCast TS1 (extractStridedSlice TP ![0, o] Y hs) hc x = planes Y ((Rect.unit (s := TS) ![j, 0, 0] TS1.size inb).emb x) := by
  subst ho
  obtain ⟨z, p, l, rfl⟩ : ∃ (z : Fin 1) (p : Fin 512) (l : Fin 128), x = ix3 z p l := ⟨x 0, x 1, x 2, eq_ix3 x⟩
  have hz : z.val < 1 := z.isLt
  unfold planes
  rw [ValueKit.rect_emb_unit_val, ValueKit.rect_emb_unit_val, ValueKit.rect_emb_unit_val]
  pointwise
  refine (at_eq Y p ⟨128 * j + l.val, by omega⟩).trans ?_
  rfl

theorem scratch_read {sig : RefSig} {κ : Kind} {sp : Space} (v : View sig κ sp TS .f32) (Y : FVec Ideal TY .f32) (L : List (View.Piece (Elt Ideal) TS .f32))
    (h3 : ∀ a, (![3, 0, 0] : Fin 3 → ℕ) a + TS1.size a ≤ TS.size a) (h2 : ∀ a, (![2, 0, 0] : Fin 3 → ℕ) a + TS1.size a ≤ TS.size a)
    (h1 : ∀ a, (![1, 0, 0] : Fin 3 → ℕ) a + TS1.size a ≤ TS.size a) (h0 : ∀ a, (![0, 0, 0] : Fin 3 → ℕ) a + TS1.size a ≤ TS.size a)
    (s3 : TY.Slices ![0, 384] TP) (s2 : TY.Slices ![0, 256] TP) (s1 : TY.Slices ![0, 128] TP) (s0 : TY.Slices ![0, 0] TP)
    (c3 c2 c1 c0 : TP.ShapeCasts TS1) (B : LoadRect TS) (i : B.shape.Idx) :
    v.readCov (⟨Rect.unit ![3, 0, 0] TS1.size h3, shapeCast TS1 (extractStridedSlice TP ![0, 384] Y s3) c3⟩
      :: ⟨Rect.unit ![2, 0, 0] TS1.size h2, shapeCast TS1 (extractStridedSlice TP ![0, 256] Y s2) c2⟩
      :: ⟨Rect.unit ![1, 0, 0] TS1.size h1, shapeCast TS1 (extractStridedSlice TP ![0, 128] Y s1) c1⟩
      :: ⟨Rect.unit ![0, 0, 0] TS1.size h0, shapeCast TS1 (extractStridedSlice TP ![0, 0] Y s0) c0⟩ :: L) B i = planes Y (B.idx i) := by
  rw [View.readCov_eq_canon']
  show View.canon ([_, _, _, _] ++ L) _ = _
  refine View.canon_append_of_piecesOf (planes Y) L _ ?_ _ ?_
  · exact ⟨plane_apply Y 384 3 (by norm_num) rfl s3 c3 h3, plane_apply Y 256 2 (by norm_num) rfl s2 c2 h2,
      plane_apply Y 128 1 (by norm_num) rfl s1 c1 h1, plane_apply Y 0 0 (by norm_num) rfl s0 c0 h0, trivial⟩
  generalize B.idx i = y
  rw [eq_ix3 y]
  generalize y 0 = z
  generalize y 1 = p
  generalize y 2 = l
  have hz : z.val < 4 := z.isLt
  have hp : p.val < 512 := p.isLt
  have hl : l.val < 128 := l.isLt
  have key : ∀ (j : ℕ) (inb : ∀ a, (![j, 0, 0] : Fin 3 → ℕ) a + TS1.size a ≤ TS.size a), z.val = j →
      (ix3 z p l : TS.Idx) ∈ (Rect.unit (s := TS) ![j, 0, 0] TS1.size inb).set := by
    intro j inb e
    rw [Rect.mem_set_unit]
    intro a
    fin_cases a
    · exact ⟨e.ge, by show z.val < j + 1; omega⟩
    · exact ⟨Nat.zero_le _, by show p.val < 0 + 512; omega⟩
    · exact ⟨Nat.zero_le _, by show l.val < 0 + 128; omega⟩
  obtain h | h | h | h : z.val = 0 ∨ z.val = 1 ∨ z.val = 2 ∨ z.val = 3 := by omega
  · exact ⟨_, List.mem_cons_of_mem _ (List.mem_cons_of_mem _ (List.mem_cons_of_mem _ List.mem_cons_self)), key 0 h0 h⟩
  · exact ⟨_, List.mem_cons_of_mem _ (List.mem_cons_of_mem _ List.mem_cons_self), key 1 h1 h⟩
  · exact ⟨_, List.mem_cons_of_mem _ List.mem_cons_self, key 2 h2 h⟩
  · exact ⟨_, List.mem_cons_self, key 3 h3 h⟩

theorem narrowed {s : Shape} (f : FVec Ideal s .f32) (hb : FTy.bits .bf16 < FTy.bits .f32) (x : s.Idx) :
    (truncf .bf16 f hb : FVec Ideal s .bf16) x = f x := rfl

/-- A chunk's rows of one residue class and one plane, as they are stored. -/
theorem strided_piece {sig : RefSig} {κ : Kind} {sp : Space} (v : View sig κ sp TS .f32) (Y : FVec Ideal TY .f32) (L : List (View.Piece (Elt Ideal) TS .f32))
    (h3 : ∀ a, (![3, 0, 0] : Fin 3 → ℕ) a + TS1.size a ≤ TS.size a) (h2 : ∀ a, (![2, 0, 0] : Fin 3 → ℕ) a + TS1.size a ≤ TS.size a)
    (h1 : ∀ a, (![1, 0, 0] : Fin 3 → ℕ) a + TS1.size a ≤ TS.size a) (h0 : ∀ a, (![0, 0, 0] : Fin 3 → ℕ) a + TS1.size a ≤ TS.size a)
    (s3 : TY.Slices ![0, 384] TP) (s2 : TY.Slices ![0, 256] TP) (s1 : TY.Slices ![0, 128] TP) (s0 : TY.Slices ![0, 0] TP)
    (c3 c2 c1 c0 : TP.ShapeCasts TS1) (n d M W j r o : ℕ) (inb) (hc : (⟨3, ![1, n, 128]⟩ : Shape).ShapeCasts ⟨2, ![n, 128]⟩)
    (hb : FTy.bits .bf16 < FTy.bits .f32)
    (ib : ∀ a, (![0, o] : Fin 2 → ℕ) a + (⟨2, ![n, 128]⟩ : Shape).size a ≤ (⟨2, ![M, W]⟩ : Shape).size a)
    (hj : j < 4) (hr : r < d) (ho : o = 512 * r + 128 * j) (hn : M * d = 512) (hM : n = M)
    (hre : ∀ (f : FVec Ideal ⟨3, ![1, n, 128]⟩ .f32) (a : Fin n) (b : Fin 128), shapeCast ⟨2, ![n, 128]⟩ f hc (ix2 a b) = f (ix3 0 a b)) (x : (⟨2, ![n, 128]⟩ : Shape).Idx) :
    (truncf .bf16 (shapeCast ⟨2, ![n, 128]⟩ (v.readCov (⟨Rect.unit ![3, 0, 0] TS1.size h3, shapeCast TS1 (extractStridedSlice TP ![0, 384] Y s3) c3⟩
      :: ⟨Rect.unit ![2, 0, 0] TS1.size h2, shapeCast TS1 (extractStridedSlice TP ![0, 256] Y s2) c2⟩
      :: ⟨Rect.unit ![1, 0, 0] TS1.size h1, shapeCast TS1 (extractStridedSlice TP ![0, 128] Y s1) c1⟩
      :: ⟨Rect.unit ![0, 0, 0] TS1.size h0, shapeCast TS1 (extractStridedSlice TP ![0, 0] Y s0) c0⟩ :: L)
        (⟨![j, r, 0], (⟨3, ![1, n, 128]⟩ : Shape).size, ![1, d, 1], inb⟩ : LoadRect TS)) hc) hb : FVec Ideal ⟨2, ![n, 128]⟩ .bf16) x
      = classes d Y ((Rect.unit (s := (⟨2, ![M, W]⟩ : Shape)) ![0, o] (⟨2, ![n, 128]⟩ : Shape).size ib).emb x) := by
  subst ho hM
  obtain ⟨a, b, rfl⟩ : ∃ (a : Fin n) (b : Fin 128), x = ix2 a b := ⟨x 0, x 1, eq_ix2 x⟩
  have hb' : b.val < 128 := b.isLt
  unfold classes
  rw [ValueKit.rect_emb_unit_val, ValueKit.rect_emb_unit_val]
  refine (narrowed _ hb _).trans ?_
  refine (hre _ a b).trans ?_
  rw [scratch_read]
  unfold planes
  rw [LoadRect.idx_apply, LoadRect.idx_apply, LoadRect.idx_apply]
  congr 1
  · show r + d * a.val = (0 + a.val) * d + (512 * r + 128 * j + b.val) / 512
    rw [show (512 * r + 128 * j + b.val) / 512 = r by omega, Nat.zero_add, Nat.mul_comm, Nat.add_comm]
  · show 128 * (j + 1 * 0) + (0 + 1 * b.val) = (512 * r + 128 * j + b.val) % 512
    omega

theorem cast128 (hc : (⟨3, ![1, 128, 128]⟩ : Shape).ShapeCasts ⟨2, ![128, 128]⟩) (f : FVec Ideal ⟨3, ![1, 128, 128]⟩ .f32) (a b : Fin 128) :
    shapeCast ⟨2, ![128, 128]⟩ f hc (ix2 a b) = f (ix3 0 a b) := by pointwise

theorem cast32 (hc : (⟨3, ![1, 32, 128]⟩ : Shape).ShapeCasts ⟨2, ![32, 128]⟩) (f : FVec Ideal ⟨3, ![1, 32, 128]⟩ .f32) (a : Fin 32) (b : Fin 128) :
    shapeCast ⟨2, ![32, 128]⟩ f hc (ix2 a b) = f (ix3 0 a b) := by pointwise

end Scratch

end Cert.Proj

end
-- ==== Proof.KIn.lean ====
/- The input projection as the kernel computes it: what its body leaves in every window, and every output array in full. -/
module

public import proofs.«01_k».proof.Proof.Proj
public import proofs.«01_k».proof.Proof.Gen.KernelInIdeal.Value
public import Idealize.ShloMosaic.Lib.Claim

@[expose] public section

set_option maxRecDepth 16384

noncomputable section

namespace Cert.KernelInIdeal.Whole

open Cert.KernelInIdeal Cert.KernelInIdeal.Gen Idealize.ShloMosaic

/-- The value of the gelu's constant. -/
theorem half_root : Named.named (F := Ideal) (φ := .f32) κ "half_root" 0x3F3504F3#32 = (((Real.sqrt 2)⁻¹ : ℝ) : EReal) :=
  IdealRules.named_const.ideal_named_scalar _ _ _ _ rfl

/-- The normalized rows of a block. -/
theorem norm_apply (x0 : Vec Ideal S512x1024 .f32) (x1 : Vec Ideal S1x1024 .f32) (p : Fin 512) (e : Fin 1024) :
    k0_pay3 x0 x1 (ix2 p e) = Proj.rms (fun e => x0 (ix2 p e)) (fun e => x1 (ix2 0 e)) e := by
  pointwise [k0_pay3]
  rfl

/-- A chunk's product. -/
theorem chunk_apply (h : FVec Ideal S512x1024 .bf16) (w : Vec Ideal S1024x512 .bf16) (p l : Fin 512) :
    k0_pay12 h w (ix2 p l) = ∑ e, h (ix2 p e) * w (ix2 e l) := by
  pointwise [k0_pay12]

/-- A chunk under the gelu. -/
theorem gelu_apply (h : FVec Ideal S512x1024 .bf16) (w : Vec Ideal S1024x512 .bf16) (x : S512x512.Idx) :
    k0_pay9 h w x = Proj.gelu (k0_pay12 h w x) := by
  have e : k0_pay9 h w x = FloatOps.mulf (FloatOps.mulf (Ideal.ofBits .f32 0x3F000000#32 : Ideal .f32) (k0_pay12 h w x))
      (FloatOps.addf (Ideal.ofBits .f32 0x3F800000#32 : Ideal .f32)
        (FloatOps.erf (FloatOps.mulf (k0_pay12 h w x) (Named.named (F := Ideal) (φ := .f32) κ "half_root" 0x3F3504F3#32)))) := rfl
  rw [e, half_root]
  rfl

/-- A chunk under the sigmoid. -/
theorem sigmoid_apply (h : FVec Ideal S512x1024 .bf16) (w : Vec Ideal S1024x512 .bf16) (x : S512x512.Idx) :
    k0_pay2 h w x = Ideal.logistic (k0_pay12 h w x) := rfl

/-- A chunk as it is. -/
theorem plain_apply (h : FVec Ideal S512x1024 .bf16) (w : Vec Ideal S1024x512 .bf16) (x : S512x512.Idx) :
    k0_pay11 h w x = k0_pay12 h w x := rfl

section Array

variable (m : (ℓ : Loc nD τ sig) → Buf (Elt Ideal) ℓ)

/-- Every window's block index at a point. -/
theorem idx : ∀ t : Fin cfg0.N,
    win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0]
    ∧ win0_13.index t = ![t.val, 0] ∧ win0_14.index t = ![t.val, 0] ∧ win0_15.index t = ![t.val, 0] :=
  (by decide +kernel : ∀ t : Fin grid0.N, _)

theorem point_lt (t : Fin cfg0.N) : t.val < 64 := t.isLt

/-- The rows, as the region finds them. -/
theorem x_rows (c : Dev nD) (j : S32768x1024.Idx) :
    V m c main_v0 j = Proj.tok (m (c.tc.loc main_arg0)) (j 0).val (j 1) := by
  rw [eq_ix2 j]
  generalize j 0 = n
  generalize j 1 = e
  entry_read
  pointwise
  unfold Proj.tok
  have hn : n.val < 32768 := n.isLt
  congr 2
  apply Fin.ext
  exact (Nat.mod_eq_of_lt (show n.val / 8192 < 4 by omega)).symm

/-- The gains, as the region finds them. -/
theorem g_row (c : Dev nD) (j : S1x1024.Idx) :
    V m c main_v1 j = Proj.gain (m (c.tc.loc main_arg1)) (j 1) := by
  rw [eq_ix2 j]
  generalize j 0 = n
  generalize j 1 = e
  entry_read
  pointwise
  rfl

/-- The weights, as the region finds them. -/
theorem w_cols (c : Dev nD) (j : S1024x6656.Idx) :
    V m c main_v2 j = Proj.col (m (c.tc.loc main_arg2)) (j 1).val (j 0) := by
  rw [eq_ix2 j]
  generalize j 0 = e
  generalize j 1 = l
  entry_read
  pointwise
  unfold Proj.col
  congr 2
  exact Fin.ext (Nat.mod_eq_of_lt l.isLt).symm

/-- Window 0's block at a point, read at an index. -/
theorem read0 (c : Dev nD) (t : Fin cfg0.N) (y : S512x1024.Idx) :
    iblk m c 0 t y = Proj.tok (m (c.tc.loc main_arg0)) (t.val * 512 + (y 0).val) (y 1) := by
  unfold iblk
  rw [View.read_apply]
  refine (cast_eq _ _).trans ?_
  refine (x_rows m c _).trans ?_
  blk_simp [idx t]
  exact congrArg _ (Fin.ext (by blk_simp [idx t]))

/-- Window 1's block at a point, read at an index. -/
theorem read1 (c : Dev nD) (t : Fin cfg0.N) (y : S1x1024.Idx) :
    iblk m c 1 t y = Proj.gain (m (c.tc.loc main_arg1)) (y 1) := by
  unfold iblk
  rw [View.read_apply]
  refine (cast_eq _ _).trans ?_
  refine (g_row m c _).trans ?_
  blk_simp [idx t]
  exact congrArg _ (Fin.ext (by blk_simp [idx t]))

/-- Window 2's block at a point, read at an index. -/
theorem read2 (c : Dev nD) (t : Fin cfg0.N) (y : S1024x6656.Idx) :
    iblk m c 2 t y = Proj.col (m (c.tc.loc main_arg2)) (y 1).val (y 0) := by
  unfold iblk
  rw [View.read_apply]
  refine (cast_eq _ _).trans ?_
  refine (w_cols m c _).trans ?_
  blk_simp [idx t]
  exact congrArg _ (Fin.ext (by blk_simp [idx t]))

/-- The normalized rows of a block, as the body computes them from its staging buffers. -/
def normal (c : Dev nD) (t : Fin cfg0.N) : FVec Ideal S512x1024 .bf16 :=
  k0_pay3 (View.readAt (Elt Ideal) (ms0_0 t).view (Rect.unit ![0, 0] S512x1024.size inb_S512x1024_S512x1024_0_0).toLoadRect ((hs0_0 t).unread (iblk m c 0 t)))
    (View.readAt (Elt Ideal) (ms0_1 t).view (Rect.unit ![0, 0] S1x1024.size inb_S1x1024_S1x1024_0_0).toLoadRect ((hs0_1 t).unread (iblk m c 1 t)))

/-- The 512 columns of the weights from `o` on, as the body loads them. -/
def cols (c : Dev nD) (t : Fin cfg0.N) (o : ℕ) (inb : ∀ a, (![0, o] : Fin 2 → ℕ) a + S1024x512.size a ≤ S1024x6656.size a) : Vec Ideal S1024x512 .bf16 :=
  View.readAt (Elt Ideal) (ms0_2 t).view (Rect.unit (s := S1024x6656) ![0, o] S1024x512.size inb).toLoadRect ((hs0_2 t).unread (iblk m c 2 t))

theorem cols_apply (c : Dev nD) (t : Fin cfg0.N) (o : ℕ) (inb : ∀ a, (![0, o] : Fin 2 → ℕ) a + S1024x512.size a ≤ S1024x6656.size a) (e : Fin 1024) (l : Fin 512) :
    cols m c t o inb (ix2 e l) = Proj.col (m (c.tc.loc main_arg2)) (o + l.val) e := by
  unfold cols
  rw [View.readAt_eq_ld, Memref.IsWhole.read_unread]
  refine (read2 m c t _).trans ?_
  have e1 : ((Rect.unit (s := S1024x6656) ![0, o] S1024x512.size inb).emb (ix2 e l) 1).val = o + l.val := ValueKit.rect_emb_unit_val _ _ _ _ _
  have e0 : (Rect.unit (s := S1024x6656) ![0, o] S1024x512.size inb).emb (ix2 e l) 0 = e := Fin.ext ((ValueKit.rect_emb_unit_val _ _ _ _ _).trans (Nat.zero_add _))
  exact congrArg₂ (Proj.col (m (c.tc.loc main_arg2))) e1 e0

theorem normal_apply (c : Dev nD) (t : Fin cfg0.N) (p : Fin 512) (e : Fin 1024) :
    normal m c t (ix2 p e) = Proj.rms (Proj.tok (m (c.tc.loc main_arg0)) (t.val * 512 + p.val)) (Proj.gain (m (c.tc.loc main_arg1))) e := by
  unfold normal
  rw [norm_apply, View.readAt_eq_ld, View.readAt_eq_ld, Memref.IsWhole.read_unread, Memref.IsWhole.read_unread,
    View.ld_unit_zero (by funext a; fin_cases a <;> rfl), View.ld_unit_zero (by funext a; fin_cases a <;> rfl)]
  exact congrArg₂ (fun x g => Proj.rms x g e) (funext fun e => read0 m c t _) (funext fun e => read1 m c t _)

/-- A chunk of a block. -/
def chunk (c : Dev nD) (t : Fin cfg0.N) (o : ℕ) (inb : ∀ a, (![0, o] : Fin 2 → ℕ) a + S1024x512.size a ≤ S1024x6656.size a) : FVec Ideal S512x512 .f32 :=
  k0_pay12 (normal m c t) (cols m c t o inb)

/-- The projection of the arguments. -/
def whole (c : Dev nD) (n l : ℕ) : EReal := Proj.proj (m (c.tc.loc main_arg0)) (m (c.tc.loc main_arg1)) (m (c.tc.loc main_arg2)) n l

/-- A chunk of a block is the projection of the block's tokens on the chunk's columns. -/
theorem chunk_eq (c : Dev nD) (t : Fin cfg0.N) (o : ℕ) (inb) (p l : Fin 512) :
    chunk m c t o inb (ix2 p l) = whole m c (t.val * 512 + p.val) (o + l.val) := by
  unfold chunk whole Proj.proj Proj.lin
  rw [chunk_apply]
  exact Finset.sum_congr rfl fun e _ => congrArg₂ (· * ·) (normal_apply m c t p e) (cols_apply m c t o inb e l)

/-- A chunk in the view by residue classes. -/
theorem classes_eq (c : Dev nD) (t : Fin cfg0.N) (o : ℕ) (inb) (d : ℕ) {M W : ℕ} (hM : M * d = 512) (hW : W = 512 * d) (y : (⟨2, ![M, W]⟩ : Shape).Idx) :
    Proj.classes d (chunk m c t o inb) y =
      Proj.view d o (m (c.tc.loc main_arg0)) (m (c.tc.loc main_arg1)) (m (c.tc.loc main_arg2)) (t.val * M + (y 0).val) (y 1).val := by
  unfold Proj.classes Proj.at' Proj.view
  rw [chunk_eq]
  unfold whole
  have h0 : (y 0).val < M := (y 0).isLt
  have h1 : (y 1).val < W := (y 1).isLt
  have h2 : (y 1).val / 512 < d := Nat.div_lt_of_lt_mul (by omega)
  have h3 : (y 0).val * d + (y 1).val / 512 < 512 := by
    have h4 : ((y 0).val + 1) * d ≤ M * d := Nat.mul_le_mul_right d h0
    rw [hM, Nat.add_mul, Nat.one_mul] at h4
    omega
  congr 1
  · simp only [Nat.mod_eq_of_lt h3]
    rw [Nat.add_mul, Nat.mul_assoc, hM, Nat.add_assoc]
  · simp

/-- A block of the projection under the gelu, on 1024 columns from `o` on. -/
def gelus (c : Dev nD) (t : Fin cfg0.N) (o : ℕ) : Vec Ideal S512x1024 .bf16 := fun y =>
  Proj.gelu (whole m c (t.val * 512 + (y 0).val) (o + (y 1).val))

/-- A block of the projection under the sigmoid, on 1024 columns from `o` on. -/
def sigmoids (c : Dev nD) (t : Fin cfg0.N) (o : ℕ) : Vec Ideal S512x1024 .bf16 := fun y =>
  Ideal.logistic (whole m c (t.val * 512 + (y 0).val) (o + (y 1).val))

/-- A block of the projection on 512 columns from `o` on. -/
def plains (c : Dev nD) (t : Fin cfg0.N) (o : ℕ) : Vec Ideal S512x512 .bf16 := fun y =>
  whole m c (t.val * 512 + (y 0).val) (o + (y 1).val)

/-- A chunk put at column `k` of a block of 1024 columns. -/
theorem put (c : Dev nD) (t : Fin cfg0.N) (o k q : ℕ) (inb) (h : o + k = q) (ib : ∀ a, (![0, k] : Fin 2 → ℕ) a + S512x512.size a ≤ S512x1024.size a) (x : S512x512.Idx) :
    chunk m c t q inb x = whole m c (t.val * 512 + ((Rect.unit (s := S512x1024) ![0, k] S512x512.size ib).emb x 0).val)
      (o + ((Rect.unit (s := S512x1024) ![0, k] S512x512.size ib).emb x 1).val) := by
  obtain ⟨p, l, rfl⟩ : ∃ (p l : Fin 512), x = ix2 p l := ⟨x 0, x 1, eq_ix2 x⟩
  subst h
  rw [chunk_eq]
  have e1 : ((Rect.unit (s := S512x1024) ![0, k] S512x512.size ib).emb (ix2 p l) 1).val = k + l.val := ValueKit.rect_emb_unit_val _ _ _ _ _
  have e0 : ((Rect.unit (s := S512x1024) ![0, k] S512x512.size ib).emb (ix2 p l) 0).val = 0 + p.val := ValueKit.rect_emb_unit_val _ _ _ _ _
  rw [e0, e1, Nat.zero_add, Nat.add_assoc]

/-- A chunk put in a block of its own. -/
theorem put_all (c : Dev nD) (t : Fin cfg0.N) (o : ℕ) (inb) (ib : ∀ a, (![0, 0] : Fin 2 → ℕ) a + S512x512.size a ≤ S512x512.size a) (x : S512x512.Idx) :
    chunk m c t o inb x = whole m c (t.val * 512 + ((Rect.unit (s := S512x512) ![0, 0] S512x512.size ib).emb x 0).val)
      (o + ((Rect.unit (s := S512x512) ![0, 0] S512x512.size ib).emb x 1).val) := by
  obtain ⟨p, l, rfl⟩ : ∃ (p l : Fin 512), x = ix2 p l := ⟨x 0, x 1, eq_ix2 x⟩
  rw [chunk_eq]
  have e1 : ((Rect.unit (s := S512x512) ![0, 0] S512x512.size ib).emb (ix2 p l) 1).val = 0 + l.val := ValueKit.rect_emb_unit_val _ _ _ _ _
  have e0 : ((Rect.unit (s := S512x512) ![0, 0] S512x512.size ib).emb (ix2 p l) 0).val = 0 + p.val := ValueKit.rect_emb_unit_val _ _ _ _ _
  rw [e0, e1, Nat.zero_add, Nat.zero_add]

/-- Window 3's buffer when a point is done: the first branch under the gelu. -/
theorem left3 (c : Dev nD) (t : Fin cfg0.N) (y : S512x1024.Idx) : (outsAt0 m c t).1 y = gelus m c t 0 y := by
  unfold outsAt0
  dsimp only
  unfold out0_A_3
  rw [View.read_writes_junk_eq_canon]
  refine View.canon_apply_of_pieces (gelus m c t 0) _ (View.PiecesOf.mem ?_) y (cover0_A_3 _ _ _ _ _ _ _ _ _ _ _ _ _ _ _ _ _ _ _ _ _ _ _ _ _ _ _ _ _ _ _ _ _ _ _ _ _ _ _ y)
  frame_open
  refine ⟨fun x => ?_, fun x => ?_, trivial⟩
  · exact (gelu_apply (normal m c t) (cols m c t 512 (by decide)) x).trans (congrArg Proj.gelu (put m c t 0 512 512 (by decide) rfl (by decide) x))
  · exact (gelu_apply (normal m c t) (cols m c t 0 (by decide)) x).trans (congrArg Proj.gelu (put m c t 0 0 0 (by decide) rfl (by decide) x))

/-- Window 4's buffer when a point is done: the second branch under the gelu. -/
theorem left4 (c : Dev nD) (t : Fin cfg0.N) (y : S512x1024.Idx) : (outsAt0 m c t).2.1 y = gelus m c t 1024 y := by
  unfold outsAt0
  dsimp only
  unfold out0_A_4
  rw [View.read_writes_junk_eq_canon]
  refine View.canon_apply_of_pieces (gelus m c t 1024) _ (View.PiecesOf.mem ?_) y (cover0_A_4 _ _ _ _ _ _ _ _ _ _ _ _ _ _ _ _ _ _ _ _ _ _ _ _ _ _ _ _ _ _ _ _ _ _ _ _ _ _ _ y)
  frame_open
  refine ⟨fun x => ?_, fun x => ?_, trivial⟩
  · exact (gelu_apply (normal m c t) (cols m c t 1536 (by decide)) x).trans (congrArg Proj.gelu (put m c t 1024 512 1536 (by decide) rfl (by decide) x))
  · exact (gelu_apply (normal m c t) (cols m c t 1024 (by decide)) x).trans (congrArg Proj.gelu (put m c t 1024 0 1024 (by decide) rfl (by decide) x))

/-- Window 5's buffer when a point is done: the first gate. -/
theorem left5 (c : Dev nD) (t : Fin cfg0.N) (y : S512x1024.Idx) : (outsAt0 m c t).2.2.1 y = sigmoids m c t 4608 y := by
  unfold outsAt0
  dsimp only
  unfold out0_A_5
  rw [View.read_writes_junk_eq_canon]
  refine View.canon_apply_of_pieces (sigmoids m c t 4608) _ (View.PiecesOf.mem ?_) y (cover0_A_5 _ _ _ _ _ _ _ _ _ _ _ _ _ _ _ _ _ _ _ _ _ _ _ _ _ _ _ _ _ _ _ _ _ _ _ _ _ _ _ y)
  frame_open
  refine ⟨fun x => ?_, fun x => ?_, trivial⟩
  · exact (sigmoid_apply (normal m c t) (cols m c t 5120 (by decide)) x).trans (congrArg Ideal.logistic (put m c t 4608 512 5120 (by decide) rfl (by decide) x))
  · exact (sigmoid_apply (normal m c t) (cols m c t 4608 (by decide)) x).trans (congrArg Ideal.logistic (put m c t 4608 0 4608 (by decide) rfl (by decide) x))

/-- Window 6's buffer when a point is done: the second gate. -/
theorem left6 (c : Dev nD) (t : Fin cfg0.N) (y : S512x1024.Idx) : (outsAt0 m c t).2.2.2.1 y = sigmoids m c t 5632 y := by
  unfold outsAt0
  dsimp only
  unfold out0_A_6
  rw [View.read_writes_junk_eq_canon]
  refine View.canon_apply_of_pieces (sigmoids m c t 5632) _ (View.PiecesOf.mem ?_) y (cover0_A_6 _ _ _ _ _ _ _ _ _ _ _ _ _ _ _ _ _ _ _ _ _ _ _ _ _ _ _ _ _ _ _ _ _ _ _ _ _ _ _ y)
  frame_open
  refine ⟨fun x => ?_, fun x => ?_, trivial⟩
  · exact (sigmoid_apply (normal m c t) (cols m c t 6144 (by decide)) x).trans (congrArg Ideal.logistic (put m c t 5632 512 6144 (by decide) rfl (by decide) x))
  · exact (sigmoid_apply (normal m c t) (cols m c t 5632 (by decide)) x).trans (congrArg Ideal.logistic (put m c t 5632 0 5632 (by decide) rfl (by decide) x))

/-- Window 7's buffer when a point is done: the near queries. -/
theorem left7 (c : Dev nD) (t : Fin cfg0.N) (y : S512x512.Idx) : (outsAt0 m c t).2.2.2.2.1 y = plains m c t 2048 y := by
  unfold outsAt0
  dsimp only
  unfold out0_A_7
  rw [View.read_writes_junk_eq_canon]
  refine View.canon_apply_of_pieces (plains m c t 2048) _ (View.PiecesOf.mem ?_) y (cover0_A_7 _ _ _ _ _ _ _ _ _ _ _ _ _ _ _ _ _ _ _ _ _ _ _ _ _ _ _ _ _ _ _ _ _ _ _ _ _ _ _ y)
  frame_open
  refine ⟨fun x => ?_, trivial⟩
  exact (plain_apply (normal m c t) (cols m c t 2048 (by decide)) x).trans (put_all m c t 2048 (by decide) (by decide) x)

/-- Window 8's buffer when a point is done: the near keys. -/
theorem left8 (c : Dev nD) (t : Fin cfg0.N) (y : S512x512.Idx) : (outsAt0 m c t).2.2.2.2.2.1 y = plains m c t 3584 y := by
  unfold outsAt0
  dsimp only
  unfold out0_A_8
  rw [View.read_writes_junk_eq_canon]
  refine View.canon_apply_of_pieces (plains m c t 3584) _ (View.PiecesOf.mem ?_) y (cover0_A_8 _ _ _ _ _ _ _ _ _ _ _ _ _ _ _ _ _ _ _ _ _ _ _ _ _ _ _ _ _ _ _ _ _ _ _ _ _ _ _ y)
  frame_open
  refine ⟨fun x => ?_, trivial⟩
  exact (plain_apply (normal m c t) (cols m c t 3584 (by decide)) x).trans (put_all m c t 3584 (by decide) (by decide) x)

/-- Window 9's buffer when a point is done: the near values. -/
theorem left9 (c : Dev nD) (t : Fin cfg0.N) (y : S512x512.Idx) : (outsAt0 m c t).2.2.2.2.2.2.1 y = plains m c t 4096 y := by
  unfold outsAt0
  dsimp only
  unfold out0_A_9
  rw [View.read_writes_junk_eq_canon]
  refine View.canon_apply_of_pieces (plains m c t 4096) _ (View.PiecesOf.mem ?_) y (cover0_A_9 _ _ _ _ _ _ _ _ _ _ _ _ _ _ _ _ _ _ _ _ _ _ _ _ _ _ _ _ _ _ _ _ _ _ _ _ _ _ _ y)
  frame_open
  refine ⟨fun x => ?_, trivial⟩
  exact (plain_apply (normal m c t) (cols m c t 4096 (by decide)) x).trans (put_all m c t 4096 (by decide) (by decide) x)

/-- Window 10's buffer when a point is done: the middle queries, by residue classes. -/
theorem left10 (c : Dev nD) (t : Fin cfg0.N) (y : S128x2048.Idx) :
    (outsAt0 m c t).2.2.2.2.2.2.2.1 y = Proj.classes 4 (chunk m c t 2560 (by decide)) y := by
  unfold outsAt0
  dsimp only
  unfold out0_A_10
  rw [View.read_writes_junk_eq_canon]
  refine View.canon_apply_of_pieces _ _ (View.PiecesOf.mem ?_) y (cover0_A_10 _ _ _ _ _ _ _ _ _ _ _ _ _ _ _ _ _ _ _ _ _ _ _ _ _ _ _ _ _ _ _ _ _ _ _ _ _ _ _ y)
  frame_open
  iterate 16
    refine ⟨fun x => Proj.strided_piece (Y := k0_pay12 (normal m c t) (cols m c t 2560 (by decide))) (hj := by decide) (hr := by decide) (ho := by decide) (hn := by decide) (hM := rfl) (hre := Proj.cast128 _) (ib := by decide) (x := x) .., ?_⟩
  exact trivial

/-- Window 11's buffer when a point is done: the middle keys, by residue classes. -/
theorem left11 (c : Dev nD) (t : Fin cfg0.N) (y : S128x2048.Idx) :
    (outsAt0 m c t).2.2.2.2.2.2.2.2.1 y = Proj.classes 4 (chunk m c t 3584 (by decide)) y := by
  unfold outsAt0
  dsimp only
  unfold out0_A_11
  rw [View.read_writes_junk_eq_canon]
  refine View.canon_apply_of_pieces _ _ (View.PiecesOf.mem ?_) y (cover0_A_11 _ _ _ _ _ _ _ _ _ _ _ _ _ _ _ _ _ _ _ _ _ _ _ _ _ _ _ _ _ _ _ _ _ _ _ _ _ _ _ y)
  frame_open
  iterate 16
    refine ⟨fun x => Proj.strided_piece (Y := k0_pay12 (normal m c t) (cols m c t 3584 (by decide))) (hj := by decide) (hr := by decide) (ho := by decide) (hn := by decide) (hM := rfl) (hre := Proj.cast128 _) (ib := by decide) (x := x) .., ?_⟩
  exact trivial

/-- Window 12's buffer when a point is done: the middle values, by residue classes. -/
theorem left12 (c : Dev nD) (t : Fin cfg0.N) (y : S128x2048.Idx) :
    (outsAt0 m c t).2.2.2.2.2.2.2.2.2.1 y = Proj.classes 4 (chunk m c t 4096 (by decide)) y := by
  unfold outsAt0
  dsimp only
  unfold out0_A_12
  rw [View.read_writes_junk_eq_canon]
  refine View.canon_apply_of_pieces _ _ (View.PiecesOf.mem ?_) y (cover0_A_12 _ _ _ _ _ _ _ _ _ _ _ _ _ _ _ _ _ _ _ _ _ _ _ _ _ _ _ _ _ _ _ _ _ _ _ _ _ _ _ y)
  frame_open
  iterate 16
    refine ⟨fun x => Proj.strided_piece (Y := k0_pay12 (normal m c t) (cols m c t 4096 (by decide))) (hj := by decide) (hr := by decide) (ho := by decide) (hn := by decide) (hM := rfl) (hre := Proj.cast128 _) (ib := by decide) (x := x) .., ?_⟩
  exact trivial

/-- Window 13's buffer when a point is done: the far queries, by residue classes. -/
theorem left13 (c : Dev nD) (t : Fin cfg0.N) (y : S32x8192.Idx) :
    (outsAt0 m c t).2.2.2.2.2.2.2.2.2.2.1 y = Proj.classes 16 (chunk m c t 3072 (by decide)) y := by
  unfold outsAt0
  dsimp only
  unfold out0_A_13
  rw [View.read_writes_junk_eq_canon]
  refine View.canon_apply_of_pieces _ _ (View.PiecesOf.mem ?_) y (cover0_A_13 _ _ _ _ _ _ _ _ _ _ _ _ _ _ _ _ _ _ _ _ _ _ _ _ _ _ _ _ _ _ _ _ _ _ _ _ _ _ _ y)
  frame_open
  iterate 64
    refine ⟨fun x => Proj.strided_piece (Y := k0_pay12 (normal m c t) (cols m c t 3072 (by decide))) (hj := by decide) (hr := by decide) (ho := by decide) (hn := by decide) (hM := rfl) (hre := Proj.cast32 _) (ib := by decide) (x := x) .., ?_⟩
  exact trivial

/-- Window 14's buffer when a point is done: the far keys, by residue classes. -/
theorem left14 (c : Dev nD) (t : Fin cfg0.N) (y : S32x8192.Idx) :
    (outsAt0 m c t).2.2.2.2.2.2.2.2.2.2.2.1 y = Proj.classes 16 (chunk m c t 3584 (by decide)) y := by
  unfold outsAt0
  dsimp only
  unfold out0_A_14
  rw [View.read_writes_junk_eq_canon]
  refine View.canon_apply_of_pieces _ _ (View.PiecesOf.mem ?_) y (cover0_A_14 _ _ _ _ _ _ _ _ _ _ _ _ _ _ _ _ _ _ _ _ _ _ _ _ _ _ _ _ _ _ _ _ _ _ _ _ _ _ _ y)
  frame_open
  iterate 64
    refine ⟨fun x => Proj.strided_piece (Y := k0_pay12 (normal m c t) (cols m c t 3584 (by decide))) (hj := by decide) (hr := by decide) (ho := by decide) (hn := by decide) (hM := rfl) (hre := Proj.cast32 _) (ib := by decide) (x := x) .., ?_⟩
  exact trivial

/-- Window 15's buffer when a point is done: the far values, by residue classes. -/
theorem left15 (c : Dev nD) (t : Fin cfg0.N) (y : S32x8192.Idx) :
    (outsAt0 m c t).2.2.2.2.2.2.2.2.2.2.2.2 y = Proj.classes 16 (chunk m c t 4096 (by decide)) y := by
  unfold outsAt0
  dsimp only
  unfold out0_A_15
  rw [View.read_writes_junk_eq_canon]
  refine View.canon_apply_of_pieces _ _ (View.PiecesOf.mem ?_) y (cover0_A_15 _ _ _ _ _ _ _ _ _ _ _ _ _ _ _ _ _ _ _ _ _ _ _ _ _ _ _ _ _ _ _ _ _ _ _ _ _ _ _ y)
  frame_open
  iterate 64
    refine ⟨fun x => Proj.strided_piece (Y := k0_pay12 (normal m c t) (cols m c t 4096 (by decide))) (hj := by decide) (hr := by decide) (ho := by decide) (hn := by decide) (hM := rfl) (hre := Proj.cast32 _) (ib := by decide) (x := x) .., ?_⟩
  exact trivial

/-- The view by residue classes of the projection of the arguments. -/
def strided (c : Dev nD) (d o a L : ℕ) : EReal :=
  Proj.view d o (m (c.tc.loc main_arg0)) (m (c.tc.loc main_arg1)) (m (c.tc.loc main_arg2)) a L

/-- Output 1 in full. -/
theorem final3 (c : Dev nD) : (dats m 0 c).arrAt 3 cfg0.N = fun j : S32768x1024.Idx => Proj.gelu (whole m c (j 0).val (0 + (j 1).val)) := by
  refine (dats m 0 c).arrAt_eq_of_covers 3 _ (by decide +kernel) fun t hf y => ?_
  rw [after0_3]
  refine (left3 m c t y).trans ?_
  exact congrArg₂ (fun n l => Proj.gelu (whole m c n (0 + l)))
    (by blk_simp [idx t]) (by blk_simp [idx t])

/-- Output 2 in full. -/
theorem final4 (c : Dev nD) : (dats m 0 c).arrAt 4 cfg0.N = fun j : S32768x1024.Idx => Proj.gelu (whole m c (j 0).val (1024 + (j 1).val)) := by
  refine (dats m 0 c).arrAt_eq_of_covers 4 _ (by decide +kernel) fun t hf y => ?_
  rw [after0_4]
  refine (left4 m c t y).trans ?_
  exact congrArg₂ (fun n l => Proj.gelu (whole m c n (1024 + l)))
    (by blk_simp [idx t]) (by blk_simp [idx t])

/-- Output 3 in full. -/
theorem final5 (c : Dev nD) : (dats m 0 c).arrAt 5 cfg0.N = fun j : S32768x1024.Idx => Ideal.logistic (whole m c (j 0).val (4608 + (j 1).val)) := by
  refine (dats m 0 c).arrAt_eq_of_covers 5 _ (by decide +kernel) fun t hf y => ?_
  rw [after0_5]
  refine (left5 m c t y).trans ?_
  exact congrArg₂ (fun n l => Ideal.logistic (whole m c n (4608 + l)))
    (by blk_simp [idx t]) (by blk_simp [idx t])

/-- Output 4 in full. -/
theorem final6 (c : Dev nD) : (dats m 0 c).arrAt 6 cfg0.N = fun j : S32768x1024.Idx => Ideal.logistic (whole m c (j 0).val (5632 + (j 1).val)) := by
  refine (dats m 0 c).arrAt_eq_of_covers 6 _ (by decide +kernel) fun t hf y => ?_
  rw [after0_6]
  refine (left6 m c t y).trans ?_
  exact congrArg₂ (fun n l => Ideal.logistic (whole m c n (5632 + l)))
    (by blk_simp [idx t]) (by blk_simp [idx t])

/-- Output 5 in full. -/
theorem final7 (c : Dev nD) : (dats m 0 c).arrAt 7 cfg0.N = fun j : S32768x512.Idx => whole m c (j 0).val (2048 + (j 1).val) := by
  refine (dats m 0 c).arrAt_eq_of_covers 7 _ (by decide +kernel) fun t hf y => ?_
  rw [after0_7]
  refine (left7 m c t y).trans ?_
  exact congrArg₂ (fun n l => whole m c n (2048 + l))
    (by blk_simp [idx t]) (by blk_simp [idx t])

/-- Output 6 in full. -/
theorem final8 (c : Dev nD) : (dats m 0 c).arrAt 8 cfg0.N = fun j : S32768x512.Idx => whole m c (j 0).val (3584 + (j 1).val) := by
  refine (dats m 0 c).arrAt_eq_of_covers 8 _ (by decide +kernel) fun t hf y => ?_
  rw [after0_8]
  refine (left8 m c t y).trans ?_
  exact congrArg₂ (fun n l => whole m c n (3584 + l))
    (by blk_simp [idx t]) (by blk_simp [idx t])

/-- Output 7 in full. -/
theorem final9 (c : Dev nD) : (dats m 0 c).arrAt 9 cfg0.N = fun j : S32768x512.Idx => whole m c (j 0).val (4096 + (j 1).val) := by
  refine (dats m 0 c).arrAt_eq_of_covers 9 _ (by decide +kernel) fun t hf y => ?_
  rw [after0_9]
  refine (left9 m c t y).trans ?_
  exact congrArg₂ (fun n l => whole m c n (4096 + l))
    (by blk_simp [idx t]) (by blk_simp [idx t])

/-- Output 8 in full. -/
theorem final10 (c : Dev nD) : (dats m 0 c).arrAt 10 cfg0.N = fun j : S8192x2048.Idx => strided m c 4 2560 (j 0).val (j 1).val := by
  refine (dats m 0 c).arrAt_eq_of_covers 10 _ (by decide +kernel) fun t hf y => ?_
  rw [after0_10]
  refine ((left10 m c t y).trans (classes_eq m c t 2560 (by decide) 4 rfl rfl y)).trans ?_
  exact congrArg₂ (strided m c 4 2560)
    (by blk_simp [idx t]) (by blk_simp [idx t])

/-- Output 9 in full. -/
theorem final11 (c : Dev nD) : (dats m 0 c).arrAt 11 cfg0.N = fun j : S8192x2048.Idx => strided m c 4 3584 (j 0).val (j 1).val := by
  refine (dats m 0 c).arrAt_eq_of_covers 11 _ (by decide +kernel) fun t hf y => ?_
  rw [after0_11]
  refine ((left11 m c t y).trans (classes_eq m c t 3584 (by decide) 4 rfl rfl y)).trans ?_
  exact congrArg₂ (strided m c 4 3584)
    (by blk_simp [idx t]) (by blk_simp [idx t])

/-- Output 10 in full. -/
theorem final12 (c : Dev nD) : (dats m 0 c).arrAt 12 cfg0.N = fun j : S8192x2048.Idx => strided m c 4 4096 (j 0).val (j 1).val := by
  refine (dats m 0 c).arrAt_eq_of_covers 12 _ (by decide +kernel) fun t hf y => ?_
  rw [after0_12]
  refine ((left12 m c t y).trans (classes_eq m c t 4096 (by decide) 4 rfl rfl y)).trans ?_
  exact congrArg₂ (strided m c 4 4096)
    (by blk_simp [idx t]) (by blk_simp [idx t])

/-- Output 11 in full. -/
theorem final13 (c : Dev nD) : (dats m 0 c).arrAt 13 cfg0.N = fun j : S2048x8192.Idx => strided m c 16 3072 (j 0).val (j 1).val := by
  refine (dats m 0 c).arrAt_eq_of_covers 13 _ (by decide +kernel) fun t hf y => ?_
  rw [after0_13]
  refine ((left13 m c t y).trans (classes_eq m c t 3072 (by decide) 16 rfl rfl y)).trans ?_
  exact congrArg₂ (strided m c 16 3072)
    (by blk_simp [idx t]) (by blk_simp [idx t])

/-- Output 12 in full. -/
theorem final14 (c : Dev nD) : (dats m 0 c).arrAt 14 cfg0.N = fun j : S2048x8192.Idx => strided m c 16 3584 (j 0).val (j 1).val := by
  refine (dats m 0 c).arrAt_eq_of_covers 14 _ (by decide +kernel) fun t hf y => ?_
  rw [after0_14]
  refine ((left14 m c t y).trans (classes_eq m c t 3584 (by decide) 16 rfl rfl y)).trans ?_
  exact congrArg₂ (strided m c 16 3584)
    (by blk_simp [idx t]) (by blk_simp [idx t])

/-- Output 13 in full. -/
theorem final15 (c : Dev nD) : (dats m 0 c).arrAt 15 cfg0.N = fun j : S2048x8192.Idx => strided m c 16 4096 (j 0).val (j 1).val := by
  refine (dats m 0 c).arrAt_eq_of_covers 15 _ (by decide +kernel) fun t hf y => ?_
  rw [after0_15]
  refine ((left15 m c t y).trans (classes_eq m c t 4096 (by decide) 16 rfl rfl y)).trans ?_
  exact congrArg₂ (strided m c 16 4096)
    (by blk_simp [idx t]) (by blk_simp [idx t])

end Array

end Cert.KernelInIdeal.Whole

end
-- ==== Proof.RIn.lean ====
/- The input projection as the reference computes it: every result in full. -/
module

public import proofs.«01_k».proof.Proof.Proj
public import proofs.«01_k».proof.Proof.Gen.ReferenceInIdeal.Read
public import Idealize.ShloMosaic.Lib.Pointwise

@[expose] public section

set_option maxRecDepth 16384

noncomputable section

namespace Cert.ReferenceInIdeal.Whole

open Cert.ReferenceInIdeal Cert.ReferenceInIdeal.Gen Cert.ReferenceInIdeal.Read Idealize.ShloMosaic

variable (x0 : FVec Ideal Proj.TX .f32) (x1 : FVec Ideal Proj.TG .f32) (x2 : FVec Ideal Proj.TW .f32)

theorem at_tok (b s : ℕ) (hb : b < 4) (hs : s < 8192) (e : Fin 1024) (n : ℕ) (hn : 8192 * b + s = n) :
    x0 (ix3 ⟨b, hb⟩ ⟨s, hs⟩ e) = Proj.tok x0 n e := by
  unfold Proj.tok
  subst hn
  congr 2
  · apply Fin.ext
    show b = (8192 * b + s) / 8192 % 4
    omega
  · apply Fin.ext
    show s = (8192 * b + s) % 8192
    omega

theorem bits_zero : Ideal.ofBits .f32 0x00000000#32 = 0 := by
  simp [Ideal.ofBits, Ideal.ieee]
theorem bits_one : Ideal.ofBits .f32 0x3F800000#32 = 1 := by
  rw [← EReal.coe_one]
  simp [Ideal.ofBits, Ideal.ieee, -EReal.coe_mul, -EReal.coe_one]; norm_num
theorem bits_two : Ideal.ofBits .f32 0x40000000#32 = ((2 : ℝ) : EReal) := by
  simp [Ideal.ofBits, Ideal.ieee, -EReal.coe_mul]; norm_num

/-- The sum of a row's squares. -/
theorem squares (b : Fin 4) (s : Fin 8192) :
    val_main_v1 (F := Ideal) x0 (ix2 b s) = ∑ i, Proj.tok x0 (8192 * b.val + s.val) i * Proj.tok x0 (8192 * b.val + s.val) i := by
  pointwise [val_main_v1, val_main_v0]
  rw [show val_main_cst (F := Ideal) (Shape.Idx.first h_S_) = Ideal.ofBits .f32 0x00000000#32 from rfl, bits_zero, zero_add]
  exact Finset.sum_congr rfl fun e _ => by rw [at_tok x0 b.val s.val b.isLt s.isLt e _ rfl]

/-- The normalized rows. -/
theorem norm (b : Fin 4) (s : Fin 8192) (e : Fin 1024) :
    val_main_v12 (F := Ideal) x0 x1 (ix3 b s e) = Proj.rms (Proj.tok x0 (8192 * b.val + s.val)) (Proj.gain x1) e := by
  pointwise [val_main_v12, val_main_v11, val_main_v10, val_main_v9, val_main_v8, val_main_v7, val_main_v6, val_main_v5, val_main_v4, val_main_v3, val_main_v2]
  rw [squares]
  rw [show val_main_cst_0 (F := Ideal) ix0 = Ideal.ofBits .f32 0x44800000#32 from rfl, show val_main_cst_1 (F := Ideal) ix0 = Ideal.ofBits .f32 0x358637BD#32 from rfl,
    at_tok x0 b.val s.val b.isLt s.isLt e _ rfl]
  rfl

/-- The product with the weights. -/
theorem product (b s l : ℕ) (hb : b < 4) (hs : s < 8192) (hl : l < 6656) (n c : ℕ) (hn : 8192 * b + s = n) (hc : l = c) :
    val_main_v13 (F := Ideal) x0 x1 x2 (ix3 ⟨b, hb⟩ ⟨s, hs⟩ ⟨l, hl⟩) = Proj.proj x0 x1 x2 n c := by
  subst hn hc
  pointwise [val_main_v13]
  unfold Proj.proj Proj.lin
  refine Finset.sum_congr rfl fun e _ => ?_
  rw [norm]
  refine congrArg₂ (fun a b : EReal => a * b) rfl ?_
  unfold Proj.col
  congr 2
  exact Fin.ext (Nat.mod_eq_of_lt hl).symm

/-- Division by the root of two is the product with its inverse. -/
theorem half (y : EReal) : Ideal.div y (Ideal.sqrt (Ideal.ofBits .f32 0x40000000#32)) = y * (((Real.sqrt 2)⁻¹ : ℝ) : EReal) := by
  rw [bits_two]
  rw [Ideal.sqrt_coe, if_neg (by norm_num), Ideal.div_coe (by positivity), one_div]

/-- The first branch. -/
theorem final71 (j : S32768x1024.Idx) : val_main_v71 (F := Ideal) x0 x1 x2 j = Proj.gelu (Proj.proj x0 x1 x2 (j 0).val (0 + (j 1).val)) := by
  obtain ⟨n, l, rfl⟩ : ∃ (n : Fin 32768) (l : Fin 1024), j = ix2 n l := ⟨j 0, j 1, eq_ix2 j⟩
  pointwise [val_main_v71, val_main_v52, val_main_v30, val_main_v29, val_main_v28, val_main_v27, val_main_v26, val_main_v25, val_main_v24, val_main_v23, val_main_v22, val_main_v14]
  rw [product x0 x1 x2 _ _ _ _ _ _ n.val (0 + l.val) (by omega) (by omega), show val_main_cst_2 (F := Ideal) ix0 = Ideal.ofBits .f32 0x3F000000#32 from rfl, show val_main_cst_4 (F := Ideal) ix0 = Ideal.ofBits .f32 0x3F800000#32 from rfl, show val_main_cst_3 (F := Ideal) ix0 = Ideal.ofBits .f32 0x40000000#32 from rfl, half]
  simp only [Proj.gelu, Nat.zero_add, ix2_0, ix2_1]

/-- The second branch. -/
theorem final72 (j : S32768x1024.Idx) : val_main_v72 (F := Ideal) x0 x1 x2 j = Proj.gelu (Proj.proj x0 x1 x2 (j 0).val (1024 + (j 1).val)) := by
  obtain ⟨n, l, rfl⟩ : ∃ (n : Fin 32768) (l : Fin 1024), j = ix2 n l := ⟨j 0, j 1, eq_ix2 j⟩
  pointwise [val_main_v72, val_main_v53, val_main_v39, val_main_v38, val_main_v37, val_main_v36, val_main_v35, val_main_v34, val_main_v33, val_main_v32, val_main_v31, val_main_v15]
  rw [product x0 x1 x2 _ _ _ _ _ _ n.val (1024 + l.val) (by omega) (by omega), show val_main_cst_5 (F := Ideal) ix0 = Ideal.ofBits .f32 0x3F000000#32 from rfl, show val_main_cst_7 (F := Ideal) ix0 = Ideal.ofBits .f32 0x3F800000#32 from rfl, show val_main_cst_6 (F := Ideal) ix0 = Ideal.ofBits .f32 0x40000000#32 from rfl, half]
  simp only [Proj.gelu, Nat.zero_add, ix2_0, ix2_1]

/-- The first gate. -/
theorem final73 (j : S32768x1024.Idx) : val_main_v73 (F := Ideal) x0 x1 x2 j = Ideal.logistic (Proj.proj x0 x1 x2 (j 0).val (4608 + (j 1).val)) := by
  obtain ⟨n, l, rfl⟩ : ∃ (n : Fin 32768) (l : Fin 1024), j = ix2 n l := ⟨j 0, j 1, eq_ix2 j⟩
  pointwise [val_main_v73, val_main_v54, val_main_v45, val_main_v44, val_main_v43, val_main_v42, val_main_v41, val_main_v40, val_main_v19]
  rw [product x0 x1 x2 _ _ _ _ _ _ n.val (4608 + l.val) (by omega) (by omega), show val_main_cst_9 (F := Ideal) ix0 = Ideal.ofBits .f32 0x3F800000#32 from rfl, show val_main_cst_8 (F := Ideal) ix0 = Ideal.ofBits .f32 0x3F800000#32 from rfl, bits_one]
  rfl

/-- The second gate. -/
theorem final74 (j : S32768x1024.Idx) : val_main_v74 (F := Ideal) x0 x1 x2 j = Ideal.logistic (Proj.proj x0 x1 x2 (j 0).val (5632 + (j 1).val)) := by
  obtain ⟨n, l, rfl⟩ : ∃ (n : Fin 32768) (l : Fin 1024), j = ix2 n l := ⟨j 0, j 1, eq_ix2 j⟩
  pointwise [val_main_v74, val_main_v55, val_main_v51, val_main_v50, val_main_v49, val_main_v48, val_main_v47, val_main_v46, val_main_v20]
  rw [product x0 x1 x2 _ _ _ _ _ _ n.val (5632 + l.val) (by omega) (by omega), show val_main_cst_11 (F := Ideal) ix0 = Ideal.ofBits .f32 0x3F800000#32 from rfl, show val_main_cst_10 (F := Ideal) ix0 = Ideal.ofBits .f32 0x3F800000#32 from rfl, bits_one]
  rfl

/-- The near queries. -/
theorem final75 (j : S32768x512.Idx) : val_main_v75 (F := Ideal) x0 x1 x2 j = Proj.proj x0 x1 x2 (j 0).val (2048 + (j 1).val) := by
  obtain ⟨n, l, rfl⟩ : ∃ (n : Fin 32768) (l : Fin 512), j = ix2 n l := ⟨j 0, j 1, eq_ix2 j⟩
  pointwise [val_main_v75, val_main_v58, val_main_v57, val_main_v56, val_main_v21, val_main_v16]
  exact product x0 x1 x2 _ _ _ _ _ _ n.val (2048 + l.val) (by omega) (by omega)

/-- The near keys. -/
theorem final76 (j : S32768x512.Idx) : val_main_v76 (F := Ideal) x0 x1 x2 j = Proj.proj x0 x1 x2 (j 0).val (3584 + (j 1).val) := by
  obtain ⟨n, l, rfl⟩ : ∃ (n : Fin 32768) (l : Fin 512), j = ix2 n l := ⟨j 0, j 1, eq_ix2 j⟩
  pointwise [val_main_v76, val_main_v59, val_main_v17]
  exact product x0 x1 x2 _ _ _ _ _ _ n.val (3584 + l.val) (by omega) (by omega)

/-- The near values. -/
theorem final77 (j : S32768x512.Idx) : val_main_v77 (F := Ideal) x0 x1 x2 j = Proj.proj x0 x1 x2 (j 0).val (4096 + (j 1).val) := by
  obtain ⟨n, l, rfl⟩ : ∃ (n : Fin 32768) (l : Fin 512), j = ix2 n l := ⟨j 0, j 1, eq_ix2 j⟩
  pointwise [val_main_v77, val_main_v60, val_main_v18]
  exact product x0 x1 x2 _ _ _ _ _ _ n.val (4096 + l.val) (by omega) (by omega)

/-- The middle queries. -/
theorem final78 (j : S8192x2048.Idx) : val_main_v78 (F := Ideal) x0 x1 x2 j = Proj.view 4 2560 x0 x1 x2 (j 0).val (j 1).val := by
  obtain ⟨n, l, rfl⟩ : ∃ (n : Fin 8192) (l : Fin 2048), j = ix2 n l := ⟨j 0, j 1, eq_ix2 j⟩
  pointwise [val_main_v78, val_main_v63, val_main_v62, val_main_v61, val_main_v21, val_main_v16]
  exact product x0 x1 x2 _ _ _ _ _ _ (n.val * 4 + l.val / 512) (2560 + l.val % 512) (by omega) (by omega)

/-- The middle keys. -/
theorem final79 (j : S8192x2048.Idx) : val_main_v79 (F := Ideal) x0 x1 x2 j = Proj.view 4 3584 x0 x1 x2 (j 0).val (j 1).val := by
  obtain ⟨n, l, rfl⟩ : ∃ (n : Fin 8192) (l : Fin 2048), j = ix2 n l := ⟨j 0, j 1, eq_ix2 j⟩
  pointwise [val_main_v79, val_main_v64, val_main_v17]
  exact product x0 x1 x2 _ _ _ _ _ _ (n.val * 4 + l.val / 512) (3584 + l.val % 512) (by omega) (by omega)

/-- The middle values. -/
theorem final80 (j : S8192x2048.Idx) : val_main_v80 (F := Ideal) x0 x1 x2 j = Proj.view 4 4096 x0 x1 x2 (j 0).val (j 1).val := by
  obtain ⟨n, l, rfl⟩ : ∃ (n : Fin 8192) (l : Fin 2048), j = ix2 n l := ⟨j 0, j 1, eq_ix2 j⟩
  pointwise [val_main_v80, val_main_v65, val_main_v18]
  exact product x0 x1 x2 _ _ _ _ _ _ (n.val * 4 + l.val / 512) (4096 + l.val % 512) (by omega) (by omega)

/-- The far queries. -/
theorem final81 (j : S2048x8192.Idx) : val_main_v81 (F := Ideal) x0 x1 x2 j = Proj.view 16 3072 x0 x1 x2 (j 0).val (j 1).val := by
  obtain ⟨n, l, rfl⟩ : ∃ (n : Fin 2048) (l : Fin 8192), j = ix2 n l := ⟨j 0, j 1, eq_ix2 j⟩
  pointwise [val_main_v81, val_main_v68, val_main_v67, val_main_v66, val_main_v21, val_main_v16]
  exact product x0 x1 x2 _ _ _ _ _ _ (n.val * 16 + l.val / 512) (3072 + l.val % 512) (by omega) (by omega)

/-- The far keys. -/
theorem final82 (j : S2048x8192.Idx) : val_main_v82 (F := Ideal) x0 x1 x2 j = Proj.view 16 3584 x0 x1 x2 (j 0).val (j 1).val := by
  obtain ⟨n, l, rfl⟩ : ∃ (n : Fin 2048) (l : Fin 8192), j = ix2 n l := ⟨j 0, j 1, eq_ix2 j⟩
  pointwise [val_main_v82, val_main_v69, val_main_v17]
  exact product x0 x1 x2 _ _ _ _ _ _ (n.val * 16 + l.val / 512) (3584 + l.val % 512) (by omega) (by omega)

/-- The far values. -/
theorem final83 (j : S2048x8192.Idx) : val_main_v83 (F := Ideal) x0 x1 x2 j = Proj.view 16 4096 x0 x1 x2 (j 0).val (j 1).val := by
  obtain ⟨n, l, rfl⟩ : ∃ (n : Fin 2048) (l : Fin 8192), j = ix2 n l := ⟨j 0, j 1, eq_ix2 j⟩
  pointwise [val_main_v83, val_main_v70, val_main_v18]
  exact product x0 x1 x2 _ _ _ _ _ _ (n.val * 16 + l.val / 512) (4096 + l.val % 512) (by omega) (by omega)

end Cert.ReferenceInIdeal.Whole

end
-- ==== Proof.CIn.lean ====
/- The claims of the input projection. -/
module

public import proofs.«01_k».proof.Defs
public import proofs.«01_k».proof.Proof.KIn
public import proofs.«01_k».proof.Proof.RIn
public import proofs.«01_k».proof.Proof.Gen.KernelIn.Frame
public import proofs.«01_k».proof.Proof.Gen.KernelInIdeal.Value
public import proofs.«01_k».proof.Proof.Gen.ReferenceInIdeal.Run
public import Idealize.ShloMosaic.Adequacy

@[expose] public section

set_option maxRecDepth 16384

noncomputable section

namespace Cert.Proof.In

open Idealize.ShloMosaic Idealize.SL.Sem

/-- The kernel runs, keeps its arguments and leaves every semaphore at zero. -/
theorem frame_p : Cert.quiescent_KernelIn := fun m ρ _ => Cert.KernelIn.Gen.frame m ρ

/-- So does its idealization. -/
theorem frame_pi : Cert.quiescent_KernelInIdeal := fun m ρ _ => Cert.KernelInIdeal.Gen.frame m ρ

/-- So does the reference. -/
theorem frame_ri : Cert.quiescent_ReferenceInIdeal := fun m ρ _ =>
  (θ_run Cert.ReferenceInIdeal.defs _ _).mono (fun r h => ⟨fun c => (h c).2.2.2.2.2.2.2.2.2.2.2.2.2,
      Idealize.ShloMosaic.sem_eq_zero_of_no_sems (by decide) r.2⟩)
    (Cert.ReferenceInIdeal.Value.run (F := Ideal) m ρ)

/-- The idealization names the gelu's constant and changes nothing else. -/
theorem preserves : Cert.preserves_KernelIn_KernelInIdeal :=
  IdealRules.named_const.statement Cert.KernelInIdeal.κ "half_root" .f32 0x3F3504F3#32 (((Real.sqrt 2)⁻¹ : ℝ) : EReal) rfl

set_option maxHeartbeats 4000000 in
/-- Of equal arguments, kernel and reference end with the same thirteen results. -/
theorem algebraic : Cert.algebraic_KernelInIdeal_ReferenceInIdeal := by
  intro m ρ m' ρ' _ hagree
  refine ⟨fun c j => Proj.gelu (Proj.proj (m (c.tc.loc Cert.KernelInIdeal.main_arg0)) (m (c.tc.loc Cert.KernelInIdeal.main_arg1)) (m (c.tc.loc Cert.KernelInIdeal.main_arg2)) (j 0).val (0 + (j 1).val)),
    fun c j => Proj.gelu (Proj.proj (m (c.tc.loc Cert.KernelInIdeal.main_arg0)) (m (c.tc.loc Cert.KernelInIdeal.main_arg1)) (m (c.tc.loc Cert.KernelInIdeal.main_arg2)) (j 0).val (1024 + (j 1).val)),
    fun c j => Ideal.logistic (Proj.proj (m (c.tc.loc Cert.KernelInIdeal.main_arg0)) (m (c.tc.loc Cert.KernelInIdeal.main_arg1)) (m (c.tc.loc Cert.KernelInIdeal.main_arg2)) (j 0).val (4608 + (j 1).val)),
    fun c j => Ideal.logistic (Proj.proj (m (c.tc.loc Cert.KernelInIdeal.main_arg0)) (m (c.tc.loc Cert.KernelInIdeal.main_arg1)) (m (c.tc.loc Cert.KernelInIdeal.main_arg2)) (j 0).val (5632 + (j 1).val)),
    fun c j => Proj.proj (m (c.tc.loc Cert.KernelInIdeal.main_arg0)) (m (c.tc.loc Cert.KernelInIdeal.main_arg1)) (m (c.tc.loc Cert.KernelInIdeal.main_arg2)) (j 0).val (2048 + (j 1).val),
    fun c j => Proj.proj (m (c.tc.loc Cert.KernelInIdeal.main_arg0)) (m (c.tc.loc Cert.KernelInIdeal.main_arg1)) (m (c.tc.loc Cert.KernelInIdeal.main_arg2)) (j 0).val (3584 + (j 1).val),
    fun c j => Proj.proj (m (c.tc.loc Cert.KernelInIdeal.main_arg0)) (m (c.tc.loc Cert.KernelInIdeal.main_arg1)) (m (c.tc.loc Cert.KernelInIdeal.main_arg2)) (j 0).val (4096 + (j 1).val),
    fun c j => Proj.view 4 2560 (m (c.tc.loc Cert.KernelInIdeal.main_arg0)) (m (c.tc.loc Cert.KernelInIdeal.main_arg1)) (m (c.tc.loc Cert.KernelInIdeal.main_arg2)) (j 0).val (j 1).val,
    fun c j => Proj.view 4 3584 (m (c.tc.loc Cert.KernelInIdeal.main_arg0)) (m (c.tc.loc Cert.KernelInIdeal.main_arg1)) (m (c.tc.loc Cert.KernelInIdeal.main_arg2)) (j 0).val (j 1).val,
    fun c j => Proj.view 4 4096 (m (c.tc.loc Cert.KernelInIdeal.main_arg0)) (m (c.tc.loc Cert.KernelInIdeal.main_arg1)) (m (c.tc.loc Cert.KernelInIdeal.main_arg2)) (j 0).val (j 1).val,
    fun c j => Proj.view 16 3072 (m (c.tc.loc Cert.KernelInIdeal.main_arg0)) (m (c.tc.loc Cert.KernelInIdeal.main_arg1)) (m (c.tc.loc Cert.KernelInIdeal.main_arg2)) (j 0).val (j 1).val,
    fun c j => Proj.view 16 3584 (m (c.tc.loc Cert.KernelInIdeal.main_arg0)) (m (c.tc.loc Cert.KernelInIdeal.main_arg1)) (m (c.tc.loc Cert.KernelInIdeal.main_arg2)) (j 0).val (j 1).val,
    fun c j => Proj.view 16 4096 (m (c.tc.loc Cert.KernelInIdeal.main_arg0)) (m (c.tc.loc Cert.KernelInIdeal.main_arg1)) (m (c.tc.loc Cert.KernelInIdeal.main_arg2)) (j 0).val (j 1).val, ?_, ?_⟩
  · refine (θ_run Cert.KernelInIdeal.defs _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, ((h c).2.2.2.2.2.2.2.2.2.2.2.1).trans ?_, ((h c).2.2.2.2.2.2.2.2.2.2.2.2.1).trans ?_, (h c).2.2.2.2.2.2.2.2.2.2.2.2.2⟩)
      (Cert.KernelInIdeal.Value.run_blocks m ρ)
    · exact Cert.KernelInIdeal.Whole.final3 m c
    · exact Cert.KernelInIdeal.Whole.final4 m c
    · exact Cert.KernelInIdeal.Whole.final5 m c
    · exact Cert.KernelInIdeal.Whole.final6 m c
    · exact Cert.KernelInIdeal.Whole.final7 m c
    · exact Cert.KernelInIdeal.Whole.final8 m c
    · exact Cert.KernelInIdeal.Whole.final9 m c
    · exact Cert.KernelInIdeal.Whole.final10 m c
    · exact Cert.KernelInIdeal.Whole.final11 m c
    · exact Cert.KernelInIdeal.Whole.final12 m c
    · exact Cert.KernelInIdeal.Whole.final13 m c
    · exact Cert.KernelInIdeal.Whole.final14 m c
    · exact Cert.KernelInIdeal.Whole.final15 m c
  · refine (θ_run Cert.ReferenceInIdeal.defs _ _).mono (fun _ h c => ⟨((h c).1).trans ?_, ((h c).2.1).trans ?_, ((h c).2.2.1).trans ?_, ((h c).2.2.2.1).trans ?_, ((h c).2.2.2.2.1).trans ?_, ((h c).2.2.2.2.2.1).trans ?_, ((h c).2.2.2.2.2.2.1).trans ?_, ((h c).2.2.2.2.2.2.2.1).trans ?_, ((h c).2.2.2.2.2.2.2.2.1).trans ?_, ((h c).2.2.2.2.2.2.2.2.2.1).trans ?_, ((h c).2.2.2.2.2.2.2.2.2.2.1).trans ?_, ((h c).2.2.2.2.2.2.2.2.2.2.2.1).trans ?_, ((h c).2.2.2.2.2.2.2.2.2.2.2.2.1).trans ?_, (h c).2.2.2.2.2.2.2.2.2.2.2.2.2⟩)
      (Cert.ReferenceInIdeal.Value.run (F := Ideal) m' ρ')
    · rw [Cert.ReferenceInIdeal.Read.val_main_v71_eq, (hagree c).1, (hagree c).2.1, (hagree c).2.2]
      exact funext fun j => Cert.ReferenceInIdeal.Whole.final71 _ _ _ j
    · rw [Cert.ReferenceInIdeal.Read.val_main_v72_eq, (hagree c).1, (hagree c).2.1, (hagree c).2.2]
      exact funext fun j => Cert.ReferenceInIdeal.Whole.final72 _ _ _ j
    · rw [Cert.ReferenceInIdeal.Read.val_main_v73_eq, (hagree c).1, (hagree c).2.1, (hagree c).2.2]
      exact funext fun j => Cert.ReferenceInIdeal.Whole.final73 _ _ _ j
    · rw [Cert.ReferenceInIdeal.Read.val_main_v74_eq, (hagree c).1, (hagree c).2.1, (hagree c).2.2]
      exact funext fun j => Cert.ReferenceInIdeal.Whole.final74 _ _ _ j
    · rw [Cert.ReferenceInIdeal.Read.val_main_v75_eq, (hagree c).1, (hagree c).2.1, (hagree c).2.2]
      exact funext fun j => Cert.ReferenceInIdeal.Whole.final75 _ _ _ j
    · rw [Cert.ReferenceInIdeal.Read.val_main_v76_eq, (hagree c).1, (hagree c).2.1, (hagree c).2.2]
      exact funext fun j => Cert.ReferenceInIdeal.Whole.final76 _ _ _ j
    · rw [Cert.ReferenceInIdeal.Read.val_main_v77_eq, (hagree c).1, (hagree c).2.1, (hagree c).2.2]
      exact funext fun j => Cert.ReferenceInIdeal.Whole.final77 _ _ _ j
    · rw [Cert.ReferenceInIdeal.Read.val_main_v78_eq, (hagree c).1, (hagree c).2.1, (hagree c).2.2]
      exact funext fun j => Cert.ReferenceInIdeal.Whole.final78 _ _ _ j
    · rw [Cert.ReferenceInIdeal.Read.val_main_v79_eq, (hagree c).1, (hagree c).2.1, (hagree c).2.2]
      exact funext fun j => Cert.ReferenceInIdeal.Whole.final79 _ _ _ j
    · rw [Cert.ReferenceInIdeal.Read.val_main_v80_eq, (hagree c).1, (hagree c).2.1, (hagree c).2.2]
      exact funext fun j => Cert.ReferenceInIdeal.Whole.final80 _ _ _ j
    · rw [Cert.ReferenceInIdeal.Read.val_main_v81_eq, (hagree c).1, (hagree c).2.1, (hagree c).2.2]
      exact funext fun j => Cert.ReferenceInIdeal.Whole.final81 _ _ _ j
    · rw [Cert.ReferenceInIdeal.Read.val_main_v82_eq, (hagree c).1, (hagree c).2.1, (hagree c).2.2]
      exact funext fun j => Cert.ReferenceInIdeal.Whole.final82 _ _ _ j
    · rw [Cert.ReferenceInIdeal.Read.val_main_v83_eq, (hagree c).1, (hagree c).2.1, (hagree c).2.2]
      exact funext fun j => Cert.ReferenceInIdeal.Whole.final83 _ _ _ j

end Cert.Proof.In

end
-- ==== Proof.Gating.lean ====
/- The spatial gating, token by token: the mixing of positions inside a chunk of 128 tokens, the product with the other branch, the projection and the gate. -/
module

public import proofs.«01_k».proof.Proof.Proj

@[expose] public section

set_option maxRecDepth 16384

noncomputable section

namespace Cert.Gating

open Idealize.ShloMosaic

abbrev TM : Shape := ⟨3, ![8, 128, 128]⟩
abbrev TB : Shape := ⟨2, ![8, 128]⟩
abbrev TA : Shape := ⟨2, ![1024, 1024]⟩

/-- A group's weight from position `s` to position `t`. -/
def weight (w : FVec Ideal TM .f32) (g t s : ℕ) : EReal :=
  w (ix3 ⟨g % 8, Nat.mod_lt _ (by norm_num)⟩ ⟨t % 128, Nat.mod_lt _ (by norm_num)⟩ ⟨s % 128, Nat.mod_lt _ (by norm_num)⟩)

/-- A group's offset at position `t`. -/
def offset (b : FVec Ideal TB .f32) (g t : ℕ) : EReal :=
  b (ix2 ⟨g % 8, Nat.mod_lt _ (by norm_num)⟩ ⟨t % 128, Nat.mod_lt _ (by norm_num)⟩)

/-- The mixing at position `t` and lane `l` of group `g`, of a chunk that begins at row `o`. -/
def mix (w : ℕ → ℕ → ℕ → EReal) (b : ℕ → ℕ → EReal) (v : ℕ → ℕ → EReal) (g t o l : ℕ) : EReal :=
  ∑ s : Fin 128, w g t s.val * v (o + s.val) l + b g t

theorem mix_congr (w : ℕ → ℕ → ℕ → EReal) (b : ℕ → ℕ → EReal) (v : ℕ → ℕ → EReal) {g t o l g' t' o' l' : ℕ} (hg : g = g') (ht : t = t') (ho : o = o') (hl : l = l') :
    mix w b v g t o l = mix w b v g' t' o' l' := by
  subst hg ht ho hl
  rfl

/-- The mixing of row `n` at lane `l`: its chunk is the 128 rows around it, its group the 128 lanes. -/
def mixed (w : ℕ → ℕ → ℕ → EReal) (b : ℕ → ℕ → EReal) (v : ℕ → ℕ → EReal) (n l : ℕ) : EReal := mix w b v (l / 128) (n % 128) (n / 128 * 128) l

/-- The second branch's normalized row, lane by lane. -/
def row (v : FVec Ideal Proj.TX .f32) (g : FVec Ideal Proj.TG .f32) (n l : ℕ) : EReal :=
  Proj.rms (Proj.tok v n) (Proj.gain g) ⟨l % 1024, Nat.mod_lt _ (by norm_num)⟩

/-- The gated projection of token `n` at column `c`. -/
def out (u v a : FVec Ideal Proj.TX .f32) (g : FVec Ideal Proj.TG .f32) (w : FVec Ideal TM .f32) (b : FVec Ideal TB .f32) (wa : FVec Ideal TA .f32) (n : ℕ) (c : Fin 1024) : EReal :=
  (∑ l : Fin 1024, Proj.tok u n l * mixed (weight w) (offset b) (row v g) n l.val * wa (ix2 l c)) * Proj.tok a n c

end Cert.Gating

end
-- ==== Proof.KSgu.lean ====
/- The spatial gating as the kernel computes it. -/
module

public import proofs.«01_k».proof.Proof.Gating
public import proofs.«01_k».proof.Proof.Gen.KernelSguIdeal.Value
public import Idealize.ShloMosaic.Lib.Claim

@[expose] public section

set_option maxRecDepth 16384

noncomputable section

namespace Cert.KernelSguIdeal.Whole

open Cert.KernelSguIdeal Cert.KernelSguIdeal.Gen Idealize.ShloMosaic

/-- The mixing of one chunk's group: the group's weights times the chunk's lanes, plus the offsets. -/
def cell (vn : FVec Ideal S512x1024 .bf16) (w : Vec Ideal S1x128x128 .bf16) (b : Vec Ideal S1x128x128 .f32) (o l : ℕ) (hs : S512x1024.Slices ![o, l] S128x128) : FVec Ideal S128x128 .f32 :=
  addf (matmul dot_S128x128_S128x128_S128x128_1_0_0_1_n_n none (shapeCast S128x128 w shapeCasts_S1x128x128_S128x128 : FVec Ideal S128x128 .bf16)
    (extractStridedSlice S128x128 ![o, l] vn hs) (constant S128x128 .f32 0x00000000#32)) (shapeCast S128x128 b shapeCasts_S1x128x128_S128x128)

theorem fits (o l : ℕ) (ho : o ≤ 384) (hl : l ≤ 896) : S512x1024.Slices ![o, l] S128x128 := by
  refine ⟨rfl, fun a => ?_⟩
  fin_cases a
  · show o + 128 ≤ 512
    omega
  · show l + 128 ≤ 1024
    omega

/-- The mixing of one chunk: its eight groups side by side. -/
def strip (vn : FVec Ideal S512x1024 .bf16) (x4 : Vec Ideal S8x128x128 .bf16) (x5 : Vec Ideal S8x128x128 .f32) (o : ℕ) (ho : o ≤ 384) : FVec Ideal S128x1024 .f32 :=
  concatenate S128x1024 1 [⟨S128x128, cell vn (View.ld x4 r0_2) (View.ld x5 r0_2) o 0 (fits o 0 ho (by norm_num))⟩,
    ⟨S128x128, cell vn (View.ld x4 r0_3) (View.ld x5 r0_3) o 128 (fits o 128 ho (by norm_num))⟩,
    ⟨S128x128, cell vn (View.ld x4 r0_4) (View.ld x5 r0_4) o 256 (fits o 256 ho (by norm_num))⟩,
    ⟨S128x128, cell vn (View.ld x4 r0_5) (View.ld x5 r0_5) o 384 (fits o 384 ho (by norm_num))⟩,
    ⟨S128x128, cell vn (View.ld x4 r0_6) (View.ld x5 r0_6) o 512 (fits o 512 ho (by norm_num))⟩,
    ⟨S128x128, cell vn (View.ld x4 r0_7) (View.ld x5 r0_7) o 640 (fits o 640 ho (by norm_num))⟩,
    ⟨S128x128, cell vn (View.ld x4 r0_8) (View.ld x5 r0_8) o 768 (fits o 768 ho (by norm_num))⟩,
    ⟨S128x128, cell vn (View.ld x4 r0_9) (View.ld x5 r0_9) o 896 (fits o 896 ho (by norm_num))⟩]
    concatenates_S128x128_S128x128_S128x128_S128x128_S128x128_S128x128_S128x128_S128x128_S128x1024_d1

/-- The mixing of a block: its four chunks one below the other. -/
def strips (vn : FVec Ideal S512x1024 .bf16) (x4 : Vec Ideal S8x128x128 .bf16) (x5 : Vec Ideal S8x128x128 .f32) : FVec Ideal S512x1024 .f32 :=
  concatenate S512x1024 0 [⟨S128x1024, strip vn x4 x5 0 (by norm_num)⟩, ⟨S128x1024, strip vn x4 x5 128 (by norm_num)⟩,
    ⟨S128x1024, strip vn x4 x5 256 (by norm_num)⟩, ⟨S128x1024, strip vn x4 x5 384 (by norm_num)⟩]
    concatenates_S128x1024_S128x1024_S128x1024_S128x1024_S512x1024_d0

set_option maxHeartbeats 2000000 in
/-- What the body leaves in the output block. -/
theorem out7_eq (x0 x1 x2 : Vec Ideal S512x1024 .bf16) (x3 : Vec Ideal S1x1024 .f32) (x4 : Vec Ideal S8x128x128 .bf16) (x5 : Vec Ideal S8x128x128 .f32) (x6 : Vec Ideal S1024x1024 .bf16) :
    out0_7 (F := Ideal) x0 x1 x2 x3 x4 x5 x6 = View.canon [⟨r0_0, k0_pay1 (strips (k0_pay2 (View.ld x1 r0_0) (View.ld x3 r0_1)) x4 x5) (View.ld x0 r0_0) (View.ld x6 r0_10) (View.ld x2 r0_0)⟩] := by
  unfold_out out0_7
  unfold_payloads
  unfold strips strip cell
  rfl

/-- The second branch's normalized rows. -/
theorem norm_apply (x1 : Vec Ideal S512x1024 .bf16) (x3 : Vec Ideal S1x1024 .f32) (p : Fin 512) (e : Fin 1024) :
    k0_pay2 x1 x3 (ix2 p e) = Proj.rms (fun e => x1 (ix2 p e)) (fun e => x3 (ix2 0 e)) e := by
  pointwise [k0_pay2]
  rfl

theorem cell_apply (vn : FVec Ideal S512x1024 .bf16) (w : Vec Ideal S1x128x128 .bf16) (b : Vec Ideal S1x128x128 .f32) (o l : ℕ) (ho : o ≤ 384) (hl : l ≤ 896)
    (hs : S512x1024.Slices ![o, l] S128x128) (p q : Fin 128) :
    cell vn w b o l hs (ix2 p q) = ∑ s : Fin 128, w (ix3 0 p s) * vn (ix2 ⟨o + s.val, by omega⟩ ⟨l + q.val, by omega⟩) + b (ix3 0 p q) := by
  pointwise [cell]

/-- A block's output, from the mixing. -/
theorem last_apply (y : FVec Ideal S512x1024 .f32) (x0 x2 : Vec Ideal S512x1024 .bf16) (x6 : Vec Ideal S1024x1024 .bf16) (p : Fin 512) (c : Fin 1024) :
    k0_pay1 y x0 x6 x2 (ix2 p c) = (∑ l : Fin 1024, x0 (ix2 p l) * y (ix2 p l) * x6 (ix2 l c)) * x2 (ix2 p c) := by
  pointwise [k0_pay1]

theorem load_0 {φ : EltTy} (x : Vec Ideal S8x128x128 φ) (t s : Fin 128) : View.ld x r0_2 (ix3 0 t s) = x (ix3 0 t s) := by
  pointwise

theorem load_1 {φ : EltTy} (x : Vec Ideal S8x128x128 φ) (t s : Fin 128) : View.ld x r0_3 (ix3 0 t s) = x (ix3 1 t s) := by
  pointwise

theorem load_2 {φ : EltTy} (x : Vec Ideal S8x128x128 φ) (t s : Fin 128) : View.ld x r0_4 (ix3 0 t s) = x (ix3 2 t s) := by
  pointwise

theorem load_3 {φ : EltTy} (x : Vec Ideal S8x128x128 φ) (t s : Fin 128) : View.ld x r0_5 (ix3 0 t s) = x (ix3 3 t s) := by
  pointwise

theorem load_4 {φ : EltTy} (x : Vec Ideal S8x128x128 φ) (t s : Fin 128) : View.ld x r0_6 (ix3 0 t s) = x (ix3 4 t s) := by
  pointwise

theorem load_5 {φ : EltTy} (x : Vec Ideal S8x128x128 φ) (t s : Fin 128) : View.ld x r0_7 (ix3 0 t s) = x (ix3 5 t s) := by
  pointwise

theorem load_6 {φ : EltTy} (x : Vec Ideal S8x128x128 φ) (t s : Fin 128) : View.ld x r0_8 (ix3 0 t s) = x (ix3 6 t s) := by
  pointwise

theorem load_7 {φ : EltTy} (x : Vec Ideal S8x128x128 φ) (t s : Fin 128) : View.ld x r0_9 (ix3 0 t s) = x (ix3 7 t s) := by
  pointwise

/-- Eight groups side by side, read at a lane. -/
theorem side_apply (f0 f1 f2 f3 f4 f5 f6 f7 : FVec Ideal S128x128 .f32) (p : Fin 128) (T : ℕ → EReal)
    (h0 : ∀ q : Fin 128, f0 (ix2 p q) = T (0 + q.val))
    (h1 : ∀ q : Fin 128, f1 (ix2 p q) = T (128 + q.val))
    (h2 : ∀ q : Fin 128, f2 (ix2 p q) = T (256 + q.val))
    (h3 : ∀ q : Fin 128, f3 (ix2 p q) = T (384 + q.val))
    (h4 : ∀ q : Fin 128, f4 (ix2 p q) = T (512 + q.val))
    (h5 : ∀ q : Fin 128, f5 (ix2 p q) = T (640 + q.val))
    (h6 : ∀ q : Fin 128, f6 (ix2 p q) = T (768 + q.val))
    (h7 : ∀ q : Fin 128, f7 (ix2 p q) = T (896 + q.val)) (l : Fin 1024) :
    concatenate S128x1024 1 [⟨S128x128, f0⟩, ⟨S128x128, f1⟩, ⟨S128x128, f2⟩, ⟨S128x128, f3⟩, ⟨S128x128, f4⟩, ⟨S128x128, f5⟩, ⟨S128x128, f6⟩, ⟨S128x128, f7⟩] concatenates_S128x128_S128x128_S128x128_S128x128_S128x128_S128x128_S128x128_S128x128_S128x1024_d1 (ix2 p l) = T l.val := by
  pointwise
  split_ifs <;> first
    | exact (h0 _).trans (congrArg T (by dsimp only; omega))
    | exact (h1 _).trans (congrArg T (by dsimp only; omega))
    | exact (h2 _).trans (congrArg T (by dsimp only; omega))
    | exact (h3 _).trans (congrArg T (by dsimp only; omega))
    | exact (h4 _).trans (congrArg T (by dsimp only; omega))
    | exact (h5 _).trans (congrArg T (by dsimp only; omega))
    | exact (h6 _).trans (congrArg T (by dsimp only; omega))
    | exact (h7 _).trans (congrArg T (by dsimp only; omega))

/-- Four chunks one below the other, read at a row. -/
theorem below_apply (f0 f1 f2 f3 : FVec Ideal S128x1024 .f32) (l : Fin 1024) (T : ℕ → EReal)
    (h0 : ∀ q : Fin 128, f0 (ix2 q l) = T (0 + q.val))
    (h1 : ∀ q : Fin 128, f1 (ix2 q l) = T (128 + q.val))
    (h2 : ∀ q : Fin 128, f2 (ix2 q l) = T (256 + q.val))
    (h3 : ∀ q : Fin 128, f3 (ix2 q l) = T (384 + q.val)) (p : Fin 512) :
    concatenate S512x1024 0 [⟨S128x1024, f0⟩, ⟨S128x1024, f1⟩, ⟨S128x1024, f2⟩, ⟨S128x1024, f3⟩] concatenates_S128x1024_S128x1024_S128x1024_S128x1024_S512x1024_d0 (ix2 p l) = T p.val := by
  pointwise
  split_ifs <;> first
    | exact (h0 _).trans (congrArg T (by dsimp only; omega))
    | exact (h1 _).trans (congrArg T (by dsimp only; omega))
    | exact (h2 _).trans (congrArg T (by dsimp only; omega))
    | exact (h3 _).trans (congrArg T (by dsimp only; omega))

section Mixing

variable (vn : FVec Ideal S512x1024 .bf16)
variable (w : ℕ → ℕ → ℕ → EReal) (b : ℕ → ℕ → EReal) (v : ℕ → ℕ → EReal)
variable (hv : ∀ (p : Fin 512) (l : Fin 1024), vn (ix2 p l) = v p.val l.val)

include hv

theorem cell_eq (x4 : Vec Ideal S1x128x128 .bf16) (x5 : Vec Ideal S1x128x128 .f32) (g o l : ℕ) (h4 : ∀ t s : Fin 128, x4 (ix3 0 t s) = w g t.val s.val) (h5 : ∀ t q : Fin 128, x5 (ix3 0 t q) = b g t.val)
    (ho : o ≤ 384) (hl : l ≤ 896) (hs : S512x1024.Slices ![o, l] S128x128) (p q : Fin 128) (g' l' : ℕ) (hg : g = g') (hl' : l + q.val = l') :
    cell vn x4 x5 o l hs (ix2 p q) = Gating.mix w b v g' p.val o l' := by
  subst hg hl'
  rw [cell_apply _ _ _ o l ho hl]
  unfold Gating.mix
  exact congrArg₂ (fun a b : EReal => a + b) (Finset.sum_congr rfl fun s _ => congrArg₂ (fun a b : EReal => a * b) (h4 p s) (hv _ _)) (h5 p q)

variable (x4 : Vec Ideal S8x128x128 .bf16) (x5 : Vec Ideal S8x128x128 .f32)
variable (h4 : ∀ (g : Fin 8) (t s : Fin 128), x4 (ix3 g t s) = w g.val t.val s.val)
variable (h5 : ∀ (g : Fin 8) (t q : Fin 128), x5 (ix3 g t q) = b g.val t.val)

include h4 h5

theorem strip_eq (o : ℕ) (ho : o ≤ 384) (p : Fin 128) (l : Fin 1024) (t o' : ℕ) (ht : p.val = t) (ho' : o = o') :
    strip vn x4 x5 o ho (ix2 p l) = Gating.mix w b v (l.val / 128) t o' l.val := by
  subst ht ho'
  refine side_apply _ _ _ _ _ _ _ _ p (fun l => Gating.mix w b v (l / 128) p.val o l) ?_ ?_ ?_ ?_ ?_ ?_ ?_ ?_ l
  · exact fun q => cell_eq vn w b v hv _ _ 0 o 0 (fun t s => (load_0 x4 t s).trans (h4 0 t s)) (fun t s => (load_0 x5 t s).trans (h5 0 t s)) ho (by norm_num) _ p q _ _ (by omega) rfl
  · exact fun q => cell_eq vn w b v hv _ _ 1 o 128 (fun t s => (load_1 x4 t s).trans (h4 1 t s)) (fun t s => (load_1 x5 t s).trans (h5 1 t s)) ho (by norm_num) _ p q _ _ (by omega) rfl
  · exact fun q => cell_eq vn w b v hv _ _ 2 o 256 (fun t s => (load_2 x4 t s).trans (h4 2 t s)) (fun t s => (load_2 x5 t s).trans (h5 2 t s)) ho (by norm_num) _ p q _ _ (by omega) rfl
  · exact fun q => cell_eq vn w b v hv _ _ 3 o 384 (fun t s => (load_3 x4 t s).trans (h4 3 t s)) (fun t s => (load_3 x5 t s).trans (h5 3 t s)) ho (by norm_num) _ p q _ _ (by omega) rfl
  · exact fun q => cell_eq vn w b v hv _ _ 4 o 512 (fun t s => (load_4 x4 t s).trans (h4 4 t s)) (fun t s => (load_4 x5 t s).trans (h5 4 t s)) ho (by norm_num) _ p q _ _ (by omega) rfl
  · exact fun q => cell_eq vn w b v hv _ _ 5 o 640 (fun t s => (load_5 x4 t s).trans (h4 5 t s)) (fun t s => (load_5 x5 t s).trans (h5 5 t s)) ho (by norm_num) _ p q _ _ (by omega) rfl
  · exact fun q => cell_eq vn w b v hv _ _ 6 o 768 (fun t s => (load_6 x4 t s).trans (h4 6 t s)) (fun t s => (load_6 x5 t s).trans (h5 6 t s)) ho (by norm_num) _ p q _ _ (by omega) rfl
  · exact fun q => cell_eq vn w b v hv _ _ 7 o 896 (fun t s => (load_7 x4 t s).trans (h4 7 t s)) (fun t s => (load_7 x5 t s).trans (h5 7 t s)) ho (by norm_num) _ p q _ _ (by omega) rfl

theorem strips_eq (p : Fin 512) (l : Fin 1024) : strips vn x4 x5 (ix2 p l) = Gating.mixed w b v p.val l.val := by
  refine below_apply _ _ _ _ l (fun p => Gating.mixed w b v p l.val) ?_ ?_ ?_ ?_ p
  · exact fun q => strip_eq vn w b v hv x4 x5 h4 h5 0 (by norm_num) q l _ _ (by omega) (by omega)
  · exact fun q => strip_eq vn w b v hv x4 x5 h4 h5 128 (by norm_num) q l _ _ (by omega) (by omega)
  · exact fun q => strip_eq vn w b v hv x4 x5 h4 h5 256 (by norm_num) q l _ _ (by omega) (by omega)
  · exact fun q => strip_eq vn w b v hv x4 x5 h4 h5 384 (by norm_num) q l _ _ (by omega) (by omega)

end Mixing

section Array

variable (m : (ℓ : Loc nD τ sig) → Buf (Elt Ideal) ℓ)

/-- Where each window's block lies at a point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0] ∧ win0_6.index t = ![0, 0]
    ∧ win0_7.index t = ![t.val, 0] :=
  (by decide +kernel : ∀ t : Fin grid0.N, _)

/-- The rows of argument 1, as the region finds them. -/
theorem rows0 (c : Dev nD) (j : S32768x1024.Idx) :
    V m c main_v1 j = Proj.tok (m (c.tc.loc main_arg0)) (j 0).val (j 1) := by
  rw [eq_ix2 j]
  generalize j 0 = n
  generalize j 1 = e
  entry_read
  pointwise
  unfold Proj.tok
  have hn : n.val < 32768 := n.isLt
  congr 2
  apply Fin.ext
  exact (Nat.mod_eq_of_lt (show n.val / 8192 < 4 by omega)).symm

/-- The rows of argument 2, as the region finds them. -/
theorem rows1 (c : Dev nD) (j : S32768x1024.Idx) :
    V m c main_v3 j = Proj.tok (m (c.tc.loc main_arg1)) (j 0).val (j 1) := by
  rw [eq_ix2 j]
  generalize j 0 = n
  generalize j 1 = e
  entry_read
  pointwise
  unfold Proj.tok
  have hn : n.val < 32768 := n.isLt
  congr 2
  apply Fin.ext
  exact (Nat.mod_eq_of_lt (show n.val / 8192 < 4 by omega)).symm

/-- The rows of argument 3, as the region finds them. -/
theorem rows2 (c : Dev nD) (j : S32768x1024.Idx) :
    V m c main_v5 j = Proj.tok (m (c.tc.loc main_arg2)) (j 0).val (j 1) := by
  rw [eq_ix2 j]
  generalize j 0 = n
  generalize j 1 = e
  entry_read
  pointwise
  unfold Proj.tok
  have hn : n.val < 32768 := n.isLt
  congr 2
  apply Fin.ext
  exact (Nat.mod_eq_of_lt (show n.val / 8192 < 4 by omega)).symm

/-- The gains, as the region finds them. -/
theorem g_row (c : Dev nD) (j : S1x1024.Idx) : V m c main_v8 j = Proj.gain (m (c.tc.loc main_arg3)) (j 1) := by
  rw [eq_ix2 j]
  generalize j 0 = n
  generalize j 1 = e
  entry_read
  pointwise
  rfl

/-- The mixing weights, as the region finds them. -/
theorem w_all (c : Dev nD) (j : S8x128x128.Idx) : V m c main_v9 j = Gating.weight (m (c.tc.loc main_arg4)) (j 0).val (j 1).val (j 2).val := by
  rw [eq_ix3 j]
  generalize j 0 = g
  generalize j 1 = t
  generalize j 2 = s
  entry_read
  pointwise
  unfold Gating.weight
  congr 2
  · exact Fin.ext (Nat.mod_eq_of_lt g.isLt).symm
  · exact Fin.ext (Nat.mod_eq_of_lt t.isLt).symm
  · exact Fin.ext (Nat.mod_eq_of_lt s.isLt).symm

/-- The offsets, as the region finds them. -/
theorem b_all (c : Dev nD) (j : S8x128x128.Idx) : V m c main_v7 j = Gating.offset (m (c.tc.loc main_arg5)) (j 0).val (j 1).val := by
  rw [eq_ix3 j]
  generalize j 0 = g
  generalize j 1 = t
  generalize j 2 = s
  entry_read
  pointwise
  unfold Gating.offset
  congr 2
  · exact Fin.ext (Nat.mod_eq_of_lt g.isLt).symm
  · exact Fin.ext (Nat.mod_eq_of_lt t.isLt).symm

/-- The projection's weights, as the region finds them. -/
theorem a_all (c : Dev nD) (j : S1024x1024.Idx) : V m c main_v10 j = (m (c.tc.loc main_arg6) : FVec Ideal S1024x1024 .f32) j := by
  rw [eq_ix2 j]
  generalize j 0 = e
  generalize j 1 = l
  entry_read
  pointwise

/-- Window 0's block at a point, read at an index. -/
theorem read0 (c : Dev nD) (t : Fin cfg0.N) (y : S512x1024.Idx) : iblk m c 0 t y = Proj.tok (m (c.tc.loc main_arg0)) (t.val * 512 + (y 0).val) (y 1) := by
  unfold iblk
  rw [View.read_apply]
  refine (cast_eq _ _).trans ?_
  refine (rows0 m c _).trans ?_
  blk_simp [idx t]
  exact congrArg _ (Fin.ext (by blk_simp [idx t]))

/-- Window 1's block at a point, read at an index. -/
theorem read1 (c : Dev nD) (t : Fin cfg0.N) (y : S512x1024.Idx) : iblk m c 1 t y = Proj.tok (m (c.tc.loc main_arg1)) (t.val * 512 + (y 0).val) (y 1) := by
  unfold iblk
  rw [View.read_apply]
  refine (cast_eq _ _).trans ?_
  refine (rows1 m c _).trans ?_
  blk_simp [idx t]
  exact congrArg _ (Fin.ext (by blk_simp [idx t]))

/-- Window 2's block at a point, read at an index. -/
theorem read2 (c : Dev nD) (t : Fin cfg0.N) (y : S512x1024.Idx) : iblk m c 2 t y = Proj.tok (m (c.tc.loc main_arg2)) (t.val * 512 + (y 0).val) (y 1) := by
  unfold iblk
  rw [View.read_apply]
  refine (cast_eq _ _).trans ?_
  refine (rows2 m c _).trans ?_
  blk_simp [idx t]
  exact congrArg _ (Fin.ext (by blk_simp [idx t]))

/-- Window 3's block at a point, read at an index. -/
theorem read3 (c : Dev nD) (t : Fin cfg0.N) (y : S1x1024.Idx) : iblk m c 3 t y = Proj.gain (m (c.tc.loc main_arg3)) (y 1) := by
  unfold iblk
  rw [View.read_apply]
  refine (cast_eq _ _).trans ?_
  refine (g_row m c _).trans ?_
  blk_simp [idx t]
  exact congrArg _ (Fin.ext (by blk_simp [idx t]))

/-- Window 4's block at a point, read at an index. -/
theorem read4 (c : Dev nD) (t : Fin cfg0.N) (y : S8x128x128.Idx) : iblk m c 4 t y = Gating.weight (m (c.tc.loc main_arg4)) (y 0).val (y 1).val (y 2).val := by
  unfold iblk
  rw [View.read_apply]
  refine (cast_eq _ _).trans ?_
  refine (w_all m c _).trans ?_
  blk_simp [idx t]

/-- Window 5's block at a point, read at an index. -/
theorem read5 (c : Dev nD) (t : Fin cfg0.N) (y : S8x128x128.Idx) : iblk m c 5 t y = Gating.offset (m (c.tc.loc main_arg5)) (y 0).val (y 1).val := by
  unfold iblk
  rw [View.read_apply]
  refine (cast_eq _ _).trans ?_
  refine (b_all m c _).trans ?_
  blk_simp [idx t]

/-- Window 6's block at a point, read at an index. -/
theorem read6 (c : Dev nD) (t : Fin cfg0.N) (y : S1024x1024.Idx) : iblk m c 6 t y = (m (c.tc.loc main_arg6) : FVec Ideal S1024x1024 .f32) y := by
  unfold iblk
  rw [View.read_apply]
  refine (cast_eq _ _).trans ?_
  refine (a_all m c _).trans ?_
  refine congrArg _ ?_
  funext a
  apply Fin.ext
  fin_cases a <;> blk_simp [idx t]

/-- The output array's value at a row and a column. -/
def result (c : Dev nD) (n : ℕ) (k : Fin 1024) : EReal :=
  Gating.out (m (c.tc.loc main_arg0)) (m (c.tc.loc main_arg1)) (m (c.tc.loc main_arg2)) (m (c.tc.loc main_arg3)) (m (c.tc.loc main_arg4)) (m (c.tc.loc main_arg5)) (m (c.tc.loc main_arg6)) n k

/-- A block's mixing is the array's, at the block's rows. -/
theorem mixed_shift (w : ℕ → ℕ → ℕ → EReal) (b : ℕ → ℕ → EReal) (v : ℕ → ℕ → EReal) (t p l : ℕ) :
    Gating.mixed w b (fun n => v (t * 512 + n)) p l = Gating.mixed w b v (t * 512 + p) l := by
  unfold Gating.mixed Gating.mix
  refine congrArg₂ (fun a b : EReal => a + b) (Finset.sum_congr rfl fun s _ => congrArg₂ (fun a b : EReal => a * b) ?_ ?_) ?_
  · exact congrArg (fun t => w (l / 128) t s.val) (by omega)
  · exact congrArg (fun n => v n l) (by omega)
  · exact congrArg (fun t => b (l / 128) t) (by omega)

/-- The block a point leaves. -/
theorem left7 (c : Dev nD) (t : Fin cfg0.N) (y : S512x1024.Idx) :
    out0_7 (F := Ideal) (iblk m c 0 t) (iblk m c 1 t) (iblk m c 2 t) (iblk m c 3 t) (iblk m c 4 t) (iblk m c 5 t) (iblk m c 6 t) y = result m c (t.val * 512 + (y 0).val) (y 1) := by
  rw [out7_eq, View.canon_unit_zero (by funext a; fin_cases a <;> rfl) _ _, View.ld_unit_zero (by funext a; fin_cases a <;> rfl) _ _, View.ld_unit_zero (by funext a; fin_cases a <;> rfl) _ _,
    View.ld_unit_zero (by funext a; fin_cases a <;> rfl) _ _, View.ld_unit_zero (by funext a; fin_cases a <;> rfl) _ _, View.ld_unit_zero (by funext a; fin_cases a <;> rfl) _ _]
  obtain ⟨p, k, rfl⟩ : ∃ (p : Fin 512) (k : Fin 1024), y = ix2 p k := ⟨y 0, y 1, eq_ix2 y⟩
  rw [last_apply]
  unfold result Gating.out
  refine congrArg₂ (fun a b : EReal => a * b) (Finset.sum_congr rfl fun l _ => congrArg₂ (fun a b : EReal => a * b) (congrArg₂ (fun a b : EReal => a * b) (read0 m c t _) ?_) (read6 m c t _)) (read2 m c t _)
  refine (strips_eq _ (Gating.weight (m (c.tc.loc main_arg4))) (Gating.offset (m (c.tc.loc main_arg5)))
    (fun n => Gating.row (m (c.tc.loc main_arg1)) (m (c.tc.loc main_arg3)) (t.val * 512 + n)) ?_ _ _ ?_ ?_ p l).trans (mixed_shift _ _ _ _ _ _)
  · intro p l
    rw [norm_apply]
    unfold Gating.row
    have h1 : (fun e => iblk m c 1 t (ix2 p e)) = Proj.tok (m (c.tc.loc main_arg1)) (t.val * 512 + p.val) := funext fun e => read1 m c t (ix2 p e)
    have h3 : (fun e => iblk m c 3 t (ix2 0 e)) = Proj.gain (m (c.tc.loc main_arg3)) := funext fun e => read3 m c t (ix2 0 e)
    exact (congrArg₂ (fun x g => Proj.rms x g l) h1 h3).trans (congrArg _ (Fin.ext (Nat.mod_eq_of_lt l.isLt).symm))
  · exact fun g a b => read4 m c t (ix3 g a b)
  · exact fun g a b => read5 m c t (ix3 g a b)

/-- So says the array's own account of the point. -/
theorem leaves7 (c : Dev nD) (t : Fin cfg0.N) : (dats m 0 c).after 7 t = fun y : S512x1024.Idx => result m c (t.val * 512 + (y 0).val) (y 1) :=
  (after0_7 m c t).trans (funext fun y => left7 m c t y)

/-- The output in full. -/
theorem final7 (c : Dev nD) : (dats m 0 c).arrAt 7 cfg0.N = fun j : S32768x1024.Idx => result m c (j 0).val (j 1) := by
  refine (dats m 0 c).arrAt_eq_of_covers 7 _ (by decide +kernel) fun t hf y => ?_
  rw [leaves7]
  exact congrArg₂ (result m c) (by blk_simp [idx t]) (Fin.ext (by blk_simp [idx t]))

end Array

end Cert.KernelSguIdeal.Whole

end
-- ==== Proof.RSgu.lean ====
/- The spatial gating as the reference computes it. -/
module

public import proofs.«01_k».proof.Proof.Gating
public import proofs.«01_k».proof.Proof.Gen.ReferenceSguIdeal.Read
public import Idealize.ShloMosaic.Lib.Pointwise

@[expose] public section

set_option maxRecDepth 16384

noncomputable section

namespace Cert.ReferenceSguIdeal.Whole

open Cert.ReferenceSguIdeal Cert.ReferenceSguIdeal.Gen Cert.ReferenceSguIdeal.Read Idealize.ShloMosaic

variable (x0 x1 x2 : FVec Ideal Proj.TX .f32) (x3 : FVec Ideal Proj.TG .f32) (x4 : FVec Ideal Gating.TM .f32) (x5 : FVec Ideal Gating.TB .f32) (x6 : FVec Ideal Gating.TA .f32)

theorem at_tok (x : FVec Ideal Proj.TX .f32) (b s : ℕ) (hb : b < 4) (hs : s < 8192) (e : Fin 1024) (n : ℕ) (hn : 8192 * b + s = n) :
    x (ix3 ⟨b, hb⟩ ⟨s, hs⟩ e) = Proj.tok x n e := by
  unfold Proj.tok
  subst hn
  congr 2
  · apply Fin.ext
    show b = (8192 * b + s) / 8192 % 4
    omega
  · apply Fin.ext
    show s = (8192 * b + s) % 8192
    omega

theorem bits_zero : Ideal.ofBits .f32 0x00000000#32 = 0 := by
  simp [Ideal.ofBits, Ideal.ieee]

/-- The sum of a row's squares. -/
theorem squares (b : Fin 4) (s : Fin 8192) :
    val_main_v1 (F := Ideal) x1 (ix2 b s) = ∑ i, Proj.tok x1 (8192 * b.val + s.val) i * Proj.tok x1 (8192 * b.val + s.val) i := by
  pointwise [val_main_v1, val_main_v0]
  rw [show val_main_cst (F := Ideal) (Shape.Idx.first h_S_) = Ideal.ofBits .f32 0x00000000#32 from rfl, bits_zero, zero_add]
  exact Finset.sum_congr rfl fun e _ => by rw [at_tok x1 b.val s.val b.isLt s.isLt e _ rfl]

/-- The normalized rows. -/
theorem norm (b : Fin 4) (s : Fin 8192) (e : Fin 1024) :
    val_main_v12 (F := Ideal) x1 x3 (ix3 b s e) = Proj.rms (Proj.tok x1 (8192 * b.val + s.val)) (Proj.gain x3) e := by
  pointwise [val_main_v12, val_main_v11, val_main_v10, val_main_v9, val_main_v8, val_main_v7, val_main_v6, val_main_v5, val_main_v4, val_main_v3, val_main_v2]
  rw [squares]
  rw [show val_main_cst_0 (F := Ideal) ix0 = Ideal.ofBits .f32 0x44800000#32 from rfl, show val_main_cst_1 (F := Ideal) ix0 = Ideal.ofBits .f32 0x358637BD#32 from rfl,
    at_tok x1 b.val s.val b.isLt s.isLt e _ rfl]
  rfl

/-- The normalized rows, in chunks and groups. -/
theorem chunked (b : Fin 4) (n : Fin 64) (s : Fin 128) (g : Fin 8) (q : Fin 128) :
    val_main_v13 (F := Ideal) x1 x3 (ix5 b n s g q) = Gating.row x1 x3 (8192 * b.val + 128 * n.val + s.val) (128 * g.val + q.val) := by
  pointwise [val_main_v13]
  rw [norm]
  unfold Gating.row
  exact congrArg₂ (fun n e => Proj.rms (Proj.tok x1 n) (Proj.gain x3) e) (by dsimp only; omega) (Fin.ext (by dsimp only; omega))

/-- The mixing, in chunks and groups. -/
theorem mixing (b : Fin 4) (n : Fin 64) (t : Fin 128) (g : Fin 8) (q : Fin 128) :
    val_main_v19 (F := Ideal) x1 x3 x4 x5 (ix5 b n t g q) = Gating.mix (Gating.weight x4) (Gating.offset x5) (Gating.row x1 x3) g.val t.val (8192 * b.val + 128 * n.val) (128 * g.val + q.val) := by
  pointwise [val_main_v19, val_main_v18, val_main_v17, val_main_v16, val_main_v15, val_main_v14]
  unfold Gating.mix Gating.weight Gating.offset
  refine congrArg₂ (fun a b : EReal => a + b) (Finset.sum_congr rfl fun s _ => ?_) ?_
  · rw [chunked, mul_comm]
    refine congrArg₂ (fun a b : EReal => a * b) ?_ rfl
    congr 2
    · exact Fin.ext (Nat.mod_eq_of_lt g.isLt).symm
    · exact Fin.ext (Nat.mod_eq_of_lt t.isLt).symm
    · exact Fin.ext (Nat.mod_eq_of_lt s.isLt).symm
  · congr 2
    · exact Fin.ext (Nat.mod_eq_of_lt g.isLt).symm
    · exact Fin.ext (Nat.mod_eq_of_lt t.isLt).symm

/-- The mixing, in rows. -/
theorem rows (b : Fin 4) (s : Fin 8192) (l : Fin 1024) (n : ℕ) (hn : 8192 * b.val + s.val = n) :
    val_main_v20 (F := Ideal) x1 x3 x4 x5 (ix3 b s l) = Gating.mixed (Gating.weight x4) (Gating.offset x5) (Gating.row x1 x3) n l.val := by
  subst hn
  pointwise [val_main_v20]
  rw [mixing]
  exact Gating.mix_congr _ _ _ rfl (by dsimp only; omega) (by dsimp only; omega) (by dsimp only; omega)

/-- The result. -/
theorem final (j : S32768x1024.Idx) : val_main_v25 (F := Ideal) x0 x1 x2 x3 x4 x5 x6 j = Gating.out x0 x1 x2 x3 x4 x5 x6 (j 0).val (j 1) := by
  obtain ⟨n, k, rfl⟩ : ∃ (n : Fin 32768) (k : Fin 1024), j = ix2 n k := ⟨j 0, j 1, eq_ix2 j⟩
  pointwise [val_main_v25, val_main_v24, val_main_v23, val_main_v22, val_main_v21]
  unfold Gating.out
  rw [mul_comm, at_tok x2 _ _ _ _ _ n.val (by omega)]
  refine congrArg₂ (fun a b : EReal => a * b) (Finset.sum_congr rfl fun l _ => ?_) rfl
  rw [rows _ _ _ _ _ _ _ n.val (by dsimp only; omega), at_tok x0 _ _ _ _ _ n.val (by omega)]

end Cert.ReferenceSguIdeal.Whole

end
-- ==== Proof.CSgu.lean ====
/- The claims of the spatial gating. -/
module

public import proofs.«01_k».proof.Defs
public import proofs.«01_k».proof.Proof.KSgu
public import proofs.«01_k».proof.Proof.RSgu
public import proofs.«01_k».proof.Proof.Gen.KernelSgu.Frame
public import proofs.«01_k».proof.Proof.Gen.KernelSguIdeal.Value
public import proofs.«01_k».proof.Proof.Gen.ReferenceSguIdeal.Run
public import Idealize.ShloMosaic.Adequacy

@[expose] public section

set_option maxRecDepth 16384

noncomputable section

namespace Cert.Proof.Sgu

open Idealize.ShloMosaic Idealize.SL.Sem

/-- The kernel runs, keeps its arguments and leaves every semaphore at zero. -/
theorem frame_p : Cert.quiescent_KernelSgu := fun m ρ _ => Cert.KernelSgu.Gen.frame m ρ

/-- So does its idealization. -/
theorem frame_pi : Cert.quiescent_KernelSguIdeal := fun m ρ _ => Cert.KernelSguIdeal.Gen.frame m ρ

/-- So does the reference. -/
theorem frame_ri : Cert.quiescent_ReferenceSguIdeal := fun m ρ _ =>
  (θ_run Cert.ReferenceSguIdeal.defs _ _).mono (fun r h => ⟨fun c => (h c).2,
      Idealize.ShloMosaic.sem_eq_zero_of_no_sems (by decide) r.2⟩)
    (Cert.ReferenceSguIdeal.Value.run (F := Ideal) m ρ)

/-- The idealization changes nothing. -/
theorem preserves : Cert.preserves_KernelSgu_KernelSguIdeal := trivial

set_option maxHeartbeats 4000000 in
/-- Of equal arguments, kernel and reference end with the same result. -/
theorem algebraic : Cert.algebraic_KernelSguIdeal_ReferenceSguIdeal := by
  intro m ρ m' ρ' _ hagree
  refine ⟨fun c j => Cert.KernelSguIdeal.Whole.result m c (j 0).val (j 1), ?_, ?_⟩
  · refine (θ_run Cert.KernelSguIdeal.defs _ _).mono (fun _ h c => ⟨((h c).1).trans ?_, (h c).2⟩)
      (Cert.KernelSguIdeal.Value.run_blocks m ρ)
    exact Cert.KernelSguIdeal.Whole.final7 m c
  · refine (θ_run Cert.ReferenceSguIdeal.defs _ _).mono (fun _ h c => ⟨((h c).1).trans ?_, (h c).2⟩)
      (Cert.ReferenceSguIdeal.Value.run (F := Ideal) m' ρ')
    rw [Cert.ReferenceSguIdeal.Read.val_main_v25_eq, (hagree c).1, (hagree c).2.1, (hagree c).2.2.1, (hagree c).2.2.2.1, (hagree c).2.2.2.2.1, (hagree c).2.2.2.2.2.1, (hagree c).2.2.2.2.2.2]
    exact funext fun j => Cert.ReferenceSguIdeal.Whole.final _ _ _ _ _ _ _ j

end Cert.Proof.Sgu

end
-- ==== Proof.Mix.lean ====
/- The merge's blocks: views by residue classes put back in order, and rows split in eight. -/
module

public import proofs.«01_k».proof.Proof.Proj
public import Idealize.ShloMosaic.Lib.WholeRead

@[expose] public section

set_option maxRecDepth 16384

noncomputable section

namespace Cert.Mix

open Idealize.ShloMosaic Cert.Proj

/-- A table at a row and a lane. -/
def at2 {M W : ℕ} [NeZero M] [NeZero W] (B : (⟨2, ![M, W]⟩ : Shape).Idx → EReal) (r l : ℕ) : EReal :=
  B (ix2 (Fin.ofNat M r) (Fin.ofNat W l))

theorem at2_eq {M W : ℕ} [NeZero M] [NeZero W] (B : (⟨2, ![M, W]⟩ : Shape).Idx → EReal) (r : Fin M) (l : Fin W) :
    B (ix2 r l) = at2 B r.val l.val := by
  unfold at2
  congr 2
  · exact Fin.ext (Nat.mod_eq_of_lt r.isLt).symm
  · exact Fin.ext (Nat.mod_eq_of_lt l.isLt).symm

/-- A view by `d` residue classes, as the scratch holds it in order: 128 lanes of 512 rows in each of four planes. -/
def ordered (d : ℕ) {M W : ℕ} [NeZero M] [NeZero W] (B : (⟨2, ![M, W]⟩ : Shape).Idx → EReal) (i : TS.Idx) : EReal :=
  at2 B ((i 1).val / d) (512 * ((i 1).val % d) + (128 * (i 0).val + (i 2).val))

/-- Rows of 1024 lanes as eight rows of 128 each. -/
def split (X : (⟨2, ![512, 1024]⟩ : Shape).Idx → EReal) (y : (⟨2, ![4096, 128]⟩ : Shape).Idx) : EReal :=
  at2 X ((y 0).val / 8) (128 * ((y 0).val % 8) + (y 1).val)

/-- Every eighth row is one slice of the rows. -/
theorem split_piece (s o : ℕ) (hs : s < 8) (ho : o = 128 * s) (X : FVec Ideal ⟨2, ![512, 1024]⟩ .f32) (sl : (⟨2, ![512, 1024]⟩ : Shape).Slices ![0, o] TP)
    (inb) (pos) (x : TP.Idx) :
    extractStridedSlice TP ![0, o] X sl x
      = split X ((⟨(⟨![s, 0], TP.size, ![8, 1], inb⟩ : LoadRect ⟨2, ![4096, 128]⟩), pos⟩ : Rect ⟨2, ![4096, 128]⟩).emb x) := by
  subst ho
  obtain ⟨p, l, rfl⟩ : ∃ (p : Fin 512) (l : Fin 128), x = ix2 p l := ⟨x 0, x 1, eq_ix2 x⟩
  have hl : l.val < 128 := l.isLt
  pointwise
  refine (at2_eq X p ⟨128 * s + l.val, by omega⟩).trans ?_
  show at2 X p.val (128 * s + l.val) = at2 X ((s + 8 * p.val) / 8) (128 * ((s + 8 * p.val) % 8) + (0 + 1 * l.val))
  congr 1
  · omega
  · omega

/-- A tile of a view, as it is put in the scratch: one class, 128 lanes. -/
theorem lane_piece (d M W j r o : ℕ) [NeZero M] [NeZero W] (hj : j < 4) (hr : r < d) (ho : o = 512 * r + 128 * j) (hn : M * d = 512) (hW : W = 512 * d)
    (B : (⟨2, ![M, W]⟩ : Shape).Idx → EReal) (f : (⟨3, ![1, M, 128]⟩ : Shape).Idx → EReal)
    (ib : ∀ a, (![0, o] : Fin 2 → ℕ) a + (⟨2, ![M, 128]⟩ : Shape).size a ≤ (⟨2, ![M, W]⟩ : Shape).size a)
    (hf : ∀ (a : Fin M) (b : Fin 128), f (ix3 0 a b) = B ((Rect.unit (s := ⟨2, ![M, W]⟩) ![0, o] (⟨2, ![M, 128]⟩ : Shape).size ib).toLoadRect.idx (ix2 a b)))
    (inb) (pos) (x : (⟨3, ![1, M, 128]⟩ : Shape).Idx) :
    f x = ordered d B ((⟨(⟨![j, r, 0], (⟨3, ![1, M, 128]⟩ : Shape).size, ![1, d, 1], inb⟩ : LoadRect TS), pos⟩ : Rect TS).emb x) := by
  subst ho
  obtain ⟨z, a, b, rfl⟩ : ∃ (z : Fin 1) (a : Fin M) (b : Fin 128), x = ix3 z a b := ⟨x 0, x 1, x 2, eq_ix3 x⟩
  obtain rfl : z = 0 := Subsingleton.elim _ _
  refine (hf a b).trans ?_
  refine ((congrArg B (eq_ix2 _)).trans (at2_eq B _ _)).trans ?_
  show at2 B (0 + 1 * a.val) (512 * r + 128 * j + 1 * b.val)
    = at2 B ((r + d * a.val) / d) (512 * ((r + d * a.val) % d) + (128 * (j + 1 * 0) + (0 + 1 * b.val)))
  rw [Nat.add_mul_mod_self_left, Nat.mod_eq_of_lt hr, Nat.add_mul_div_left _ _ (Nat.zero_lt_of_lt hr), Nat.div_eq_of_lt hr]
  congr 1
  · omega
  · omega

theorem recast {φ : FTy} (n : ℕ) (hc : (⟨2, ![n, 128]⟩ : Shape).ShapeCasts ⟨2, ![n, 128]⟩) (f : FVec Ideal ⟨2, ![n, 128]⟩ φ) (i) :
    shapeCast ⟨2, ![n, 128]⟩ f hc i = f i := congrFun (shapeCast_self _ _) i

theorem widened {s : Shape} (f : FVec Ideal s .bf16) (hb : FTy.bits .bf16 < FTy.bits .f32) (x : s.Idx) :
    (extf .f32 f hb : FVec Ideal s .f32) x = f x := rfl

theorem raise128 (hc : (⟨2, ![128, 128]⟩ : Shape).ShapeCasts ⟨3, ![1, 128, 128]⟩) (f : FVec Ideal ⟨2, ![128, 128]⟩ .f32) (a b : Fin 128) :
    shapeCast ⟨3, ![1, 128, 128]⟩ f hc (ix3 0 a b) = f (ix2 a b) := by pointwise

theorem raise32 (hc : (⟨2, ![32, 128]⟩ : Shape).ShapeCasts ⟨3, ![1, 32, 128]⟩) (f : FVec Ideal ⟨2, ![32, 128]⟩ .f32) (a : Fin 32) (b : Fin 128) :
    shapeCast ⟨3, ![1, 32, 128]⟩ f hc (ix3 0 a b) = f (ix2 a b) := by pointwise

/-- The same of a tile of logarithms, read from its block. -/
theorem log_piece {sig : RefSig} {κ : Kind} {sp : Space} (d M W j r o : ℕ) [NeZero M] [NeZero W] (hj : j < 4) (hr : r < d) (ho : o = 512 * r + 128 * j) (hn : M * d = 512) (hW : W = 512 * d)
    (B : (⟨2, ![M, W]⟩ : Shape).Idx → EReal) (mr : Memref sig κ sp ⟨2, ![M, W]⟩ .f32) (hw : mr.IsWhole)
    (ib : ∀ a, (![0, o] : Fin 2 → ℕ) a + (⟨2, ![M, 128]⟩ : Shape).size a ≤ (⟨2, ![M, W]⟩ : Shape).size a)
    (h1 : (⟨2, ![M, 128]⟩ : Shape).ShapeCasts ⟨2, ![M, 128]⟩) (h2 : (⟨2, ![M, 128]⟩ : Shape).ShapeCasts ⟨3, ![1, M, 128]⟩)
    (up : ∀ (f : FVec Ideal ⟨2, ![M, 128]⟩ .f32) (a : Fin M) (b : Fin 128), shapeCast ⟨3, ![1, M, 128]⟩ f h2 (ix3 0 a b) = f (ix2 a b))
    (inb) (pos) (x : (⟨3, ![1, M, 128]⟩ : Shape).Idx) :
    shapeCast ⟨3, ![1, M, 128]⟩ (shapeCast ⟨2, ![M, 128]⟩ (View.readAt (Elt Ideal) mr.view (Rect.unit (s := ⟨2, ![M, W]⟩) ![0, o] (⟨2, ![M, 128]⟩ : Shape).size ib).toLoadRect (hw.unread B) : FVec Ideal ⟨2, ![M, 128]⟩ .f32) h1) h2 x
      = ordered d B ((⟨(⟨![j, r, 0], (⟨3, ![1, M, 128]⟩ : Shape).size, ![1, d, 1], inb⟩ : LoadRect TS), pos⟩ : Rect TS).emb x) :=
  lane_piece d M W j r o hj hr ho hn hW B _ ib (fun a b => (up _ a b).trans ((recast M h1 _ _).trans (hw.readAt_unread (Val := Elt Ideal) B _ _))) inb pos x

/-- The same of a tile of values, read from its block and widened. -/
theorem val_piece {sig : RefSig} {κ : Kind} {sp : Space} (d M W j r o : ℕ) [NeZero M] [NeZero W] (hj : j < 4) (hr : r < d) (ho : o = 512 * r + 128 * j) (hn : M * d = 512) (hW : W = 512 * d)
    (B : (⟨2, ![M, W]⟩ : Shape).Idx → EReal) (mr : Memref sig κ sp ⟨2, ![M, W]⟩ .bf16) (hw : mr.IsWhole)
    (ib : ∀ a, (![0, o] : Fin 2 → ℕ) a + (⟨2, ![M, 128]⟩ : Shape).size a ≤ (⟨2, ![M, W]⟩ : Shape).size a)
    (h1 : (⟨2, ![M, 128]⟩ : Shape).ShapeCasts ⟨2, ![M, 128]⟩) (h2 : (⟨2, ![M, 128]⟩ : Shape).ShapeCasts ⟨3, ![1, M, 128]⟩) (hb : FTy.bits .bf16 < FTy.bits .f32)
    (up : ∀ (f : FVec Ideal ⟨2, ![M, 128]⟩ .f32) (a : Fin M) (b : Fin 128), shapeCast ⟨3, ![1, M, 128]⟩ f h2 (ix3 0 a b) = f (ix2 a b))
    (inb) (pos) (x : (⟨3, ![1, M, 128]⟩ : Shape).Idx) :
    shapeCast ⟨3, ![1, M, 128]⟩ (extf .f32 (shapeCast ⟨2, ![M, 128]⟩ (View.readAt (Elt Ideal) mr.view (Rect.unit (s := ⟨2, ![M, W]⟩) ![0, o] (⟨2, ![M, 128]⟩ : Shape).size ib).toLoadRect (hw.unread B) : FVec Ideal ⟨2, ![M, 128]⟩ .bf16) h1) hb : FVec Ideal ⟨2, ![M, 128]⟩ .f32) h2 x
      = ordered d B ((⟨(⟨![j, r, 0], (⟨3, ![1, M, 128]⟩ : Shape).size, ![1, d, 1], inb⟩ : LoadRect TS), pos⟩ : Rect TS).emb x) :=
  lane_piece d M W j r o hj hr ho hn hW B _ ib (fun a b => (up _ a b).trans ((widened _ hb _).trans ((recast M h1 _ _).trans (hw.readAt_unread (Val := Elt Ideal) B _ _)))) inb pos x

/-- Where a tile lies in the scratch. -/
def place (p : View.Piece (Elt Ideal) TS .f32) : List ℕ :=
  [p.1.off 0, p.1.off 1, p.1.off 2, p.1.size 0, p.1.size 1, p.1.size 2, p.1.stride 0, p.1.stride 1, p.1.stride 2]

/-- The tiles of a view by `d` residue classes, last first. -/
def tiles (d M : ℕ) : List (List ℕ) := (List.range d).reverse.flatMap fun r => (List.range 4).reverse.map fun j => [j, r, 0, 1, M, 128, 1, d, 1]

/-- They fill the scratch. -/
theorem filled (d M : ℕ) (hd : 0 < d) (hn : M * d = 512) (L : List (View.Piece (Elt Ideal) TS .f32)) (h : (L.map place == tiles d M) = true) (y : TS.Idx) :
    ∃ pc ∈ L, y ∈ pc.1.set := by
  have h0 : (y 0).val < 4 := (y 0).isLt
  have h1 : (y 1).val < 512 := (y 1).isLt
  have h2 : (y 2).val < 128 := (y 2).isLt
  have hm : [(y 0).val, (y 1).val % d, 0, 1, M, 128, 1, d, 1] ∈ L.map place := by
    rw [eq_of_beq h]
    exact List.mem_flatMap.mpr ⟨(y 1).val % d, List.mem_reverse.mpr (List.mem_range.mpr (Nat.mod_lt _ hd)),
      List.mem_map.mpr ⟨(y 0).val, List.mem_reverse.mpr (List.mem_range.mpr h0), rfl⟩⟩
  obtain ⟨p, hp, e⟩ := List.mem_map.mp hm
  simp only [place, List.cons.injEq, and_true] at e
  obtain ⟨o0, o1, o2, z0, z1, z2, t0, t1, t2⟩ := e
  refine ⟨p, hp, (LoadRect.mem_set _).mpr fun a => ?_⟩
  match a with
  | ⟨0, _⟩ => exact ⟨0, by rw [show p.1.size ⟨0, _⟩ = 1 from z0]; norm_num, by
      rw [show p.1.off ⟨0, _⟩ = (y 0).val from o0, Nat.mul_zero]; rfl⟩
  | ⟨1, _⟩ => exact ⟨(y 1).val / d, by rw [show p.1.size ⟨1, _⟩ = M from z1]; exact Nat.div_lt_of_lt_mul (by rw [Nat.mul_comm, hn]; exact h1), by
      rw [show p.1.off ⟨1, _⟩ = (y 1).val % d from o1, show p.1.stride ⟨1, _⟩ = d from t1]; exact (Nat.mod_add_div _ d).symm⟩
  | ⟨2, _⟩ => exact ⟨(y 2).val, by rw [show p.1.size ⟨2, _⟩ = 128 from z2]; exact h2, by
      rw [show p.1.off ⟨2, _⟩ = 0 from o2, show p.1.stride ⟨2, _⟩ = 1 from t2, Nat.zero_add, Nat.one_mul]; rfl⟩

/-- Four planes side by side. -/
theorem side4 (f0 f1 f2 f3 : FVec Ideal TP .f32) (p : Fin 512) (T : ℕ → EReal)
    (h0 : ∀ q : Fin 128, f0 (ix2 p q) = T (0 + q.val)) (h1 : ∀ q : Fin 128, f1 (ix2 p q) = T (128 + q.val))
    (h2 : ∀ q : Fin 128, f2 (ix2 p q) = T (256 + q.val)) (h3 : ∀ q : Fin 128, f3 (ix2 p q) = T (384 + q.val)) (hc) (l : Fin 512) :
    concatenate TY 1 [⟨TP, f0⟩, ⟨TP, f1⟩, ⟨TP, f2⟩, ⟨TP, f3⟩] hc (ix2 p l) = T l.val := by
  pointwise
  split_ifs <;> first
    | exact (h0 _).trans (congrArg T (by dsimp only; omega))
    | exact (h1 _).trans (congrArg T (by dsimp only; omega))
    | exact (h2 _).trans (congrArg T (by dsimp only; omega))
    | exact (h3 _).trans (congrArg T (by dsimp only; omega))

theorem lower (hc : TS1.ShapeCasts TP) (f : FVec Ideal TS1 .f32) (p : Fin 512) (q : Fin 128) :
    shapeCast TP f hc (ix2 p q) = f (ix3 0 p q) := by pointwise

/-- A plane of the filled scratch. -/
theorem plane_read {sig : RefSig} {κ : Kind} {sp : Space} (v : View sig κ sp TS .f32) (L : List (View.Piece (Elt Ideal) TS .f32)) (d M W : ℕ) [NeZero M] [NeZero W] (hd : 0 < d) (hn : M * d = 512)
    (B : (⟨2, ![M, W]⟩ : Shape).Idx → EReal) (hL : ∀ p ∈ L, ∀ x : p.1.shape.Idx, p.2 x = ordered d B (p.1.emb x))
    (hk : (L.map place == tiles d M) = true) (j o : ℕ) (ho : o = 128 * j) (inb : ∀ a, (![j, 0, 0] : Fin 3 → ℕ) a + TS1.size a ≤ TS.size a) (hc : TS1.ShapeCasts TP) (p : Fin 512) (q : Fin 128) :
    shapeCast TP (v.readCov L (Rect.unit (s := TS) ![j, 0, 0] TS1.size inb).toLoadRect) hc (ix2 p q)
      = at2 B (p.val / d) (512 * (p.val % d) + (o + q.val)) := by
  subst ho
  refine (lower hc _ p q).trans ?_
  rw [View.readCov_eq_canon']
  refine (View.canon_apply_of_pieces (ordered d B) L hL _ (filled d M hd hn L hk _)).trans ?_
  show at2 B ((0 + 1 * p.val) / d) (512 * ((0 + 1 * p.val) % d) + (128 * (j + 1 * 0) + (0 + 1 * q.val))) = _
  simp only [Nat.zero_add, Nat.one_mul, Nat.mul_zero, Nat.add_zero]

/-- The four planes of the filled scratch side by side: the view in order. -/
theorem in_order {sig : RefSig} {κ : Kind} {sp : Space} (v : View sig κ sp TS .f32) (L : List (View.Piece (Elt Ideal) TS .f32)) (d M W : ℕ) [NeZero M] [NeZero W] (hd : 0 < d) (hn : M * d = 512)
    (B : (⟨2, ![M, W]⟩ : Shape).Idx → EReal) (hL : ∀ p ∈ L, ∀ x : p.1.shape.Idx, p.2 x = ordered d B (p.1.emb x))
    (hk : (L.map place == tiles d M) = true) (i0 i1 i2 i3) (hc : TS1.ShapeCasts TP) (hcat) (p l : Fin 512) :
    concatenate TY 1 [⟨TP, shapeCast TP (v.readCov L (Rect.unit (s := TS) ![0, 0, 0] TS1.size i0).toLoadRect) hc⟩,
      ⟨TP, shapeCast TP (v.readCov L (Rect.unit (s := TS) ![1, 0, 0] TS1.size i1).toLoadRect) hc⟩,
      ⟨TP, shapeCast TP (v.readCov L (Rect.unit (s := TS) ![2, 0, 0] TS1.size i2).toLoadRect) hc⟩,
      ⟨TP, shapeCast TP (v.readCov L (Rect.unit (s := TS) ![3, 0, 0] TS1.size i3).toLoadRect) hc⟩] hcat (ix2 p l)
      = at2 B (p.val / d) (512 * (p.val % d) + l.val) :=
  side4 _ _ _ _ p (fun l => at2 B (p.val / d) (512 * (p.val % d) + l))
    (plane_read v L d M W hd hn B hL hk 0 0 rfl i0 hc p) (plane_read v L d M W hd hn B hL hk 1 128 rfl i1 hc p)
    (plane_read v L d M W hd hn B hL hk 2 256 rfl i2 hc p) (plane_read v L d M W hd hn B hL hk 3 384 rfl i3 hc p) hcat l

/-- A whole block read from its buffer. -/
theorem read_whole {sig : RefSig} {κ : Kind} {sp : Space} {e : EltTy} (M W : ℕ) (B : (⟨2, ![M, W]⟩ : Shape).Idx → Elt Ideal e) (mr : Memref sig κ sp ⟨2, ![M, W]⟩ e) (hw : mr.IsWhole)
    (ib : ∀ a, (![0, 0] : Fin 2 → ℕ) a + (⟨2, ![M, W]⟩ : Shape).size a ≤ (⟨2, ![M, W]⟩ : Shape).size a) (i : (⟨2, ![M, W]⟩ : Shape).Idx) :
    View.readAt (Elt Ideal) mr.view (Rect.unit (s := ⟨2, ![M, W]⟩) ![0, 0] (⟨2, ![M, W]⟩ : Shape).size ib).toLoadRect (hw.unread B) i = B i := by
  refine (hw.readAt_unread (Val := Elt Ideal) B _ _).trans (congrArg B (funext fun a => Fin.ext ?_))
  match a with
  | ⟨0, _⟩ => show 0 + 1 * (i 0).val = (i 0).val; omega
  | ⟨1, _⟩ => show 0 + 1 * (i 1).val = (i 1).val; omega

end Cert.Mix

end
-- ==== Proof.Merging.lean ====
/- The merge of three patterns' outputs, row by row. -/
module

public import proofs.«01_k».proof.Proof.Proj
public import proofs.«01_k».proof.Proof.Band
public import proofs.«01_k».proof.Proof.Finite
public import proofs.«01_k».proof.Proof.Gen.Pre_finite_logs

@[expose] public section

set_option maxRecDepth 16384

noncomputable section

namespace Cert.Merging

open Idealize.ShloMosaic

abbrev TO : Shape := ⟨4, ![4, 8192, 8, 64]⟩
abbrev TL : Shape := ⟨3, ![4, 8192, 8]⟩
abbrev TB : Shape := ⟨2, ![512, 1024]⟩
abbrev TW : Shape := ⟨2, ![1024, 1024]⟩

/-- Three values weighted by the exponentials of their logarithms. -/
def mix (l1 l2 l3 o1 o2 o3 : EReal) : EReal :=
  Ideal.div (Ideal.exp (l1 - max (max l1 l2) l3) * o1 + Ideal.exp (l2 - max (max l1 l2) l3) * o2 + Ideal.exp (l3 - max (max l1 l2) l3) * o3)
    (Ideal.exp (l1 - max (max l1 l2) l3) + Ideal.exp (l2 - max (max l1 l2) l3) + Ideal.exp (l3 - max (max l1 l2) l3))

/-- A token's value at a lane, the heads one after the other. -/
def val (o : FVec Ideal TO .f32) (n l : ℕ) : EReal :=
  o (ix4 ⟨n / 8192 % 4, Nat.mod_lt _ (by norm_num)⟩ ⟨n % 8192, Nat.mod_lt _ (by norm_num)⟩ ⟨l / 64 % 8, Nat.mod_lt _ (by norm_num)⟩ ⟨l % 64, Nat.mod_lt _ (by norm_num)⟩)

/-- The logarithm of the head of a lane at a token. -/
def log (a : FVec Ideal TL .f32) (n l : ℕ) : EReal :=
  a (ix3 ⟨n / 8192 % 4, Nat.mod_lt _ (by norm_num)⟩ ⟨n % 8192, Nat.mod_lt _ (by norm_num)⟩ ⟨l / 64 % 8, Nat.mod_lt _ (by norm_num)⟩)

/-- An entry of an argument, by its token and lane. -/
theorem at_tok (x : FVec Ideal Proj.TX .f32) (b s : ℕ) (hb : b < 4) (hs : s < 8192) (e : Fin 1024) (n : ℕ) (hn : 8192 * b + s = n) :
    x (ix3 ⟨b, hb⟩ ⟨s, hs⟩ e) = Proj.tok x n e := by
  unfold Proj.tok
  subst hn
  congr 2
  · apply Fin.ext
    show b = (8192 * b + s) / 8192 % 4
    omega
  · apply Fin.ext
    show s = (8192 * b + s) % 8192
    omega

theorem at_log (a : FVec Ideal TL .f32) (b : Fin 4) (s : Fin 8192) (h : Fin 8) (n l : ℕ) (hn : 8192 * b.val + s.val = n) (hl : l / 64 = h.val) :
    a (ix3 b s h) = log a n l := by
  unfold log
  congr 2
  · exact Fin.ext (by dsimp only; omega)
  · exact Fin.ext (by dsimp only; omega)
  · exact Fin.ext (by dsimp only; omega)

theorem at_val (o : FVec Ideal TO .f32) (b : Fin 4) (s : Fin 8192) (h : Fin 8) (e : Fin 64) (n l : ℕ) (hn : 8192 * b.val + s.val = n) (hl : 64 * h.val + e.val = l) :
    o (ix4 b s h e) = val o n l := by
  unfold val
  congr 2
  · exact Fin.ext (by dsimp only; omega)
  · exact Fin.ext (by dsimp only; omega)
  · exact Fin.ext (by dsimp only; omega)
  · exact Fin.ext (by dsimp only; omega)

/-- A softmax of three numbers. -/
def soft (s : Fin 3 → EReal) (g : Fin 3) : EReal := Ideal.div (Ideal.exp (s g - Band.top s)) (∑ c, Ideal.exp (s c - Band.top s))

theorem top_three (a b c : EReal) : Band.top ![a, b, c] = max (max a b) c := by
  rw [Band.top_eq_sup]
  apply le_antisymm
  · refine Finset.sup_le fun i _ => ?_
    fin_cases i
    · exact le_max_of_le_left (le_max_left _ _)
    · exact le_max_of_le_left (le_max_right _ _)
    · exact le_max_right _ _
  · refine max_le (max_le ?_ ?_) ?_
    · exact Finset.le_sup (f := ![a, b, c]) (Finset.mem_univ (0 : Fin 3))
    · exact Finset.le_sup (f := ![a, b, c]) (Finset.mem_univ (1 : Fin 3))
    · exact Finset.le_sup (f := ![a, b, c]) (Finset.mem_univ (2 : Fin 3))

/-- Of real logarithms the mixture is the sum of the values weighted by the softmax. -/
theorem mix_eq (a b c : EReal) (ha : ∃ r : ℝ, a = (r : EReal)) (hb : ∃ r : ℝ, b = (r : EReal)) (hc : ∃ r : ℝ, c = (r : EReal)) (x y z : EReal) :
    mix a b c x y z = ∑ g, soft ![a, b, c] g * (![x, y, z] : Fin 3 → EReal) g := by
  obtain ⟨a, rfl⟩ := ha
  obtain ⟨b, rfl⟩ := hb
  obtain ⟨c, rfl⟩ := hc
  unfold mix soft
  rw [top_three, Fin.sum_univ_three, Fin.sum_univ_three]
  simp only [Matrix.cons_val_zero, Matrix.cons_val_one, Matrix.cons_val]
  have hM : max (max (a : EReal) b) c = ((max (max a b) c : ℝ) : EReal) := by
    rw [EReal.coe_strictMono.monotone.map_max, EReal.coe_strictMono.monotone.map_max]
  rw [hM]
  generalize max (max a b) c = M
  simp only [← EReal.coe_sub, Band.exp_coe, ← EReal.coe_add]
  have hS : 0 < Real.exp (a - M) + Real.exp (b - M) + Real.exp (c - M) := by positivity
  generalize Real.exp (a - M) = p at *
  generalize Real.exp (b - M) = q at *
  generalize Real.exp (c - M) = r at *
  have hne : ((p + q + r : ℝ) : EReal) ≠ 0 := by exact_mod_cast hS.ne'
  unfold Ideal.div
  simp only [if_neg hne, ← EReal.coe_inv]
  have hi : (0 : ℝ) ≤ (p + q + r)⁻¹ := (inv_pos.mpr hS).le
  rw [EReal.right_distrib_of_nonneg_of_ne_top (EReal.coe_nonneg.mpr hi) (EReal.coe_ne_top _),
    EReal.right_distrib_of_nonneg_of_ne_top (EReal.coe_nonneg.mpr hi) (EReal.coe_ne_top _)]
  simp only [mul_right_comm]

section Row

variable (x pa gate : FVec Ideal Proj.TX .f32) (o1 o2 o3 : FVec Ideal TO .f32) (l1 l2 l3 : FVec Ideal TL .f32) (wb : FVec Ideal TB .f32) (wo : FVec Ideal TW .f32) (g : FVec Ideal Proj.TG .f32)

/-- A token's row with the gated branches added, at a column. -/
def row (n : ℕ) (e : Fin 1024) : EReal :=
  Proj.tok x n e + ∑ k : Fin 1024, (Proj.tok pa n k + (∑ l : Fin 512, mix (log l1 n l.val) (log l2 n l.val) (log l3 n l.val) (val o1 n l.val) (val o2 n l.val) (val o3 n l.val) * wb (ix2 l k)) * Proj.tok gate n k) * wo (ix2 k e)

/-- That row, normalized. -/
def normed (n : ℕ) (e : Fin 1024) : EReal := Proj.rms (row x pa gate o1 o2 o3 l1 l2 l3 wb wo n) (Proj.gain g) e

/-- A list of rows of 1024 read in rows of 128. -/
def lanes (f : ℕ → Fin 1024 → EReal) (r l : ℕ) : EReal := f (r / 8) ⟨(128 * (r % 8) + l) % 1024, Nat.mod_lt _ (by norm_num)⟩

end Row

/-- An array of logarithms that passes the test is real everywhere. -/
theorem real_at (x : FVec Ideal TL .f32) (top : FVec Ideal TL .f32) (ht : ∀ i, top i = ⊤)
    (h : cmpf .olt (Host.absf x) top = fun _ => 1#1) (i : TL.Idx) : ∃ r : ℝ, x i = (r : EReal) := by
  have h1 : max (x i) (-(x i)) < top i := Finite.bit_lt _ _ (congrFun h i)
  rw [ht i] at h1
  exact Finite.real_of_lt _ h1

end Cert.Merging

end
-- ==== Proof.MergeStage.lean ====
/- The merge's launch: what the region finds, and the blocks of its windows. -/
module

public import proofs.«01_k».proof.Proof.Gen.KernelMergeIdeal.Launch
public import proofs.«01_k».proof.Proof.Gen.KernelMergeIdeal.Skeleton
public import proofs.«01_k».proof.Proof.Gen.KernelMergeIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelMergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the region finds in every buffer. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- From the run of the pipeline to the arguments that are kept. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

abbrev VO0_12 : View sig .tc .vmem S4096x128 .f32 := (Memref.whole cc0_stg12_0 : Memref sig .tc .vmem S4096x128 .f32).view
abbrev VO0_13 : View sig .tc .vmem S4096x128 .f32 := (Memref.whole cc0_stg13_0 : Memref sig .tc .vmem S4096x128 .f32).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x2048 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x8192 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x8192 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4096x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4096x128 .f32 := win0_13.stage (cfg0.slots t 13)
abbrev hs0_13 (t : Fin cfg0.N) : (ms0_13 t).IsWhole := hstage0_13 ((cfg0.slots t 13).cast nbuf0_13)
abbrev scM0_0 : Memref sig .tc .vmem S4x512x128 .f32 := Memref.whole cc0_scratch0
abbrev scM0_1 : Memref sig .tc .vmem S4x512x128 .f32 := Memref.whole cc0_scratch1
abbrev scM0_2 : Memref sig .tc .vmem S4x512x128 .f32 := Memref.whole cc0_scratch2
abbrev scM0_3 : Memref sig .tc .vmem S4x512x128 .f32 := Memref.whole cc0_scratch3

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelMergeIdeal.Gen

end
-- ==== Proof.MergeRun.lean ====
/- The merge's body, run once: the pieces that it leaves in each output's buffer. -/
module

public import proofs.«01_k».proof.Proof.MergeStage

@[expose] public section

set_option maxRecDepth 16384

noncomputable section

namespace Cert.KernelMergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3076000 in set_option sl_exec.stridedRows true in
/-- The body runs; the pieces it writes into the two outputs are found on the way. -/
noncomputable def kernelRun0_A (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x512 .f32) (harg7 : arg7.IsWhole) (arg8 : Memref sig .tc .vmem S128x2048 .f32) (harg8 : arg8.IsWhole) (arg9 : Memref sig .tc .vmem S32x8192 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4x512x128 .f32) (harg15 : arg15.IsWhole) (arg16 : Memref sig .tc .vmem S4x512x128 .f32) (harg16 : arg16.IsWhole) (arg17 : Memref sig .tc .vmem S4x512x128 .f32) (harg17 : arg17.IsWhole) (arg18 : Memref sig .tc .vmem S4x512x128 .f32) (harg18 : arg18.IsWhole)
    (x0 : Vec F S512x1024 .f32) (x1 : Vec F S512x1024 .bf16) (x2 : Vec F S512x1024 .bf16) (x3 : Vec F S512x512 .bf16) (x4 : Vec F S128x2048 .bf16) (x5 : Vec F S32x8192 .bf16) (x6 : Vec F S512x512 .f32) (x7 : Vec F S128x2048 .f32) (x8 : Vec F S32x8192 .f32) (x9 : Vec F S512x1024 .bf16) (x10 : Vec F S1024x1024 .bf16) (x11 : Vec F S1x1024 .f32) :
    Σ' (L12 : List (View.Piece (Elt F) S4096x128 .f32)), { L13 : List (View.Piece (Elt F) S4096x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)) -∗ K ⟨⟩))
          ⊢ wp frame (wpE (defs₀ (F := F)) Variants.none c none) E (cc0_merge i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0_merge_eq_skeleton]; unfold cc0_merge_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelMergeIdeal.Gen

end
-- ==== Proof.MergeFrame.lean ====
/- The merge's frame: what each point leaves, and the run of the whole call. -/
module

public import proofs.«01_k».proof.Proof.MergeRun
public import Idealize.ShloMosaic.Lib.Claim

@[expose] public section

set_option maxRecDepth 16384

noncomputable section

namespace Cert.KernelMergeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Where a piece lies: its first row and column, its extents, its strides. -/
def place {Val : EltTy → Type} (p : View.Piece Val S4096x128 .f32) : List ℕ :=
  [p.1.off 0, p.1.off 1, p.1.size 0, p.1.size 1, p.1.stride 0, p.1.stride 1]

/-- Eight pieces, each of every eighth row, cover a block. -/
theorem rows_cover {Val : EltTy → Type} (L : List (View.Piece Val S4096x128 .f32))
    (h : (L.map place == (List.range 8).reverse.map fun s => [s, 0, 512, 128, 8, 1]) = true) (y : S4096x128.Idx) :
    ∃ pc ∈ L, y ∈ pc.1.set := by
  have h0 : (y 0).val < 4096 := (y 0).isLt
  have h1 : (y 1).val < 128 := (y 1).isLt
  have hm : [(y 0).val % 8, 0, 512, 128, 8, 1] ∈ L.map place := by
    rw [eq_of_beq h]
    exact List.mem_map.mpr ⟨(y 0).val % 8, List.mem_reverse.mpr (List.mem_range.mpr (Nat.mod_lt _ (by decide))), rfl⟩
  obtain ⟨p, hp, e⟩ := List.mem_map.mp hm
  simp only [place, List.cons.injEq, and_true] at e
  obtain ⟨o0, o1, z0, z1, t0, t1⟩ := e
  refine ⟨p, hp, (LoadRect.mem_set _).mpr fun a => ?_⟩
  match a with
  | ⟨0, _⟩ => exact ⟨(y 0).val / 8, by rw [show p.1.size ⟨0, _⟩ = 512 from z0]; omega, by
      rw [show p.1.off ⟨0, _⟩ = (y 0).val % 8 from o0, show p.1.stride ⟨0, _⟩ = 8 from t0]; exact (Nat.mod_add_div _ 8).symm⟩
  | ⟨1, _⟩ => exact ⟨(y 1).val, by rw [show p.1.size ⟨1, _⟩ = 128 from z1]; exact h1, by
      rw [show p.1.off ⟨1, _⟩ = 0 from o1, show p.1.stride ⟨1, _⟩ = 1 from t1, Nat.zero_add, Nat.one_mul]; rfl⟩

/-- The eight stores cover the block of `x1`. -/
theorem cover0_A_12 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x512 .f32) (harg7 : arg7.IsWhole) (arg8 : Memref sig .tc .vmem S128x2048 .f32) (harg8 : arg8.IsWhole) (arg9 : Memref sig .tc .vmem S32x8192 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4x512x128 .f32) (harg15 : arg15.IsWhole) (arg16 : Memref sig .tc .vmem S4x512x128 .f32) (harg16 : arg16.IsWhole) (arg17 : Memref sig .tc .vmem S4x512x128 .f32) (harg17 : arg17.IsWhole) (arg18 : Memref sig .tc .vmem S4x512x128 .f32) (harg18 : arg18.IsWhole)
    (x0 : Vec F S512x1024 .f32) (x1 : Vec F S512x1024 .bf16) (x2 : Vec F S512x1024 .bf16) (x3 : Vec F S512x512 .bf16) (x4 : Vec F S128x2048 .bf16) (x5 : Vec F S32x8192 .bf16) (x6 : Vec F S512x512 .f32) (x7 : Vec F S128x2048 .f32) (x8 : Vec F S32x8192 .f32) (x9 : Vec F S512x1024 .bf16) (x10 : Vec F S1024x1024 .bf16) (x11 : Vec F S1x1024 .f32) (y : S4096x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1, y ∈ pc.1.set :=
  rows_cover (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1 (by sl_kernel_rfl) y

/-- What the body leaves in the block of `x1`. -/
def out0_A_12 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x512 .f32) (harg7 : arg7.IsWhole) (arg8 : Memref sig .tc .vmem S128x2048 .f32) (harg8 : arg8.IsWhole) (arg9 : Memref sig .tc .vmem S32x8192 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4x512x128 .f32) (harg15 : arg15.IsWhole) (arg16 : Memref sig .tc .vmem S4x512x128 .f32) (harg16 : arg16.IsWhole) (arg17 : Memref sig .tc .vmem S4x512x128 .f32) (harg17 : arg17.IsWhole) (arg18 : Memref sig .tc .vmem S4x512x128 .f32) (harg18 : arg18.IsWhole)
    (x0 : Vec F S512x1024 .f32) (x1 : Vec F S512x1024 .bf16) (x2 : Vec F S512x1024 .bf16) (x3 : Vec F S512x512 .bf16) (x4 : Vec F S128x2048 .bf16) (x5 : Vec F S32x8192 .bf16) (x6 : Vec F S512x512 .f32) (x7 : Vec F S128x2048 .f32) (x8 : Vec F S32x8192 .f32) (x9 : Vec F S512x1024 .bf16) (x10 : Vec F S1024x1024 .bf16) (x11 : Vec F S1x1024 .f32) : Vec F S4096x128 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1)

/-- The eight stores cover the block of the normalized rows. -/
theorem cover0_A_13 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x512 .f32) (harg7 : arg7.IsWhole) (arg8 : Memref sig .tc .vmem S128x2048 .f32) (harg8 : arg8.IsWhole) (arg9 : Memref sig .tc .vmem S32x8192 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4x512x128 .f32) (harg15 : arg15.IsWhole) (arg16 : Memref sig .tc .vmem S4x512x128 .f32) (harg16 : arg16.IsWhole) (arg17 : Memref sig .tc .vmem S4x512x128 .f32) (harg17 : arg17.IsWhole) (arg18 : Memref sig .tc .vmem S4x512x128 .f32) (harg18 : arg18.IsWhole)
    (x0 : Vec F S512x1024 .f32) (x1 : Vec F S512x1024 .bf16) (x2 : Vec F S512x1024 .bf16) (x3 : Vec F S512x512 .bf16) (x4 : Vec F S128x2048 .bf16) (x5 : Vec F S32x8192 .bf16) (x6 : Vec F S512x512 .f32) (x7 : Vec F S128x2048 .f32) (x8 : Vec F S32x8192 .f32) (x9 : Vec F S512x1024 .bf16) (x10 : Vec F S1024x1024 .bf16) (x11 : Vec F S1x1024 .f32) (y : S4096x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.1, y ∈ pc.1.set :=
  rows_cover (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.1 (by sl_kernel_rfl) y

/-- What the body leaves in the block of the normalized rows. -/
def out0_A_13 (c : Dev nD) (i : grid0.Coords) (arg1 : Memref sig .tc .vmem S512x1024 .f32) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x512 .bf16) (harg4 : arg4.IsWhole) (arg5 : Memref sig .tc .vmem S128x2048 .bf16) (harg5 : arg5.IsWhole) (arg6 : Memref sig .tc .vmem S32x8192 .bf16) (harg6 : arg6.IsWhole) (arg7 : Memref sig .tc .vmem S512x512 .f32) (harg7 : arg7.IsWhole) (arg8 : Memref sig .tc .vmem S128x2048 .f32) (harg8 : arg8.IsWhole) (arg9 : Memref sig .tc .vmem S32x8192 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1x1024 .f32) (harg12 : arg12.IsWhole) (arg13 : Memref sig .tc .vmem S4096x128 .f32) (harg13 : arg13.IsWhole) (arg14 : Memref sig .tc .vmem S4096x128 .f32) (harg14 : arg14.IsWhole) (arg15 : Memref sig .tc .vmem S4x512x128 .f32) (harg15 : arg15.IsWhole) (arg16 : Memref sig .tc .vmem S4x512x128 .f32) (harg16 : arg16.IsWhole) (arg17 : Memref sig .tc .vmem S4x512x128 .f32) (harg17 : arg17.IsWhole) (arg18 : Memref sig .tc .vmem S4x512x128 .f32) (harg18 : arg18.IsWhole)
    (x0 : Vec F S512x1024 .f32) (x1 : Vec F S512x1024 .bf16) (x2 : Vec F S512x1024 .bf16) (x3 : Vec F S512x512 .bf16) (x4 : Vec F S128x2048 .bf16) (x5 : Vec F S32x8192 .bf16) (x6 : Vec F S512x512 .f32) (x7 : Vec F S128x2048 .f32) (x8 : Vec F S32x8192 .f32) (x9 : Vec F S512x1024 .bf16) (x10 : Vec F S1024x1024 .bf16) (x11 : Vec F S1x1024 .f32) : Vec F S4096x128 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.1)

/-- The two output blocks after point `t`. -/
def outsAt0 (c : Dev nD) (t : Fin cfg0.N) : Vec F S4096x128 .f32 × Vec F S4096x128 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- The pipeline's contents at every point: the inputs' blocks stay, the outputs hold what the body left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t).1 := by dsimp only [dats]
theorem after0_13 (c : Dev nD) (t : Fin cfg0.N) : (dats m 0 c).after 13 t = (outsAt0 m c t).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1600000 in
/-- The body at a point, from its windows before to its windows after. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  unfold out0_A_12 out0_A_13; (try dsimp only)
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun0_A c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  isplitl [HS1]; · iexact HS1
  isplitl [HS2]; · iexact HS2
  isplitl [HS3]; · iexact HS3
  iintro ⟨H0, H1, H2, H3, H4, H5, H6, H7, H8, H9, H10, H11, ⟨%e12, H12⟩, ⟨%e13, H13⟩, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

/-- The same, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole call runs, and leaves what the pipeline says. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The call ends with its arguments as they were, and its counters at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelMergeIdeal.Gen

end
-- ==== Proof.MergeRead.lean ====
/- The arrays that the merge reads, and the arrays that its run leaves. -/
module

public import proofs.«01_k».proof.Proof.Merging
public import proofs.«01_k».proof.Proof.MergeFrame
public import Idealize.ShloMosaic.Lib.Claim
public import Idealize.ShloMosaic.Lib.Pointwise
public import Idealize.ShloMosaic.Lib.Pipeline.Value

@[expose] public section

set_option maxRecDepth 16384

noncomputable section

namespace Cert.KernelMergeIdeal.Whole

open Cert.KernelMergeIdeal Cert.KernelMergeIdeal.Gen Idealize.ShloMosaic Idealize.SL.Sem

variable (m : (ℓ : Loc nD τ sig) → Buf (Elt Ideal) ℓ)

/-- Every window's block index at a point. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0]
    ∧ win0_10.index t = ![0, 0] ∧ win0_11.index t = ![0, 0] ∧ win0_12.index t = ![t.val, 0]
    ∧ win0_13.index t = ![t.val, 0] :=
  (by decide +kernel : ∀ t : Fin grid0.N, _)

theorem point_lt (t : Fin cfg0.N) : t.val < 64 := t.isLt

/-- The rows, as the region finds them. -/
theorem x_rows (c : Dev nD) (j : S32768x1024.Idx) :
    V m c main_v19 j = Proj.tok (m (c.tc.loc main_arg0)) (j 0).val (j 1) := by
  rw [eq_ix2 j]
  generalize j 0 = n
  generalize j 1 = e
  entry_read
  pointwise
  exact Merging.at_tok _ _ _ _ _ _ _ (by have hn : n.val < 32768 := n.isLt; omega)

/-- The first branch's rows, as the region finds them. -/
theorem pa_rows (c : Dev nD) (j : S32768x1024.Idx) :
    V m c main_v1 j = Proj.tok (m (c.tc.loc main_arg1)) (j 0).val (j 1) := by
  rw [eq_ix2 j]
  generalize j 0 = n
  generalize j 1 = e
  entry_read
  pointwise
  exact Merging.at_tok _ _ _ _ _ _ _ (by have hn : n.val < 32768 := n.isLt; omega)

/-- The gates, as the region finds them. -/
theorem gate_rows (c : Dev nD) (j : S32768x1024.Idx) :
    V m c main_v3 j = Proj.tok (m (c.tc.loc main_arg2)) (j 0).val (j 1) := by
  rw [eq_ix2 j]
  generalize j 0 = n
  generalize j 1 = e
  entry_read
  pointwise
  exact Merging.at_tok _ _ _ _ _ _ _ (by have hn : n.val < 32768 := n.isLt; omega)

/-- Pattern 1's outputs, token by token, as the region finds them. -/
theorem o1_rows (c : Dev nD) (j : S32768x512.Idx) :
    V m c main_v5 j = Merging.val (m (c.tc.loc main_arg3)) (1 * (j 0).val + (j 1).val / 512) ((j 1).val % 512) := by
  rw [eq_ix2 j]
  generalize j 0 = a
  generalize j 1 = l
  entry_read
  pointwise
  exact Merging.at_val _ _ _ _ _ _ _ (by have ha : a.val < 32768 := a.isLt; have hl : l.val < 512 := l.isLt; dsimp only <;> omega) (by have ha : a.val < 32768 := a.isLt; have hl : l.val < 512 := l.isLt; dsimp only <;> omega)

/-- Pattern 2's outputs, 4 tokens a row, as the region finds them. -/
theorem o2_rows (c : Dev nD) (j : S8192x2048.Idx) :
    V m c main_v10 j = Merging.val (m (c.tc.loc main_arg4)) (4 * (j 0).val + (j 1).val / 512) ((j 1).val % 512) := by
  rw [eq_ix2 j]
  generalize j 0 = a
  generalize j 1 = l
  entry_read
  pointwise
  exact Merging.at_val _ _ _ _ _ _ _ (by have ha : a.val < 8192 := a.isLt; have hl : l.val < 2048 := l.isLt; dsimp only <;> omega) (by have ha : a.val < 8192 := a.isLt; have hl : l.val < 2048 := l.isLt; dsimp only <;> omega)

/-- Pattern 3's outputs, 16 tokens a row, as the region finds them. -/
theorem o3_rows (c : Dev nD) (j : S2048x8192.Idx) :
    V m c main_v15 j = Merging.val (m (c.tc.loc main_arg5)) (16 * (j 0).val + (j 1).val / 512) ((j 1).val % 512) := by
  rw [eq_ix2 j]
  generalize j 0 = a
  generalize j 1 = l
  entry_read
  pointwise
  exact Merging.at_val _ _ _ _ _ _ _ (by have ha : a.val < 2048 := a.isLt; have hl : l.val < 8192 := l.isLt; dsimp only <;> omega) (by have ha : a.val < 2048 := a.isLt; have hl : l.val < 8192 := l.isLt; dsimp only <;> omega)

/-- Pattern 1's logarithms, token by token, as the region finds them. -/
theorem l1_rows (c : Dev nD) (j : S32768x512.Idx) :
    V m c main_v8 j = Merging.log (m (c.tc.loc main_arg6)) (1 * (j 0).val + (j 1).val / 512) ((j 1).val % 512) := by
  rw [eq_ix2 j]
  generalize j 0 = a
  generalize j 1 = l
  entry_read
  pointwise
  exact Merging.at_log _ _ _ _ _ _ (by have ha : a.val < 32768 := a.isLt; have hl : l.val < 512 := l.isLt; dsimp only <;> omega) (by have ha : a.val < 32768 := a.isLt; have hl : l.val < 512 := l.isLt; dsimp only <;> omega)

/-- Pattern 2's logarithms, 4 tokens a row, as the region finds them. -/
theorem l2_rows (c : Dev nD) (j : S8192x2048.Idx) :
    V m c main_v13 j = Merging.log (m (c.tc.loc main_arg7)) (4 * (j 0).val + (j 1).val / 512) ((j 1).val % 512) := by
  rw [eq_ix2 j]
  generalize j 0 = a
  generalize j 1 = l
  entry_read
  pointwise
  exact Merging.at_log _ _ _ _ _ _ (by have ha : a.val < 8192 := a.isLt; have hl : l.val < 2048 := l.isLt; dsimp only <;> omega) (by have ha : a.val < 8192 := a.isLt; have hl : l.val < 2048 := l.isLt; dsimp only <;> omega)

/-- Pattern 3's logarithms, 16 tokens a row, as the region finds them. -/
theorem l3_rows (c : Dev nD) (j : S2048x8192.Idx) :
    V m c main_v18 j = Merging.log (m (c.tc.loc main_arg8)) (16 * (j 0).val + (j 1).val / 512) ((j 1).val % 512) := by
  rw [eq_ix2 j]
  generalize j 0 = a
  generalize j 1 = l
  entry_read
  pointwise
  exact Merging.at_log _ _ _ _ _ _ (by have ha : a.val < 2048 := a.isLt; have hl : l.val < 8192 := l.isLt; dsimp only <;> omega) (by have ha : a.val < 2048 := a.isLt; have hl : l.val < 8192 := l.isLt; dsimp only <;> omega)

/-- The branch's weights, as the region finds them. -/
theorem wb_rows (c : Dev nD) (j : S512x1024.Idx) : V m c main_v20 j = m (c.tc.loc main_arg9) j := by
  entry_read
  rfl

/-- The last weights, as the region finds them. -/
theorem wo_rows (c : Dev nD) (j : S1024x1024.Idx) : V m c main_v21 j = m (c.tc.loc main_arg10) j := by
  entry_read
  rfl

/-- The gains, as the region finds them. -/
theorem g_row (c : Dev nD) (j : S1x1024.Idx) :
    V m c main_v22 j = Proj.gain (m (c.tc.loc main_arg11)) (j 1) := by
  rw [eq_ix2 j]
  generalize j 0 = n
  generalize j 1 = e
  entry_read
  pointwise
  rfl

/-- The rows, in a block. -/
theorem read0 (c : Dev nD) (t : Fin cfg0.N) (y : S512x1024.Idx) :
    iblk m c 0 t y = Proj.tok (m (c.tc.loc main_arg0)) (t.val * 512 + (y 0).val) (y 1) := by
  unfold iblk
  rw [View.read_apply]
  refine (cast_eq _ _).trans ?_
  refine (x_rows m c _).trans ?_
  blk_simp [idx t]
  exact congrArg _ (Fin.ext (by blk_simp [idx t]))

/-- The first branch's rows, in a block. -/
theorem read1 (c : Dev nD) (t : Fin cfg0.N) (y : S512x1024.Idx) :
    iblk m c 1 t y = Proj.tok (m (c.tc.loc main_arg1)) (t.val * 512 + (y 0).val) (y 1) := by
  unfold iblk
  rw [View.read_apply]
  refine (cast_eq _ _).trans ?_
  refine (pa_rows m c _).trans ?_
  blk_simp [idx t]
  exact congrArg _ (Fin.ext (by blk_simp [idx t]))

/-- The gates, in a block. -/
theorem read2 (c : Dev nD) (t : Fin cfg0.N) (y : S512x1024.Idx) :
    iblk m c 2 t y = Proj.tok (m (c.tc.loc main_arg2)) (t.val * 512 + (y 0).val) (y 1) := by
  unfold iblk
  rw [View.read_apply]
  refine (cast_eq _ _).trans ?_
  refine (gate_rows m c _).trans ?_
  blk_simp [idx t]
  exact congrArg _ (Fin.ext (by blk_simp [idx t]))

/-- Pattern 1's outputs, in a block. -/
theorem read3 (c : Dev nD) (t : Fin cfg0.N) (y : S512x512.Idx) :
    iblk m c 3 t y = Merging.val (m (c.tc.loc main_arg3)) (1 * (t.val * 512 + (y 0).val) + (y 1).val / 512) ((y 1).val % 512) := by
  unfold iblk
  rw [View.read_apply]
  refine (cast_eq _ _).trans ?_
  refine (o1_rows m c _).trans ?_
  blk_simp [idx t]

/-- Pattern 2's outputs, in a block. -/
theorem read4 (c : Dev nD) (t : Fin cfg0.N) (y : S128x2048.Idx) :
    iblk m c 4 t y = Merging.val (m (c.tc.loc main_arg4)) (4 * (t.val * 128 + (y 0).val) + (y 1).val / 512) ((y 1).val % 512) := by
  unfold iblk
  rw [View.read_apply]
  refine (cast_eq _ _).trans ?_
  refine (o2_rows m c _).trans ?_
  blk_simp [idx t]

/-- Pattern 3's outputs, in a block. -/
theorem read5 (c : Dev nD) (t : Fin cfg0.N) (y : S32x8192.Idx) :
    iblk m c 5 t y = Merging.val (m (c.tc.loc main_arg5)) (16 * (t.val * 32 + (y 0).val) + (y 1).val / 512) ((y 1).val % 512) := by
  unfold iblk
  rw [View.read_apply]
  refine (cast_eq _ _).trans ?_
  refine (o3_rows m c _).trans ?_
  blk_simp [idx t]

/-- Pattern 1's logarithms, in a block. -/
theorem read6 (c : Dev nD) (t : Fin cfg0.N) (y : S512x512.Idx) :
    iblk m c 6 t y = Merging.log (m (c.tc.loc main_arg6)) (1 * (t.val * 512 + (y 0).val) + (y 1).val / 512) ((y 1).val % 512) := by
  unfold iblk
  rw [View.read_apply]
  refine (cast_eq _ _).trans ?_
  refine (l1_rows m c _).trans ?_
  blk_simp [idx t]

/-- Pattern 2's logarithms, in a block. -/
theorem read7 (c : Dev nD) (t : Fin cfg0.N) (y : S128x2048.Idx) :
    iblk m c 7 t y = Merging.log (m (c.tc.loc main_arg7)) (4 * (t.val * 128 + (y 0).val) + (y 1).val / 512) ((y 1).val % 512) := by
  unfold iblk
  rw [View.read_apply]
  refine (cast_eq _ _).trans ?_
  refine (l2_rows m c _).trans ?_
  blk_simp [idx t]

/-- Pattern 3's logarithms, in a block. -/
theorem read8 (c : Dev nD) (t : Fin cfg0.N) (y : S32x8192.Idx) :
    iblk m c 8 t y = Merging.log (m (c.tc.loc main_arg8)) (16 * (t.val * 32 + (y 0).val) + (y 1).val / 512) ((y 1).val % 512) := by
  unfold iblk
  rw [View.read_apply]
  refine (cast_eq _ _).trans ?_
  refine (l3_rows m c _).trans ?_
  blk_simp [idx t]

/-- The branch's weights, in a block. -/
theorem read9 (c : Dev nD) (t : Fin cfg0.N) (y : S512x1024.Idx) :
    iblk m c 9 t y = m (c.tc.loc main_arg9) y := by
  unfold iblk
  rw [View.read_apply]
  refine (cast_eq _ _).trans ?_
  refine (wb_rows m c _).trans ?_
  blk_simp [idx t]
  exact congrArg _ (by funext a; fin_cases a <;> exact Fin.ext (by blk_simp [idx t]))

/-- The last weights, in a block. -/
theorem read10 (c : Dev nD) (t : Fin cfg0.N) (y : S1024x1024.Idx) :
    iblk m c 10 t y = m (c.tc.loc main_arg10) y := by
  unfold iblk
  rw [View.read_apply]
  refine (cast_eq _ _).trans ?_
  refine (wo_rows m c _).trans ?_
  blk_simp [idx t]
  exact congrArg _ (by funext a; fin_cases a <;> exact Fin.ext (by blk_simp [idx t]))

/-- The gains, in a block. -/
theorem read11 (c : Dev nD) (t : Fin cfg0.N) (y : S1x1024.Idx) :
    iblk m c 11 t y = Proj.gain (m (c.tc.loc main_arg11)) (y 1) := by
  unfold iblk
  rw [View.read_apply]
  refine (cast_eq _ _).trans ?_
  refine (g_row m c _).trans ?_
  blk_simp [idx t]
  exact congrArg _ (Fin.ext (by blk_simp [idx t]))

/-- After the run the two results are what the points leave, and the arguments are as they were. -/
theorem run_blocks (ρ : Dev nD → PrngReg) : θ_run defs (onTc (τ := τ) (main (F := Ideal))) ⟨m, fun _ => 0, ρ⟩ fun r => ∀ c : Dev nD,
      r.2.mem (c.tc.loc main_v23_0) = (dats m 0 c).arrAt 12 cfg0.N
      ∧ r.2.mem (c.tc.loc main_v23_1) = (dats m 0 c).arrAt 13 cfg0.N
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11) :=
  (θ_run defs _ _).mono (fun r h c => ⟨(h c).1 12, (h c).1 13,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

end Cert.KernelMergeIdeal.Whole

end
-- ==== Proof.KMerge.lean ====
/- The merge as the kernel computes it. -/
module

public import proofs.«01_k».proof.Proof.Mix
public import proofs.«01_k».proof.Proof.MergeRead
public import proofs.«01_k».proof.Proof.MergeFrame
public import proofs.«01_k».proof.Proof.Gen.KernelMerge
public import proofs.«01_k».proof.Proof.Gen.ReferenceMergeIdeal.Run
public import proofs.«01_k».proof.Proof.Gen.ReferenceMergeIdeal.Read
public import proofs.«01_k».proof.Proof.Gen.Pre_finite_logs
public import Idealize.ShloMosaic.Lib.Claim

@[expose] public section

set_option maxRecDepth 16384

noncomputable section

namespace Cert.KernelMergeIdeal.Whole

open Cert.KernelMergeIdeal Cert.KernelMergeIdeal.Gen Cert.Merging Idealize.ShloMosaic

/-- From the mixture's operands to the product with the last weights. -/
def product (o1 l1 o2 l2 o3 l3 : FVec Ideal S512x512 .f32) (wb : Vec Ideal S512x1024 .bf16) (gate pa : Vec Ideal S512x1024 .bf16) (wo : Vec Ideal S1024x1024 .bf16) : FVec Ideal S512x1024 .f32 :=
  let top := maximumf (maximumf l1 l2) l3
  let w1 := exp (subf l1 top)
  let w2 := exp (subf l2 top)
  let w3 := exp (subf l3 top)
  let y := divf (addf (addf (mulf w1 o1) (mulf w2 o2)) (mulf w3 o3)) (addf (addf w1 w2) w3)
  let b := mulf (matmul dot_S512x512_S512x1024_S512x1024_1_0_0_1_n_n none (truncf .bf16 y bitsLt_bf16_f32) (shapeCast S512x1024 wb shapeCasts_S512x1024_S512x1024 : FVec Ideal S512x1024 .bf16)
    (constant S512x1024 .f32 0x00000000#32)) (extf .f32 (shapeCast S512x1024 gate shapeCasts_S512x1024_S512x1024 : FVec Ideal S512x1024 .bf16) bitsLt_bf16_f32)
  matmul dot_S512x1024_S1024x1024_S512x1024_1_0_0_1_n_n none (truncf .bf16 (addf (extf .f32 (shapeCast S512x1024 pa shapeCasts_S512x1024_S512x1024 : FVec Ideal S512x1024 .bf16) bitsLt_bf16_f32) b) bitsLt_bf16_f32)
    (shapeCast S1024x1024 wo shapeCasts_S1024x1024_S1024x1024 : FVec Ideal S1024x1024 .bf16) (constant S512x1024 .f32 0x00000000#32)

theorem product_apply (o1 l1 o2 l2 o3 l3 : FVec Ideal S512x512 .f32) (wb : Vec Ideal S512x1024 .bf16) (gate pa : Vec Ideal S512x1024 .bf16) (wo : Vec Ideal S1024x1024 .bf16) (p : Fin 512) (e : Fin 1024) :
    product o1 l1 o2 l2 o3 l3 wb gate pa wo (ix2 p e)
      = ∑ k : Fin 1024, (pa (ix2 p k) + (∑ l : Fin 512, mix (l1 (ix2 p l)) (l2 (ix2 p l)) (l3 (ix2 p l)) (o1 (ix2 p l)) (o2 (ix2 p l)) (o3 (ix2 p l)) * wb (ix2 l k)) * gate (ix2 p k)) * wo (ix2 k e) := by
  pointwise [product]
  rfl

theorem norm_apply (x y : FVec Ideal S512x1024 .f32) (g : Vec Ideal S1x1024 .f32) (p : Fin 512) (e : Fin 1024) :
    k0_pay190 x y g (ix2 p e) = Proj.rms (fun e => k0_pay181 x y (ix2 p e)) (fun e => g (ix2 0 e)) e := by
  pointwise [k0_pay190]
  rfl

theorem rows_apply (x : Vec Ideal S512x1024 .f32) (i : S512x1024.Idx) : k0_pay179 x i = x i := congrFun (shapeCast_self _ _) i

section Array

variable (m : (ℓ : Loc nD τ sig) → Buf (Elt Ideal) ℓ)

/-- The blocks that a point reads whole. -/
def inX (c : Dev nD) (t : Fin cfg0.N) : FVec Ideal S512x1024 .f32 := iblk m c 0 t
@[inherit_doc inX] def inPa (c : Dev nD) (t : Fin cfg0.N) : FVec Ideal S512x1024 .bf16 := iblk m c 1 t
@[inherit_doc inX] def inGate (c : Dev nD) (t : Fin cfg0.N) : FVec Ideal S512x1024 .bf16 := iblk m c 2 t
@[inherit_doc inX] def inWb (c : Dev nD) (t : Fin cfg0.N) : FVec Ideal S512x1024 .bf16 := iblk m c 9 t
@[inherit_doc inX] def inWo (c : Dev nD) (t : Fin cfg0.N) : FVec Ideal S1024x1024 .bf16 := iblk m c 10 t
@[inherit_doc inX] def inG (c : Dev nD) (t : Fin cfg0.N) : FVec Ideal S1x1024 .f32 := iblk m c 11 t

/-- The mixed values of one row and lane of a block. -/
def mixed (c : Dev nD) (t : Fin cfg0.N) (p l : Fin 512) : EReal :=
  mix (iblk m c 6 t (ix2 p l)) (Mix.at2 (M := 128) (W := 2048) (iblk m c 7 t) (p.val / 4) (512 * (p.val % 4) + l.val)) (Mix.at2 (M := 32) (W := 8192) (iblk m c 8 t) (p.val / 16) (512 * (p.val % 16) + l.val))
    (iblk m c 3 t (ix2 p l)) (Mix.at2 (M := 128) (W := 2048) (iblk m c 4 t) (p.val / 4) (512 * (p.val % 4) + l.val)) (Mix.at2 (M := 32) (W := 8192) (iblk m c 5 t) (p.val / 16) (512 * (p.val % 16) + l.val))

set_option maxHeartbeats 4000000 in
/-- What the body leaves in both output blocks. -/
theorem left (c : Dev nD) (t : Fin cfg0.N) : ∃ X N : FVec Ideal S512x1024 .f32,
    (∀ y, (outsAt0 m c t).1 y = Mix.split X y) ∧ (∀ y, (outsAt0 m c t).2 y = Mix.split N y)
    ∧ (∀ p e, N (ix2 p e) = Proj.rms (fun e => X (ix2 p e)) (fun e => inG m c t (ix2 0 e)) e)
    ∧ ∀ p e, X (ix2 p e) = inX m c t (ix2 p e) + ∑ k : Fin 1024, (inPa m c t (ix2 p k) + (∑ l : Fin 512, mixed m c t p l * inWb m c t (ix2 l k)) * inGate m c t (ix2 p k)) * inWo m c t (ix2 k e) := by
  unfold outsAt0
  dsimp only
  unfold out0_A_12 out0_A_13
  rw [View.read_writes_junk_eq_canon, View.read_writes_junk_eq_canon]
  apply Exists.intro
  apply Exists.intro
  refine ⟨fun y => View.canon_apply_of_pieces _ _ (View.PiecesOf.mem ?h12) y (cover0_A_12 _ _ _ _ _ _ _ _ _ _ _ _ _ _ _ _ _ _ _ _ _ _ _ _ _ _ _ _ _ _ _ _ _ _ _ _ _ _ _ _ _ _ _ _ _ _ _ _ _ _ y), fun y => View.canon_apply_of_pieces _ _ (View.PiecesOf.mem ?h13) y (cover0_A_13 _ _ _ _ _ _ _ _ _ _ _ _ _ _ _ _ _ _ _ _ _ _ _ _ _ _ _ _ _ _ _ _ _ _ _ _ _ _ _ _ _ _ _ _ _ _ _ _ _ _ y), ?hN, ?hX⟩
  case h12 =>
    frame_open
    refine ⟨fun x => Mix.split_piece 7 896 (by decide) rfl (k0_pay181 _ _) slices_S512x1024_o0_896_S512x128 _ _ x, fun x => Mix.split_piece 6 768 (by decide) rfl (k0_pay181 _ _) slices_S512x1024_o0_768_S512x128 _ _ x, fun x => Mix.split_piece 5 640 (by decide) rfl (k0_pay181 _ _) slices_S512x1024_o0_640_S512x128 _ _ x,
      fun x => Mix.split_piece 4 512 (by decide) rfl (k0_pay181 _ _) slices_S512x1024_o0_512_S512x128 _ _ x, fun x => Mix.split_piece 3 384 (by decide) rfl (k0_pay181 _ _) slices_S512x1024_o0_384_S512x128 _ _ x, fun x => Mix.split_piece 2 256 (by decide) rfl (k0_pay181 _ _) slices_S512x1024_o0_256_S512x128 _ _ x,
      fun x => Mix.split_piece 1 128 (by decide) rfl (k0_pay181 _ _) slices_S512x1024_o0_128_S512x128 _ _ x, fun x => Mix.split_piece 0 0 (by decide) rfl (k0_pay181 _ _) slices_S512x1024_o0_0_S512x128 _ _ x, trivial⟩
  case h13 =>
    frame_open
    refine ⟨fun x => Mix.split_piece 7 896 (by decide) rfl (k0_pay190 _ _ _) slices_S512x1024_o0_896_S512x128 _ _ x, fun x => Mix.split_piece 6 768 (by decide) rfl (k0_pay190 _ _ _) slices_S512x1024_o0_768_S512x128 _ _ x, fun x => Mix.split_piece 5 640 (by decide) rfl (k0_pay190 _ _ _) slices_S512x1024_o0_640_S512x128 _ _ x,
      fun x => Mix.split_piece 4 512 (by decide) rfl (k0_pay190 _ _ _) slices_S512x1024_o0_512_S512x128 _ _ x, fun x => Mix.split_piece 3 384 (by decide) rfl (k0_pay190 _ _ _) slices_S512x1024_o0_384_S512x128 _ _ x, fun x => Mix.split_piece 2 256 (by decide) rfl (k0_pay190 _ _ _) slices_S512x1024_o0_256_S512x128 _ _ x,
      fun x => Mix.split_piece 1 128 (by decide) rfl (k0_pay190 _ _ _) slices_S512x1024_o0_128_S512x128 _ _ x, fun x => Mix.split_piece 0 0 (by decide) rfl (k0_pay190 _ _ _) slices_S512x1024_o0_0_S512x128 _ _ x, trivial⟩
  case hN =>
    intro p e
    exact (norm_apply _ _ _ p e).trans (congrArg (fun g => Proj.rms _ g e) (funext fun e => Mix.read_whole 1 1024 (inG m c t) _ (hs0_11 t) _ _))
  case hX =>
    intro p e
    refine congrArg₂ (fun a b : EReal => a + b) ((rows_apply _ _).trans (Mix.read_whole 512 1024 (inX m c t) _ (hs0_0 t) _ _)) ((product_apply _ _ _ _ _ _ _ _ _ _ p e).trans (Finset.sum_congr rfl fun k _ => ?_))
    refine congrArg₂ (fun a b : EReal => a * b) (congrArg₂ (fun a b : EReal => a + b) (Mix.read_whole 512 1024 (inPa m c t) _ (hs0_1 t) _ _)
      (congrArg₂ (fun a b : EReal => a * b) (Finset.sum_congr rfl fun l _ => congrArg₂ (fun a b : EReal => a * b) ?_ (Mix.read_whole 512 1024 (inWb m c t) _ (hs0_9 t) _ _))
        (Mix.read_whole 512 1024 (inGate m c t) _ (hs0_2 t) _ _))) (Mix.read_whole 1024 1024 (inWo m c t) _ (hs0_10 t) _ _)
    have o1 : (k0_pay3 (View.readAt (Elt Ideal) (ms0_3 t).view (Rect.unit ![0, 0] S512x512.size inb_S512x512_S512x512_0_0).toLoadRect ((hs0_3 t).unread (iblk m c 3 t))) : FVec Ideal S512x512 .f32) (ix2 p l) = iblk m c 3 t (ix2 p l) :=
      (Mix.widened _ bitsLt_bf16_f32 _).trans ((congrFun (shapeCast_self _ _) _).trans (Mix.read_whole 512 512 (iblk m c 3 t) _ (hs0_3 t) _ _))
    have l1 : (k0_pay4 (View.readAt (Elt Ideal) (ms0_6 t).view (Rect.unit ![0, 0] S512x512.size inb_S512x512_S512x512_0_0).toLoadRect ((hs0_6 t).unread (iblk m c 6 t))) : FVec Ideal S512x512 .f32) (ix2 p l) = iblk m c 6 t (ix2 p l) :=
      (congrFun (shapeCast_self _ _) _).trans (Mix.read_whole 512 512 (iblk m c 6 t) _ (hs0_6 t) _ _)
    unfold mixed
    congr 1
    · refine Mix.in_order _ _ 4 128 2048 (by decide) rfl (iblk m c 7 t) (View.PiecesOf.mem ?_) ?_ _ _ _ _ _ concatenates_S512x128_S512x128_S512x128_S512x128_S512x512_d1 p l
      · iterate 16
          refine ⟨fun x => Mix.log_piece (d := 4) (M := 128) (W := 2048) (B := iblk m c 7 t) (mr := ms0_7 t) (hw := hs0_7 t) (h1 := shapeCasts_S128x128_S128x128) (h2 := shapeCasts_S128x128_S1x128x128) (hj := by decide) (hr := by decide) (ho := by decide) (hn := rfl) (hW := rfl) (up := Mix.raise128 _) (x := x) .., ?_⟩
        exact trivial
      · sl_kernel_rfl
    · refine Mix.in_order _ _ 16 32 8192 (by decide) rfl (iblk m c 8 t) (View.PiecesOf.mem ?_) ?_ _ _ _ _ _ concatenates_S512x128_S512x128_S512x128_S512x128_S512x512_d1 p l
      · iterate 64
          refine ⟨fun x => Mix.log_piece (d := 16) (M := 32) (W := 8192) (B := iblk m c 8 t) (mr := ms0_8 t) (hw := hs0_8 t) (h1 := shapeCasts_S32x128_S32x128) (h2 := shapeCasts_S32x128_S1x32x128) (hj := by decide) (hr := by decide) (ho := by decide) (hn := rfl) (hW := rfl) (up := Mix.raise32 _) (x := x) .., ?_⟩
        exact trivial
      · sl_kernel_rfl
    · refine Mix.in_order _ _ 4 128 2048 (by decide) rfl (iblk m c 4 t) (View.PiecesOf.mem ?_) ?_ _ _ _ _ _ concatenates_S512x128_S512x128_S512x128_S512x128_S512x512_d1 p l
      · iterate 16
          refine ⟨fun x => Mix.val_piece (hb := bitsLt_bf16_f32) (d := 4) (M := 128) (W := 2048) (B := iblk m c 4 t) (mr := ms0_4 t) (hw := hs0_4 t) (h1 := shapeCasts_S128x128_S128x128) (h2 := shapeCasts_S128x128_S1x128x128) (hj := by decide) (hr := by decide) (ho := by decide) (hn := rfl) (hW := rfl) (up := Mix.raise128 _) (x := x) .., ?_⟩
        exact trivial
      · sl_kernel_rfl
    · refine Mix.in_order _ _ 16 32 8192 (by decide) rfl (iblk m c 5 t) (View.PiecesOf.mem ?_) ?_ _ _ _ _ _ concatenates_S512x128_S512x128_S512x128_S512x128_S512x512_d1 p l
      · iterate 64
          refine ⟨fun x => Mix.val_piece (hb := bitsLt_bf16_f32) (d := 16) (M := 32) (W := 8192) (B := iblk m c 5 t) (mr := ms0_5 t) (hw := hs0_5 t) (h1 := shapeCasts_S32x128_S32x128) (h2 := shapeCasts_S32x128_S1x32x128) (hj := by decide) (hr := by decide) (ho := by decide) (hn := rfl) (hW := rfl) (up := Mix.raise32 _) (x := x) .., ?_⟩
        exact trivial
      · sl_kernel_rfl

end Array

end Cert.KernelMergeIdeal.Whole

end
-- ==== Proof.KMergeOut.lean ====
/- The merge's two results, as the kernel leaves them. -/
module

public import proofs.«01_k».proof.Proof.KMerge

@[expose] public section

set_option maxRecDepth 16384

noncomputable section

namespace Cert.KernelMergeIdeal.Whole

open Cert.KernelMergeIdeal Cert.KernelMergeIdeal.Gen Idealize.ShloMosaic

variable (m : (ℓ : Loc nD τ sig) → Buf (Elt Ideal) ℓ)

/-- The merge of the arguments' rows. -/
def rowOf (c : Dev nD) (n : ℕ) (e : Fin 1024) : EReal :=
  Merging.row (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10)) n e

/-- The merge of the arguments' rows, normalized. -/
def normedOf (c : Dev nD) (n : ℕ) (e : Fin 1024) : EReal :=
  Merging.normed (m (c.tc.loc main_arg0)) (m (c.tc.loc main_arg1)) (m (c.tc.loc main_arg2)) (m (c.tc.loc main_arg3)) (m (c.tc.loc main_arg4)) (m (c.tc.loc main_arg5))
    (m (c.tc.loc main_arg6)) (m (c.tc.loc main_arg7)) (m (c.tc.loc main_arg8)) (m (c.tc.loc main_arg9)) (m (c.tc.loc main_arg10)) (m (c.tc.loc main_arg11)) n e

/-- A block's entry, where both coordinates are in range. -/
theorem at2_at {M W : ℕ} [NeZero M] [NeZero W] {φ : FTy} (B : FVec Ideal ⟨2, ![M, W]⟩ φ) (r l : ℕ) (hr : r < M) (hl : l < W) : Mix.at2 B r l = B (ix2 ⟨r, hr⟩ ⟨l, hl⟩) :=
  congrArg₂ (fun a b => B (ix2 a b)) (Fin.ext (Nat.mod_eq_of_lt hr)) (Fin.ext (Nat.mod_eq_of_lt hl))

/-- The mixed values of a block's row and lane are those of its token. -/
theorem mixed_eq (c : Dev nD) (t : Fin cfg0.N) (p l : Fin 512) (n : ℕ) (hn : t.val * 512 + p.val = n) :
    mixed m c t p l = Merging.mix (Merging.log (m (c.tc.loc main_arg6)) n l.val) (Merging.log (m (c.tc.loc main_arg7)) n l.val) (Merging.log (m (c.tc.loc main_arg8)) n l.val)
      (Merging.val (m (c.tc.loc main_arg3)) n l.val) (Merging.val (m (c.tc.loc main_arg4)) n l.val) (Merging.val (m (c.tc.loc main_arg5)) n l.val) := by
  subst hn
  have hp : p.val < 512 := p.isLt
  have hl : l.val < 512 := l.isLt
  have w1 : 1 * (t.val * 512 + p.val) + l.val / 512 = t.val * 512 + p.val := by omega
  have w2 : l.val % 512 = l.val := by omega
  have w3 : 4 * (t.val * 128 + p.val / 4) + (512 * (p.val % 4) + l.val) / 512 = t.val * 512 + p.val := by omega
  have w4 : (512 * (p.val % 4) + l.val) % 512 = l.val := by omega
  have w5 : 16 * (t.val * 32 + p.val / 16) + (512 * (p.val % 16) + l.val) / 512 = t.val * 512 + p.val := by omega
  have w6 : (512 * (p.val % 16) + l.val) % 512 = l.val := by omega
  have e6 : iblk m c 6 t (ix2 p l) = Merging.log (m (c.tc.loc main_arg6)) (t.val * 512 + p.val) l.val := (read6 m c t _).trans (congrArg₂ (Merging.log _) w1 w2)
  have e3 : iblk m c 3 t (ix2 p l) = Merging.val (m (c.tc.loc main_arg3)) (t.val * 512 + p.val) l.val := (read3 m c t _).trans (congrArg₂ (Merging.val _) w1 w2)
  have e7 : Mix.at2 (M := 128) (W := 2048) (iblk m c 7 t) (p.val / 4) (512 * (p.val % 4) + l.val) = Merging.log (m (c.tc.loc main_arg7)) (t.val * 512 + p.val) l.val :=
    (at2_at (φ := .f32) _ _ _ (by omega) (by omega)).trans ((read7 m c t _).trans (congrArg₂ (Merging.log _) w3 w4))
  have e4 : Mix.at2 (M := 128) (W := 2048) (iblk m c 4 t) (p.val / 4) (512 * (p.val % 4) + l.val) = Merging.val (m (c.tc.loc main_arg4)) (t.val * 512 + p.val) l.val :=
    (at2_at (φ := .bf16) _ _ _ (by omega) (by omega)).trans ((read4 m c t _).trans (congrArg₂ (Merging.val _) w3 w4))
  have e8 : Mix.at2 (M := 32) (W := 8192) (iblk m c 8 t) (p.val / 16) (512 * (p.val % 16) + l.val) = Merging.log (m (c.tc.loc main_arg8)) (t.val * 512 + p.val) l.val :=
    (at2_at (φ := .f32) _ _ _ (by omega) (by omega)).trans ((read8 m c t _).trans (congrArg₂ (Merging.log _) w5 w6))
  have e5 : Mix.at2 (M := 32) (W := 8192) (iblk m c 5 t) (p.val / 16) (512 * (p.val % 16) + l.val) = Merging.val (m (c.tc.loc main_arg5)) (t.val * 512 + p.val) l.val :=
    (at2_at (φ := .bf16) _ _ _ (by omega) (by omega)).trans ((read5 m c t _).trans (congrArg₂ (Merging.val _) w5 w6))
  unfold mixed
  rw [e3, e4, e5, e6, e7, e8]

/-- What a point leaves in both output blocks. -/
theorem leaves (c : Dev nD) (t : Fin cfg0.N) :
    (∀ y : S4096x128.Idx, (outsAt0 m c t).1 y = Merging.lanes (rowOf m c) (t.val * 4096 + (y 0).val) (y 1).val)
    ∧ ∀ y : S4096x128.Idx, (outsAt0 m c t).2 y = Merging.lanes (normedOf m c) (t.val * 4096 + (y 0).val) (y 1).val := by
  obtain ⟨X, N, hX, hN, eN, eX⟩ := left m c t
  have rX : ∀ p e, X (ix2 p e) = rowOf m c (t.val * 512 + p.val) e := fun p e => by
    refine (eX p e).trans ?_
    unfold rowOf Merging.row
    refine congrArg₂ (fun a b : EReal => a + b) (read0 m c t _) (Finset.sum_congr rfl fun k _ => ?_)
    refine congrArg₂ (fun a b : EReal => a * b) (congrArg₂ (fun a b : EReal => a + b) (read1 m c t _) (congrArg₂ (fun a b : EReal => a * b)
      (Finset.sum_congr rfl fun l _ => congrArg₂ (fun a b : EReal => a * b) (mixed_eq m c t p l _ rfl) (read9 m c t _)) (read2 m c t _))) (read10 m c t _)
  have rN : ∀ p e, N (ix2 p e) = normedOf m c (t.val * 512 + p.val) e := fun p e => by
    refine (eN p e).trans ?_
    unfold normedOf Merging.normed
    exact congrArg₂ (fun a b => Proj.rms a b e) (funext fun e => rX p e) (funext fun e => read11 m c t _)
  have place : ∀ (f : ℕ → Fin 1024 → EReal) (Y : FVec Ideal S512x1024 .f32), (∀ p e, Y (ix2 p e) = f (t.val * 512 + p.val) e) →
      ∀ y : S4096x128.Idx, Mix.split Y y = Merging.lanes f (t.val * 4096 + (y 0).val) (y 1).val := fun f Y hY y => by
    have h0 : (y 0).val < 4096 := (y 0).isLt
    have h1 : (y 1).val < 128 := (y 1).isLt
    refine (at2_at _ _ _ (by omega) (by omega)).trans ((hY _ _).trans ?_)
    exact congrArg₂ f (by dsimp only; omega) (Fin.ext (by dsimp only; omega))
  exact ⟨fun y => (hX y).trans (place _ X rX y), fun y => (hN y).trans (place _ N rN y)⟩

theorem leaves12 (c : Dev nD) (t : Fin cfg0.N) : (dats m 0 c).after 12 t = fun y : S4096x128.Idx => Merging.lanes (rowOf m c) (t.val * 4096 + (y 0).val) (y 1).val := by
  rw [after0_12]
  exact funext fun y => (leaves m c t).1 y

theorem leaves13 (c : Dev nD) (t : Fin cfg0.N) : (dats m 0 c).after 13 t = fun y : S4096x128.Idx => Merging.lanes (normedOf m c) (t.val * 4096 + (y 0).val) (y 1).val := by
  rw [after0_13]
  exact funext fun y => (leaves m c t).2 y

/-- The first result in full. -/
theorem final12 (c : Dev nD) : (dats m 0 c).arrAt 12 cfg0.N = fun j : S262144x128.Idx => Merging.lanes (rowOf m c) (j 0).val (j 1).val := by
  refine (dats m 0 c).arrAt_eq_of_covers 12 _ (by decide +kernel) fun t hf y => ?_
  rw [leaves12]
  exact congrArg₂ (Merging.lanes (rowOf m c)) (by blk_simp [idx t]) (by blk_simp [idx t])

/-- The second result in full. -/
theorem final13 (c : Dev nD) : (dats m 0 c).arrAt 13 cfg0.N = fun j : S262144x128.Idx => Merging.lanes (normedOf m c) (j 0).val (j 1).val := by
  refine (dats m 0 c).arrAt_eq_of_covers 13 _ (by decide +kernel) fun t hf y => ?_
  rw [leaves13]
  exact congrArg₂ (Merging.lanes (normedOf m c)) (by blk_simp [idx t]) (by blk_simp [idx t])

end Cert.KernelMergeIdeal.Whole

end
-- ==== Proof.RMerge.lean ====
/- The merge as the reference computes it. -/
module

public import proofs.«01_k».proof.Proof.Merging
public import proofs.«01_k».proof.Proof.Gen.ReferenceMergeIdeal.Read
public import Idealize.ShloMosaic.Lib.Pointwise

@[expose] public section

set_option maxRecDepth 16384

noncomputable section

namespace Cert.ReferenceMergeIdeal.Whole

open Cert.ReferenceMergeIdeal Cert.ReferenceMergeIdeal.Gen Cert.ReferenceMergeIdeal.Read Idealize.ShloMosaic

variable (x0 x1 x2 : FVec Ideal Proj.TX .f32) (x3 x4 x5 : FVec Ideal Merging.TO .f32) (x6 x7 x8 : FVec Ideal Merging.TL .f32) (x9 : FVec Ideal Merging.TB .f32) (x10 : FVec Ideal Merging.TW .f32) (x11 : FVec Ideal Proj.TG .f32)

theorem bits_zero : Ideal.ofBits .f32 0x00000000#32 = 0 := by
  simp [Ideal.ofBits, Ideal.ieee]

section Soft

variable (b : Fin 4) (s : Fin 8192) (h : Fin 8)

/-- The three logarithms of a head, in order. -/
theorem logs (g : Fin 3) : val_main_v3 (F := Ideal) x6 x7 x8 (ix4 g b s h) = ![x6 (ix3 b s h), x7 (ix3 b s h), x8 (ix3 b s h)] g := by
  fin_cases g <;> pointwise [val_main_v3, val_main_v0, val_main_v1, val_main_v2] <;> rfl

/-- The three values of a lane, in order. -/
theorem vals (e : Fin 64) (g : Fin 3) : val_main_v18 (F := Ideal) x3 x4 x5 (ix5 g b s h e) = ![x3 (ix4 b s h e), x4 (ix4 b s h e), x5 (ix4 b s h e)] g := by
  fin_cases g <;> pointwise [val_main_v18, val_main_v15, val_main_v16, val_main_v17] <;> rfl

theorem most_of (a : FVec Ideal S3x4x8192x8 .f32) :
    Host.reduce FloatOps.maximumf a (constant S_ .f32 0xFF800000#32) reducesTo_S3x4x8192x8_S4x8192x8_d0 h_S_ (ix3 b s h) = Band.top fun g : Fin 3 => a (ix4 g b s h) := by
  have hr : S3x4x8192x8.Reduces [0] S4x8192x8 := by decide
  refine (Host.reduce_eq_fold_single (FloatOps.maximumf (F := Ideal) (φ := .f32)) a _ reducesTo_S3x4x8192x8_S4x8192x8_d0 hr h_S_ (ix3 b s h)).trans ?_
  have e : (a ∘ hr.lift (ix3 b s h)) = fun g : Fin 3 => a (ix4 g b s h) := by
    funext g
    refine congrArg a ?_
    funext i
    fin_cases i <;> rfl
  rw [e]
  show Finset.fold _ (Ideal.ofBits .f32 0xFF800000#32) _ _ = _
  rw [Head.bits_neg_inf]
  rfl

/-- The largest logarithm. -/
theorem most : val_main_v6 (F := Ideal) x6 x7 x8 (ix3 b s h) = Band.top ![x6 (ix3 b s h), x7 (ix3 b s h), x8 (ix3 b s h)] := by
  rw [val_main_v6_apply, val_main_v5_apply, val_main_cst_0_apply]
  unfold val_main_v4 val_main_cst
  rw [most_of, funext (logs x6 x7 x8 b s h)]
  show max (Ideal.ofBits .f32 0xFF800000#32) _ = _
  rw [Head.bits_neg_inf]
  exact bot_sup_eq _

/-- The weight of one of the three. -/
theorem weight (g : Fin 3) : val_main_v10 (F := Ideal) x6 x7 x8 (ix4 g b s h)
    = Ideal.exp (![x6 (ix3 b s h), x7 (ix3 b s h), x8 (ix3 b s h)] g - Band.top ![x6 (ix3 b s h), x7 (ix3 b s h), x8 (ix3 b s h)]) := by
  pointwise [val_main_v10, val_main_v9, val_main_v8, val_main_v7]
  rw [logs, most]

/-- The softmax of the three. -/
theorem soft (g : Fin 3) : val_main_v14 (F := Ideal) x6 x7 x8 (ix4 g b s h) = Merging.soft ![x6 (ix3 b s h), x7 (ix3 b s h), x8 (ix3 b s h)] g := by
  pointwise [val_main_v14, val_main_v13, val_main_v12, val_main_v11]
  rw [show val_main_cst_1 (F := Ideal) (Shape.Idx.first h_S_) = Ideal.ofBits .f32 0x00000000#32 from rfl, bits_zero, zero_add]
  unfold Merging.soft
  rw [weight]
  exact congrArg (Ideal.div _) (Finset.sum_congr rfl fun c _ => weight _ _ _ _ _ _ c)

/-- The weighted sum of the three. -/
theorem merged (e : Fin 64) : val_main_v19 (F := Ideal) x3 x4 x5 x6 x7 x8 (ix4 b s h e)
    = ∑ g, Merging.soft ![x6 (ix3 b s h), x7 (ix3 b s h), x8 (ix3 b s h)] g * (![x3 (ix4 b s h e), x4 (ix4 b s h e), x5 (ix4 b s h e)] : Fin 3 → EReal) g := by
  pointwise [val_main_v19]
  exact Finset.sum_congr rfl fun g _ => congrArg₂ (fun a b : EReal => a * b) (soft _ _ _ _ _ _ g) (vals _ _ _ _ _ _ _ g)

end Soft

/-- The merged values of a token's lane. -/
theorem lane (r6 : ∀ i, ∃ r : ℝ, x6 i = (r : EReal)) (r7 : ∀ i, ∃ r : ℝ, x7 i = (r : EReal)) (r8 : ∀ i, ∃ r : ℝ, x8 i = (r : EReal))
    (b : Fin 4) (s : Fin 8192) (h : Fin 8) (e : Fin 64) (n l : ℕ) (hn : 8192 * b.val + s.val = n) (hl : 64 * h.val + e.val = l) :
    val_main_v19 (F := Ideal) x3 x4 x5 x6 x7 x8 (ix4 b s h e)
      = Merging.mix (Merging.log x6 n l) (Merging.log x7 n l) (Merging.log x8 n l) (Merging.val x3 n l) (Merging.val x4 n l) (Merging.val x5 n l) := by
  rw [merged, ← Merging.mix_eq _ _ _ (r6 _) (r7 _) (r8 _), Merging.at_log x6 b s h n l hn (by omega), Merging.at_log x7 b s h n l hn (by omega), Merging.at_log x8 b s h n l hn (by omega),
    Merging.at_val x3 b s h e n l hn hl, Merging.at_val x4 b s h e n l hn hl, Merging.at_val x5 b s h e n l hn hl]

/-- The merged values, the heads one after the other. -/
theorem flat (r6 : ∀ i, ∃ r : ℝ, x6 i = (r : EReal)) (r7 : ∀ i, ∃ r : ℝ, x7 i = (r : EReal)) (r8 : ∀ i, ∃ r : ℝ, x8 i = (r : EReal))
    (b : Fin 4) (s : Fin 8192) (l : Fin 512) (n : ℕ) (hn : 8192 * b.val + s.val = n) :
    val_main_v20 (F := Ideal) x3 x4 x5 x6 x7 x8 (ix3 b s l)
      = Merging.mix (Merging.log x6 n l.val) (Merging.log x7 n l.val) (Merging.log x8 n l.val) (Merging.val x3 n l.val) (Merging.val x4 n l.val) (Merging.val x5 n l.val) := by
  subst hn
  pointwise [val_main_v20]
  exact lane _ _ _ _ _ _ r6 r7 r8 _ _ _ _ _ _ (by dsimp only <;> omega) (by dsimp only <;> omega)

/-- The rows before the normalization. -/
theorem rows (r6 : ∀ i, ∃ r : ℝ, x6 i = (r : EReal)) (r7 : ∀ i, ∃ r : ℝ, x7 i = (r : EReal)) (r8 : ∀ i, ∃ r : ℝ, x8 i = (r : EReal))
    (b : Fin 4) (s : Fin 8192) (e : Fin 1024) (n : ℕ) (hn : 8192 * b.val + s.val = n) :
    val_main_v25 (F := Ideal) x0 x1 x2 x3 x4 x5 x6 x7 x8 x9 x10 (ix3 b s e) = Merging.row x0 x1 x2 x3 x4 x5 x6 x7 x8 x9 x10 n e := by
  pointwise [val_main_v25, val_main_v24, val_main_v23, val_main_v22, val_main_v21]
  unfold Merging.row
  rw [Merging.at_tok x0 b.val s.val b.isLt s.isLt e n hn]
  refine congrArg₂ (fun a b : EReal => a + b) rfl (Finset.sum_congr rfl fun k _ => ?_)
  rw [Merging.at_tok x1 b.val s.val b.isLt s.isLt k n hn, Merging.at_tok x2 b.val s.val b.isLt s.isLt k n hn, mul_comm (Proj.tok x2 n k)]
  exact congrArg (fun a : EReal => (Proj.tok x1 n k + a * Proj.tok x2 n k) * x10 (ix2 k e))
    (Finset.sum_congr rfl fun l _ => congrArg (fun a : EReal => a * x9 (ix2 l k)) (flat _ _ _ _ _ _ r6 r7 r8 b s l n hn))

/-- The sum of a row's squares. -/
theorem squares (r6 : ∀ i, ∃ r : ℝ, x6 i = (r : EReal)) (r7 : ∀ i, ∃ r : ℝ, x7 i = (r : EReal)) (r8 : ∀ i, ∃ r : ℝ, x8 i = (r : EReal))
    (b : Fin 4) (s : Fin 8192) (n : ℕ) (hn : 8192 * b.val + s.val = n) :
    val_main_v28 (F := Ideal) x0 x1 x2 x3 x4 x5 x6 x7 x8 x9 x10 (ix2 b s) = ∑ i, Merging.row x0 x1 x2 x3 x4 x5 x6 x7 x8 x9 x10 n i * Merging.row x0 x1 x2 x3 x4 x5 x6 x7 x8 x9 x10 n i := by
  pointwise [val_main_v28, val_main_v27]
  rw [show val_main_cst_2 (F := Ideal) (Shape.Idx.first h_S_) = Ideal.ofBits .f32 0x00000000#32 from rfl, bits_zero, zero_add]
  exact Finset.sum_congr rfl fun e _ => by rw [rows _ _ _ _ _ _ _ _ _ _ _ r6 r7 r8 b s e n hn]

/-- The normalized rows. -/
theorem norm (r6 : ∀ i, ∃ r : ℝ, x6 i = (r : EReal)) (r7 : ∀ i, ∃ r : ℝ, x7 i = (r : EReal)) (r8 : ∀ i, ∃ r : ℝ, x8 i = (r : EReal))
    (b : Fin 4) (s : Fin 8192) (e : Fin 1024) (n : ℕ) (hn : 8192 * b.val + s.val = n) :
    val_main_v39 (F := Ideal) x0 x1 x2 x3 x4 x5 x6 x7 x8 x9 x10 x11 (ix3 b s e) = Merging.normed x0 x1 x2 x3 x4 x5 x6 x7 x8 x9 x10 x11 n e := by
  pointwise [val_main_v39, val_main_v38, val_main_v37, val_main_v36, val_main_v35, val_main_v34, val_main_v33, val_main_v32, val_main_v31, val_main_v30, val_main_v29]
  rw [squares _ _ _ _ _ _ _ _ _ _ _ r6 r7 r8 b s n hn, rows _ _ _ _ _ _ _ _ _ _ _ r6 r7 r8 b s e n hn]
  rw [show val_main_cst_3 (F := Ideal) ix0 = Ideal.ofBits .f32 0x44800000#32 from rfl, show val_main_cst_4 (F := Ideal) ix0 = Ideal.ofBits .f32 0x358637BD#32 from rfl]
  rfl

/-- The first result. -/
theorem final26 (r6 : ∀ i, ∃ r : ℝ, x6 i = (r : EReal)) (r7 : ∀ i, ∃ r : ℝ, x7 i = (r : EReal)) (r8 : ∀ i, ∃ r : ℝ, x8 i = (r : EReal)) (j : S262144x128.Idx) :
    val_main_v26 (F := Ideal) x0 x1 x2 x3 x4 x5 x6 x7 x8 x9 x10 j = Merging.lanes (Merging.row x0 x1 x2 x3 x4 x5 x6 x7 x8 x9 x10) (j 0).val (j 1).val := by
  obtain ⟨r, l, rfl⟩ : ∃ (r : Fin 262144) (l : Fin 128), j = ix2 r l := ⟨j 0, j 1, eq_ix2 j⟩
  pointwise [val_main_v26]
  rw [rows _ _ _ _ _ _ _ _ _ _ _ r6 r7 r8 _ _ _ (r.val / 8) (by dsimp only; omega)]
  exact congrArg (Merging.row x0 x1 x2 x3 x4 x5 x6 x7 x8 x9 x10 (r.val / 8)) (Fin.ext (by dsimp only; omega))

/-- The second result. -/
theorem final40 (r6 : ∀ i, ∃ r : ℝ, x6 i = (r : EReal)) (r7 : ∀ i, ∃ r : ℝ, x7 i = (r : EReal)) (r8 : ∀ i, ∃ r : ℝ, x8 i = (r : EReal)) (j : S262144x128.Idx) :
    val_main_v40 (F := Ideal) x0 x1 x2 x3 x4 x5 x6 x7 x8 x9 x10 x11 j = Merging.lanes (Merging.normed x0 x1 x2 x3 x4 x5 x6 x7 x8 x9 x10 x11) (j 0).val (j 1).val := by
  obtain ⟨r, l, rfl⟩ : ∃ (r : Fin 262144) (l : Fin 128), j = ix2 r l := ⟨j 0, j 1, eq_ix2 j⟩
  pointwise [val_main_v40]
  rw [norm _ _ _ _ _ _ _ _ _ _ _ _ r6 r7 r8 _ _ _ (r.val / 8) (by dsimp only; omega)]
  exact congrArg (Merging.normed x0 x1 x2 x3 x4 x5 x6 x7 x8 x9 x10 x11 (r.val / 8)) (Fin.ext (by dsimp only; omega))

end Cert.ReferenceMergeIdeal.Whole

end
-- ==== Proof.CMerge.lean ====
/- The claims of the merge. -/
module

public import proofs.«01_k».proof.Defs
public import proofs.«01_k».proof.Proof.KMergeOut
public import proofs.«01_k».proof.Proof.RMerge
public import proofs.«01_k».proof.Proof.Gen.KernelMerge
public import proofs.«01_k».proof.Proof.Gen.ReferenceMergeIdeal.Run
public import Idealize.ShloMosaic.Adequacy
public import Idealize.ShloMosaic.Lib.Tactic

@[expose] public section

set_option maxRecDepth 16384

noncomputable section

namespace Cert.Proof.Merge

open Idealize.ShloMosaic Idealize.SL.Sem

/-- The kernel's text is its idealization's. -/
theorem same : Cert.KernelMerge.defs (F := Bits) = Cert.KernelMergeIdeal.defs (F := Bits) := by sl_kernel_rfl

set_option maxHeartbeats 4000000 in
/-- The kernel runs, keeps its arguments and leaves every semaphore at zero. -/
theorem frame_p : Cert.quiescent_KernelMerge := fun m ρ _ => by
  rw [same]
  exact (θ_run Cert.KernelMergeIdeal.defs _ _).mono (fun _ h => h) (Cert.KernelMergeIdeal.Gen.frame (F := Bits) m ρ)

/-- So does its idealization. -/
theorem frame_pi : Cert.quiescent_KernelMergeIdeal := fun m ρ _ => Cert.KernelMergeIdeal.Gen.frame m ρ
theorem frame_pi_finite : Cert.quiescent_KernelMergeIdeal_pre_finite_logs := fun m ρ _ => Cert.KernelMergeIdeal.Gen.frame m ρ

/-- So does the reference. -/
theorem frame_ri : Cert.quiescent_ReferenceMergeIdeal := fun m ρ _ =>
  (θ_run Cert.ReferenceMergeIdeal.defs _ _).mono (fun r h => ⟨fun c => (h c).2.2,
      Idealize.ShloMosaic.sem_eq_zero_of_no_sems (by decide) r.2⟩)
    (Cert.ReferenceMergeIdeal.Value.run (F := Ideal) m ρ)
theorem frame_ri_finite : Cert.quiescent_ReferenceMergeIdeal_pre_finite_logs := fun m ρ _ => frame_ri m ρ trivial

/-- The idealization changes nothing. -/
theorem preserves : Cert.preserves_KernelMerge_KernelMergeIdeal := trivial

set_option maxHeartbeats 4000000 in
/-- Of equal arguments with finite logarithms, kernel and reference end with the same two results. -/
theorem algebraic : Cert.algebraic_KernelMergeIdeal_ReferenceMergeIdeal_pre_finite_logs := by
  intro m ρ m' ρ' hpre hagree
  refine ⟨fun c j => Merging.lanes (Cert.KernelMergeIdeal.Whole.rowOf m c) (j 0).val (j 1).val,
    fun c j => Merging.lanes (Cert.KernelMergeIdeal.Whole.normedOf m c) (j 0).val (j 1).val, ?_, ?_⟩
  · exact (θ_run Cert.KernelMergeIdeal.defs _ _).mono (fun _ h c => ⟨(h c).1.trans (Cert.KernelMergeIdeal.Whole.final12 m c), (h c).2.1.trans (Cert.KernelMergeIdeal.Whole.final13 m c), (h c).2.2⟩)
      (Cert.KernelMergeIdeal.Whole.run_blocks m ρ)
  · refine (θ_run Cert.ReferenceMergeIdeal.defs _ _).mono (fun _ h c => ⟨(h c).1.trans ?_, (h c).2.1.trans ?_, (h c).2.2⟩)
      (Cert.ReferenceMergeIdeal.Value.run (F := Ideal) m' ρ')
    all_goals obtain ⟨a0, a1, a2, a3, a4, a5, a6, a7, a8, a9, a10, a11⟩ := hagree c
    · rw [Cert.ReferenceMergeIdeal.Read.val_main_v26_eq, a0, a1, a2, a3, a4, a5, a6, a7, a8, a9, a10]
      exact funext fun j => Cert.ReferenceMergeIdeal.Whole.final26 _ _ _ _ _ _ _ _ _ _ _ (Merging.real_at _ _ (fun _ => Finite.bits_inf) (hpre c).1)
        (Merging.real_at _ _ (fun _ => Finite.bits_inf) (hpre c).2.1) (Merging.real_at _ _ (fun _ => Finite.bits_inf) (hpre c).2.2) j
    · rw [Cert.ReferenceMergeIdeal.Read.val_main_v40_eq, a0, a1, a2, a3, a4, a5, a6, a7, a8, a9, a10, a11]
      exact funext fun j => Cert.ReferenceMergeIdeal.Whole.final40 _ _ _ _ _ _ _ _ _ _ _ _ (Merging.real_at _ _ (fun _ => Finite.bits_inf) (hpre c).1)
        (Merging.real_at _ _ (fun _ => Finite.bits_inf) (hpre c).2.1) (Merging.real_at _ _ (fun _ => Finite.bits_inf) (hpre c).2.2) j

end Cert.Proof.Merge

end
-- ==== Proof.lean ====
/- The claims of the three attention patterns, of the input projection, of the spatial gating and of the merge, put together. -/
module

public import proofs.«01_k».proof.Defs
public import proofs.«01_k».proof.Proof.Gen.KernelMid
public import proofs.«01_k».proof.Proof.Gen.KernelMid.Skeleton
public import proofs.«01_k».proof.Proof.Gen.KernelMid.Launch
public import proofs.«01_k».proof.Proof.Gen.KernelMid.Points
public import proofs.«01_k».proof.Proof.Gen.KernelMid.Frame
public import proofs.«01_k».proof.Proof.Gen.KernelMidIdeal
public import proofs.«01_k».proof.Proof.Gen.KernelMidIdeal.Skeleton
public import proofs.«01_k».proof.Proof.Gen.KernelMidIdeal.Launch
public import proofs.«01_k».proof.Proof.Gen.KernelMidIdeal.Points
public import proofs.«01_k».proof.Proof.Gen.KernelMidIdeal.Frame
public import proofs.«01_k».proof.Proof.Gen.ReferenceMidIdeal
public import proofs.«01_k».proof.Proof.Gen.KernelNear
public import proofs.«01_k».proof.Proof.Gen.KernelNear.Skeleton
public import proofs.«01_k».proof.Proof.Gen.KernelNear.Launch
public import proofs.«01_k».proof.Proof.Gen.KernelNear.Points
public import proofs.«01_k».proof.Proof.Gen.KernelNear.Frame
public import proofs.«01_k».proof.Proof.Gen.KernelNearIdeal
public import proofs.«01_k».proof.Proof.Gen.KernelNearIdeal.Skeleton
public import proofs.«01_k».proof.Proof.Gen.KernelNearIdeal.Launch
public import proofs.«01_k».proof.Proof.Gen.KernelNearIdeal.Points
public import proofs.«01_k».proof.Proof.Gen.KernelNearIdeal.Frame
public import proofs.«01_k».proof.Proof.Gen.ReferenceNearIdeal
public import proofs.«01_k».proof.Proof.Gen.KernelFar
public import proofs.«01_k».proof.Proof.Gen.KernelFar.Skeleton
public import proofs.«01_k».proof.Proof.Gen.KernelFar.Launch
public import proofs.«01_k».proof.Proof.Gen.KernelFar.Points
public import proofs.«01_k».proof.Proof.Gen.KernelFar.Frame
public import proofs.«01_k».proof.Proof.Gen.KernelFarIdeal
public import proofs.«01_k».proof.Proof.Gen.KernelFarIdeal.Skeleton
public import proofs.«01_k».proof.Proof.Gen.KernelFarIdeal.Launch
public import proofs.«01_k».proof.Proof.Gen.KernelFarIdeal.Points
public import proofs.«01_k».proof.Proof.Gen.KernelFarIdeal.Frame
public import proofs.«01_k».proof.Proof.Gen.ReferenceFarIdeal
public import proofs.«01_k».proof.Proof.Gen.Pre_finite
public import proofs.«01_k».proof.Proof.Gen.KernelNearIdeal.Value
public import proofs.«01_k».proof.Proof.Gen.ReferenceNearIdeal.Run
public import proofs.«01_k».proof.Proof.Gen.ReferenceNearIdeal.Read
public import proofs.«01_k».proof.Proof.Gen.KernelMidIdeal.Value
public import proofs.«01_k».proof.Proof.Gen.ReferenceMidIdeal.Run
public import proofs.«01_k».proof.Proof.Gen.ReferenceMidIdeal.Read
public import proofs.«01_k».proof.Proof.Gen.KernelFarIdeal.Value
public import proofs.«01_k».proof.Proof.Gen.ReferenceFarIdeal.Run
public import proofs.«01_k».proof.Proof.Gen.ReferenceFarIdeal.Read
public import proofs.«01_k».proof.Proof.CMid
public import proofs.«01_k».proof.Proof.CNear
public import proofs.«01_k».proof.Proof.CFar
public import proofs.«01_k».proof.Proof.CIn
public import proofs.«01_k».proof.Proof.CSgu
public import proofs.«01_k».proof.Proof.CMerge
public import Idealize.ShloMosaic.Adequacy
public import Idealize.ShloMosaic.Init

@[expose] public section

noncomputable section

namespace Cert.Proof

open Idealize.ShloMosaic Idealize.SL.Sem Cert.KernelMid

theorem claim : Cert.Claim := ⟨Cert.KernelMid.Gen.facts, Cert.KernelMidIdeal.Gen.facts, Cert.ReferenceMidIdeal.Gen.facts, Cert.KernelNear.Gen.facts, Cert.KernelNearIdeal.Gen.facts, Cert.ReferenceNearIdeal.Gen.facts, Cert.KernelFar.Gen.facts, Cert.KernelFarIdeal.Gen.facts, Cert.ReferenceFarIdeal.Gen.facts, Cert.KernelIn.Gen.facts, Cert.KernelInIdeal.Gen.facts, Cert.ReferenceInIdeal.Gen.facts, Cert.KernelSgu.Gen.facts, Cert.KernelSguIdeal.Gen.facts, Cert.ReferenceSguIdeal.Gen.facts, Cert.KernelMerge.Gen.facts, Cert.KernelMergeIdeal.Gen.facts, Cert.ReferenceMergeIdeal.Gen.facts, Cert.Pre_finite.Gen.facts, Cert.Pre_finite_logs.Gen.facts,
  Mid.frame_p, Mid.frame_pi, Mid.frame_pi_finite, Mid.frame_ri, Mid.frame_ri_finite, Near.frame_p, Near.frame_pi, Near.frame_pi_finite, Near.frame_ri, Near.frame_ri_finite, Far.frame_p, Far.frame_pi, Far.frame_pi_finite, Far.frame_ri, Far.frame_ri_finite, In.frame_p, In.frame_pi, In.frame_ri, Sgu.frame_p, Sgu.frame_pi, Sgu.frame_ri, Merge.frame_p, Merge.frame_pi, Merge.frame_pi_finite, Merge.frame_ri, Merge.frame_ri_finite, Mid.preserves, Mid.algebraic, Near.preserves, Near.algebraic, Far.preserves, Far.algebraic, In.preserves, In.algebraic, Sgu.preserves, Sgu.algebraic, Merge.preserves, Merge.algebraic⟩

end Cert.Proof

end
